-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mix [hPre_finite_mix : Cert.Pre_finite_mix.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mix [hPre_finite_mix : Cert.Pre_finite_mix.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Kernel4Ideal_pre_finite_mix [hKernel4Ideal : Cert.Kernel4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mix m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Reference4Ideal_pre_finite_mix [hReference4Ideal : Cert.Reference4Ideal.Facts] [hPre_finite_mix : Cert.Pre_finite_mix.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mix m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.bf16_pair.BufferStatement Cert.Kernel3Ideal.S131072x2x128 Cert.Kernel3Ideal.S131072x1x128
  ∧ IdealRules.bf16_pair.BufferStatement Cert.Kernel3Ideal.S4096x2x128 Cert.Kernel3Ideal.S4096x1x128
  ∧ IdealRules.bf16_pair.Statement Cert.Kernel3Ideal.S256x2x128 Cert.Kernel3Ideal.S256x1x128
  ∧ IdealRules.bf16_pack.Statement Cert.Kernel3Ideal.S256x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v37_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  IdealRules.bf16_pair.BufferStatement Cert.Kernel4Ideal.S131072x2x128 Cert.Kernel4Ideal.S131072x1x128
  ∧ IdealRules.bf16_pair.BufferStatement Cert.Kernel4Ideal.S4096x2x128 Cert.Kernel4Ideal.S4096x1x128
  ∧ IdealRules.bf16_pair.Statement Cert.Kernel4Ideal.S256x2x128 Cert.Kernel4Ideal.S256x1x128
  ∧ IdealRules.bf16_pack.Statement Cert.Kernel4Ideal.S256x128

def algebraic_Kernel4Ideal_Reference4Ideal_pre_finite_mix [hKernel4Ideal : Cert.Kernel4Ideal.Facts] [hReference4Ideal : Cert.Reference4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mix m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v37_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mix (hKernel4Ideal := hKernel4Ideal) (hPre_finite_mix := hPre_finite_mix)
    ∧ quiescent_Reference4Ideal (hReference4Ideal := hReference4Ideal)
    ∧ quiescent_Reference4Ideal_pre_finite_mix (hReference4Ideal := hReference4Ideal) (hPre_finite_mix := hPre_finite_mix)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mix (hKernel4Ideal := hKernel4Ideal) (hReference4Ideal := hReference4Ideal) (hPre_finite_mix := hPre_finite_mix)
-- ==== Pre_finite.lean ====
abbrev S16x2048x1024 : Shape := ⟨3, ![16, 2048, 1024]⟩
abbrev S32x4 : Shape := ⟨2, ![32, 4]⟩
abbrev S1x2x128 : Shape := ⟨3, ![1, 2, 128]⟩
abbrev S1x256 : Shape := ⟨2, ![1, 256]⟩
abbrev S_ : Shape := ⟨0, ![]⟩

class Facts : Prop where
  bcast_S_S16x2048x1024 : S_.BroadcastsInDim S16x2048x1024 (![] : Fin 0 → Fin S16x2048x1024.rank)
  bcast_S_S32x4 : S_.BroadcastsInDim S32x4 (![] : Fin 0 → Fin S32x4.rank)
  bcast_S_S1x2x128 : S_.BroadcastsInDim S1x2x128 (![] : Fin 0 → Fin S1x2x128.rank)

variable [Facts]

def fn {F : FTy → Type} [FloatOps F] (main_arg0 : FVec F S16x2048x1024 .f32) (main_arg1 : FVec F S16x2048x1024 .f32) (main_arg2 : FVec F S16x2048x1024 .f32) (main_arg3 : FVec F S32x4 .f32) (main_arg4 : FVec F S1x2x128 .f32) (main_arg5 : FVec F S1x2x128 .f32) (main_arg6 : FVec F S1x256 .f32) : IVec S16x2048x1024 1 × IVec S16x2048x1024 1 × IVec S16x2048x1024 1 × IVec S32x4 1 × IVec S1x2x128 1 × IVec S1x2x128 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x2048x1024 .f32 := Host.absf main_arg1
  let main_cst_0 : FVec F S_ .f32 := constant S_ .f32 0x7F800000#32
  let main_v4 : FVec F S16x2048x1024 .f32 := broadcastInDim S16x2048x1024 ![] bcast_S_S16x2048x1024 main_cst_0
  let main_v5 : IVec S16x2048x1024 1 := cmpf .olt main_v3 main_v4
  let main_v6 : FVec F S16x2048x1024 .f32 := Host.absf main_arg2
  let main_cst_1 : FVec F S_ .f32 := constant S_ .f32 0x7F800000#32
  let main_v7 : FVec F S16x2048x1024 .f32 := broadcastInDim S16x2048x1024 ![] bcast_S_S16x2048x1024 main_cst_1
  let main_v8 : IVec S16x2048x1024 1 := cmpf .olt main_v6 main_v7
  let main_v9 : FVec F S32x4 .f32 := Host.absf main_arg3
  let main_cst_2 : FVec F S_ .f32 := constant S_ .f32 0x7F800000#32
  let main_v10 : FVec F S32x4 .f32 := broadcastInDim S32x4 ![] bcast_S_S32x4 main_cst_2
  let main_v11 : IVec S32x4 1 := cmpf .olt main_v9 main_v10
  let main_v12 : FVec F S1x2x128 .f32 := Host.absf main_arg4
  let main_cst_3 : FVec F S_ .f32 := constant S_ .f32 0x7F800000#32
  let main_v13 : FVec F S1x2x128 .f32 := broadcastInDim S1x2x128 ![] bcast_S_S1x2x128 main_cst_3
  let main_v14 : IVec S1x2x128 1 := cmpf .olt main_v12 main_v13
  let main_v15 : FVec F S1x2x128 .f32 := Host.absf main_arg5
  let main_cst_4 : FVec F S_ .f32 := constant S_ .f32 0x7F800000#32
  let main_v16 : FVec F S1x2x128 .f32 := broadcastInDim S1x2x128 ![] bcast_S_S1x2x128 main_cst_4
  let main_v17 : IVec S1x2x128 1 := cmpf .olt main_v15 main_v16
  (main_v2, main_v5, main_v8, main_v11, main_v14, main_v17)
-- ==== Pre_finite_mix.lean ====
abbrev S16x2048x1024 : Shape := ⟨3, ![16, 2048, 1024]⟩
abbrev S1x1024x1024 : Shape := ⟨3, ![1, 1024, 1024]⟩
abbrev S1x2x1024 : Shape := ⟨3, ![1, 2, 1024]⟩
abbrev S1x1024 : Shape := ⟨2, ![1, 1024]⟩
abbrev S1x1024x4 : Shape := ⟨3, ![1, 1024, 4]⟩
abbrev S1x4 : Shape := ⟨2, ![1, 4]⟩
abbrev S1x4x1024x8 : Shape := ⟨4, ![1, 4, 1024, 8]⟩
abbrev S1x4x8 : Shape := ⟨3, ![1, 4, 8]⟩
abbrev S_ : Shape := ⟨0, ![]⟩

class Facts : Prop where
  bcast_S_S1x1024 : S_.BroadcastsInDim S1x1024 (![] : Fin 0 → Fin S1x1024.rank)
  bcast_S_S1x1024x4 : S_.BroadcastsInDim S1x1024x4 (![] : Fin 0 → Fin S1x1024x4.rank)
  bcast_S_S1x4x1024x8 : S_.BroadcastsInDim S1x4x1024x8 (![] : Fin 0 → Fin S1x4x1024x8.rank)

variable [Facts]

def fn {F : FTy → Type} [FloatOps F] (main_arg0 : FVec F S16x2048x1024 .f32) (main_arg1 : FVec F S16x2048x1024 .f32) (main_arg2 : FVec F S16x2048x1024 .f32) (main_arg3 : FVec F S16x2048x1024 .f32) (main_arg4 : FVec F S16x2048x1024 .f32) (main_arg5 : FVec F S1x1024x1024 .f32) (main_arg6 : FVec F S1x1024x1024 .f32) (main_arg7 : FVec F S1x1024x1024 .f32) (main_arg8 : FVec F S1x2x1024 .f32) (main_arg9 : FVec F S1x1024 .f32) (main_arg10 : FVec F S1x1024 .f32) (main_arg11 : FVec F S1x1024x4 .f32) (main_arg12 : FVec F S1x4 .f32) (main_arg13 : FVec F S1x4x1024x8 .f32) (main_arg14 : FVec F S1x4x8 .f32) : IVec S1x1024 1 × IVec S1x1024 1 × IVec S1x1024x4 1 × IVec S1x4x1024x8 1 :=
  let main_v0 : FVec F S1x1024 .f32 := Host.absf main_arg9
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024 .f32 := Host.absf main_arg10
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4 .f32 := Host.absf main_arg11
  let main_cst_1 : FVec F S_ .f32 := constant S_ .f32 0x7F800000#32
  let main_v7 : FVec F S1x1024x4 .f32 := broadcastInDim S1x1024x4 ![] bcast_S_S1x1024x4 main_cst_1
  let main_v8 : IVec S1x1024x4 1 := cmpf .olt main_v6 main_v7
  let main_v9 : FVec F S1x4x1024x8 .f32 := Host.absf main_arg13
  let main_cst_2 : FVec F S_ .f32 := constant S_ .f32 0x7F800000#32
  let main_v10 : FVec F S1x4x1024x8 .f32 := broadcastInDim S1x4x1024x8 ![] bcast_S_S1x4x1024x8 main_cst_2
  let main_v11 : IVec S1x4x1024x8 1 := cmpf .olt main_v9 main_v10
  (main_v2, main_v5, main_v8, main_v11)
-- ==== Kernel.lean ====
abbrev S16x2048x1024 : Shape := ⟨3, ![16, 2048, 1024]⟩
abbrev S32x4 : Shape := ⟨2, ![32, 4]⟩
abbrev S1x2x128 : Shape := ⟨3, ![1, 2, 128]⟩
abbrev S1x256 : Shape := ⟨2, ![1, 256]⟩
abbrev S1x512 : Shape := ⟨2, ![1, 512]⟩
abbrev S256x1 : Shape := ⟨2, ![256, 1]⟩
abbrev S768 : Shape := ⟨1, ![768]⟩
abbrev S_ : Shape := ⟨0, ![]⟩
abbrev S32768x1024 : Shape := ⟨2, ![32768, 1024]⟩
abbrev S32768x2048 : Shape := ⟨2, ![32768, 2048]⟩
abbrev S32768x5120 : Shape := ⟨2, ![32768, 5120]⟩
abbrev S1024x32768 : Shape := ⟨2, ![1024, 32768]⟩
abbrev S256x512 : Shape := ⟨2, ![256, 512]⟩
abbrev S1x4 : Shape := ⟨2, ![1, 4]⟩
abbrev S4 : Shape := ⟨1, ![4]⟩
abbrev S4x32 : Shape := ⟨2, ![4, 32]⟩
abbrev S768x1 : Shape := ⟨2, ![768, 1]⟩
abbrev S32 : Shape := ⟨1, ![32]⟩
abbrev S1x32 : Shape := ⟨2, ![1, 32]⟩
abbrev S768x32 : Shape := ⟨2, ![768, 32]⟩
abbrev S1x768x32 : Shape := ⟨3, ![1, 768, 32]⟩
abbrev S4x1x32 : Shape := ⟨3, ![4, 1, 32]⟩
abbrev S4x768x32 : Shape := ⟨3, ![4, 768, 32]⟩
abbrev S4x768 : Shape := ⟨2, ![4, 768]⟩
abbrev S1x4x1x768 : Shape := ⟨4, ![1, 4, 1, 768]⟩
abbrev S1x4x256x768 : Shape := ⟨4, ![1, 4, 256, 768]⟩
abbrev S4x196608 : Shape := ⟨2, ![4, 196608]⟩
abbrev S4x196352 : Shape := ⟨2, ![4, 196352]⟩
abbrev S4x256x767 : Shape := ⟨3, ![4, 256, 767]⟩
abbrev S4x256x512 : Shape := ⟨3, ![4, 256, 512]⟩
abbrev S1x256x512 : Shape := ⟨3, ![1, 256, 512]⟩
abbrev S2x128 : Shape := ⟨2, ![2, 128]⟩
abbrev S256 : Shape := ⟨1, ![256]⟩
abbrev S512x1024 : Shape := ⟨2, ![512, 1024]⟩
abbrev S1024x2048 : Shape := ⟨2, ![1024, 2048]⟩
abbrev S2048x1024 : Shape := ⟨2, ![2048, 1024]⟩
abbrev S1x2x2x8x256x256 : Shape := ⟨6, ![1, 2, 2, 8, 256, 256]⟩
abbrev S2 : Shape := ⟨1, ![2]⟩
abbrev S2x1 : Shape := ⟨2, ![2, 1]⟩
abbrev S1x1 : Shape := ⟨2, ![1, 1]⟩
abbrev S256x128 : Shape := ⟨2, ![256, 128]⟩
abbrev S128x512 : Shape := ⟨2, ![128, 512]⟩
abbrev S256x256 : Shape := ⟨2, ![256, 256]⟩
abbrev S1x1x1x1x256x256 : Shape := ⟨6, ![1, 1, 1, 1, 256, 256]⟩
abbrev S1x256x256 : Shape := ⟨3, ![1, 256, 256]⟩
abbrev S128x256 : Shape := ⟨2, ![128, 256]⟩
abbrev S512x256 : Shape := ⟨2, ![512, 256]⟩

abbrev nBuf : Space → Nat
  | .hbm => 76
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S32x4, .f32⟩
  | .hbm, ⟨4, _⟩ => ⟨S1x2x128, .f32⟩
  | .hbm, ⟨5, _⟩ => ⟨S1x2x128, .f32⟩
  | .hbm, ⟨6, _⟩ => ⟨S1x256, .f32⟩
  | .hbm, ⟨7, _⟩ => ⟨S1x512, .i32⟩
  | .hbm, ⟨8, _⟩ => ⟨S256x1, .i32⟩
  | .hbm, ⟨9, _⟩ => ⟨S768, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .bf16⟩
  | .hbm, ⟨20, _⟩ => ⟨S32768x1024, .f32⟩
  | .hbm, ⟨21, _⟩ => ⟨S32768x1024, .bf16⟩
  | .hbm, ⟨22, _⟩ => ⟨S32768x2048, .bf16⟩
  | .hbm, ⟨23, _⟩ => ⟨S_, .bf16⟩
  | .hbm, ⟨24, _⟩ => ⟨S32768x5120, .bf16⟩
  | .hbm, ⟨25, _⟩ => ⟨S32768x1024, .f32⟩
  | .hbm, ⟨26, _⟩ => ⟨S1024x32768, .f32⟩
  | .hbm, ⟨27, _⟩ => ⟨S1024x32768, .bf16⟩
  | .hbm, ⟨28, _⟩ => ⟨S256x512, .i32⟩
  | .hbm, ⟨29, _⟩ => ⟨S256x512, .i32⟩
  | .hbm, ⟨30, _⟩ => ⟨S256x512, .i1⟩
  | .hbm, ⟨31, _⟩ => ⟨S1x4, .f32⟩
  | .hbm, ⟨32, _⟩ => ⟨S4, .f32⟩
  | .hbm, ⟨33, _⟩ => ⟨S1x4, .f32⟩
  | .hbm, ⟨34, _⟩ => ⟨S32x4, .f32⟩
  | .hbm, ⟨35, _⟩ => ⟨S32x4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32x4, .f32⟩
  | .hbm, ⟨41, _⟩ => ⟨S32x4, .f32⟩
  | .hbm, ⟨42, _⟩ => ⟨S4x32, .f32⟩
  | .hbm, ⟨43, _⟩ => ⟨S768x1, .i32⟩
  | .hbm, ⟨44, _⟩ => ⟨S32, .i32⟩
  | .hbm, ⟨45, _⟩ => ⟨S1x32, .i32⟩
  | .hbm, ⟨46, _⟩ => ⟨S768x32, .i32⟩
  | .hbm, ⟨47, _⟩ => ⟨S768x32, .i32⟩
  | .hbm, ⟨48, _⟩ => ⟨S768x32, .i1⟩
  | .hbm, ⟨49, _⟩ => ⟨S1x768x32, .i1⟩
  | .hbm, ⟨50, _⟩ => ⟨S4x1x32, .f32⟩
  | .hbm, ⟨51, _⟩ => ⟨S_, .f32⟩
  | .hbm, ⟨52, _⟩ => ⟨S_, .f32⟩
  | .hbm, ⟨53, _⟩ => ⟨S4x768x32, .i1⟩
  | .hbm, ⟨54, _⟩ => ⟨S4x768x32, .f32⟩
  | .hbm, ⟨55, _⟩ => ⟨S4x768x32, .f32⟩
  | .hbm, ⟨56, _⟩ => ⟨S4x768x32, .f32⟩
  | .hbm, ⟨57, _⟩ => ⟨S_, .f32⟩
  | .hbm, ⟨58, _⟩ => ⟨S4x768, .f32⟩
  | .hbm, ⟨59, _⟩ => ⟨S1x4x1x768, .f32⟩
  | .hbm, ⟨60, _⟩ => ⟨S1x4x256x768, .f32⟩
  | .hbm, ⟨61, _⟩ => ⟨S4x196608, .f32⟩
  | .hbm, ⟨62, _⟩ => ⟨S4x196352, .f32⟩
  | .hbm, ⟨63, _⟩ => ⟨S4x256x767, .f32⟩
  | .hbm, ⟨64, _⟩ => ⟨S4x256x512, .f32⟩
  | .hbm, ⟨65, _⟩ => ⟨S1x256x512, .i1⟩
  | .hbm, ⟨66, _⟩ => ⟨S_, .f32⟩
  | .hbm, ⟨67, _⟩ => ⟨S_, .f32⟩
  | .hbm, ⟨68, _⟩ => ⟨S4x256x512, .i1⟩
  | .hbm, ⟨69, _⟩ => ⟨S4x256x512, .f32⟩
  | .hbm, ⟨70, _⟩ => ⟨S4x256x512, .f32⟩
  | .hbm, ⟨71, _⟩ => ⟨S2x128, .f32⟩
  | .hbm, ⟨72, _⟩ => ⟨S2x128, .f32⟩
  | .hbm, ⟨73, _⟩ => ⟨S256, .f32⟩
  | .hbm, ⟨74, _⟩ => ⟨S1x256, .f32⟩
  | .hbm, ⟨75, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S4x256x512, .f32⟩
  | .local _ .vmem, ⟨7, _⟩ => ⟨S2x128, .f32⟩
  | .local _ .vmem, ⟨8, _⟩ => ⟨S2x128, .f32⟩
  | .local _ .vmem, ⟨9, _⟩ => ⟨S1x256, .f32⟩
  | .local _ .vmem, ⟨10, _⟩ => ⟨S512x1024, .bf16⟩
  | .local _ .vmem, ⟨11, _⟩ => ⟨S512x1024, .bf16⟩
  | .local _ .vmem, ⟨12, _⟩ => ⟨S1x2x2x8x256x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_cst : Ref sig .tc := ⟨.hbm, 10, rfl⟩
abbrev main_v0 : Ref sig .tc := ⟨.hbm, 11, rfl⟩
abbrev main_cst_2 : Ref sig .tc := ⟨.hbm, 12, rfl⟩
abbrev main_v1 : Ref sig .tc := ⟨.hbm, 13, rfl⟩
abbrev main_cst_3 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v18 : BitVec 32 := Scalar.maxsi arg1 c0_i32
  let c3_i32 : BitVec 32 := 3#32
  let v19 : BitVec 32 := Scalar.minsi v18 c3_i32
  let c0_i32_7 : BitVec 32 := 0#32
  let v20 : BitVec 1 := Scalar.cmpi .ne v19 c0_i32_7
  v20

def k0_cond2 (i : grid0.Coords) : BitVec 1 :=
  let arg1 : BitVec 32 := BitVec.ofNat 32 (i 1).val
  let c0_i32 : BitVec 32 := 0#32
  let v18 : BitVec 32 := Scalar.maxsi arg1 c0_i32
  let c3_i32 : BitVec 32 := 3#32
  let v19 : BitVec 32 := Scalar.minsi v18 c3_i32
  let c1_i32 : BitVec 32 := 1#32
  let v21 : BitVec 32 := Scalar.subi v19 c1_i32
  let c0_i32_8 : BitVec 32 := 0#32
  let v22 : BitVec 1 := Scalar.cmpi .ne v21 c0_i32_8
  v22

def k0_cond3 (i : grid0.Coords) : BitVec 1 :=
  let arg1 : BitVec 32 := BitVec.ofNat 32 (i 1).val
  let c0_i32 : BitVec 32 := 0#32
  let v18 : BitVec 32 := Scalar.maxsi arg1 c0_i32
  let c3_i32 : BitVec 32 := 3#32
  let v19 : BitVec 32 := Scalar.minsi v18 c3_i32
  let c1_i32 : BitVec 32 := 1#32
  let v21 : BitVec 32 := Scalar.subi v19 c1_i32
  let c1_i32_9 : BitVec 32 := 1#32
  let v23 : BitVec 32 := Scalar.subi v21 c1_i32_9
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x2048x1024 : Shape := ⟨3, ![16, 2048, 1024]⟩
abbrev S32x4 : Shape := ⟨2, ![32, 4]⟩
abbrev S1x2x128 : Shape := ⟨3, ![1, 2, 128]⟩
abbrev S1x256 : Shape := ⟨2, ![1, 256]⟩
abbrev S16x2048x4x2x128 : Shape := ⟨5, ![16, 2048, 4, 2, 128]⟩
abbrev S16x2048x4x256 : Shape := ⟨4, ![16, 2048, 4, 256]⟩
abbrev S2x128 : Shape := ⟨2, ![2, 128]⟩
abbrev S1x128 : Shape := ⟨2, ![1, 128]⟩
abbrev S128 : Shape := ⟨1, ![128]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S2048x2048x4 : Shape := ⟨3, ![2048, 2048, 4]⟩
abbrev S4x2048x2048 : Shape := ⟨3, ![4, 2048, 2048]⟩
abbrev S16x4x2x2048x2048 : Shape := ⟨5, ![16, 4, 2, 2048, 2048]⟩
abbrev S1x4x1x2048x2048 : Shape := ⟨5, ![1, 4, 1, 2048, 2048]⟩
abbrev S16x4x2x2048 : Shape := ⟨4, ![16, 4, 2, 2048]⟩
abbrev S16x4x2x2048x1 : Shape := ⟨5, ![16, 4, 2, 2048, 1]⟩
abbrev S16x4x1x2048x2048 : Shape := ⟨5, ![16, 4, 1, 2048, 2048]⟩
abbrev S16x4x2048x2048 : Shape := ⟨4, ![16, 4, 2048, 2048]⟩
abbrev S16x4x256x2048 : Shape := ⟨4, ![16, 4, 256, 2048]⟩
abbrev S16x2048x4 : Shape := ⟨3, ![16, 2048, 4]⟩
abbrev S16x2048x4x1 : Shape := ⟨4, ![16, 2048, 4, 1]⟩
abbrev S256 : Shape := ⟨1, ![256]⟩
abbrev S1x1x1x256 : Shape := ⟨4, ![1, 1, 1, 256]⟩
abbrev S32768x1024 : Shape := ⟨2, ![32768, 1024]⟩

abbrev nBuf : Space → Nat
  | .hbm => 149
  | .vmem => 0
  | .smem => 0
  | _ => 0

abbrev hbmTy0_0 (i : Nat) : BufTy := match i % 128 with
  | 0 => ⟨S16x2048x1024, .f32⟩
  | 1 => ⟨S16x2048x1024, .f32⟩
  | 2 => ⟨S16x2048x1024, .f32⟩
  | 3 => ⟨S32x4, .f32⟩
  | 4 => ⟨S1x2x128, .f32⟩
  | 5 => ⟨S1x2x128, .f32⟩
  | 6 => ⟨S1x256, .f32⟩
  | 7 => ⟨S16x2048x4x2x128, .f32⟩
  | 8 => ⟨S16x2048x4x2x128, .f32⟩
  | 9 => ⟨S16x2048x4x256, .f32⟩
  | 10 => ⟨S2x128, .f32⟩
  | 11 => ⟨S2x128, .f32⟩
  | 12 => ⟨S1x128, .f32⟩
  | 13 => ⟨S128, .f32⟩
  | 14 => ⟨S1x128, .f32⟩
  | 15 => ⟨S128, .f32⟩
  | 16 => ⟨S128, .f32⟩
  | 17 => ⟨S_, .f32⟩
  | 18 => ⟨S_, .f32⟩
  | 19 => ⟨S_, .f32⟩
  | 20 => ⟨S1x128, .f32⟩
  | 21 => ⟨S128, .f32⟩
  | 22 => ⟨S1x128, .f32⟩
  | 23 => ⟨S128, .f32⟩
  | 24 => ⟨S128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S2048, .i32⟩
  | 32 => ⟨S1x2048, .i32⟩
  | 33 => ⟨S2048x1, .i32⟩
  | 34 => ⟨S2048x2048, .i32⟩
  | 35 => ⟨S2048x2048, .i32⟩
  | 36 => ⟨S2048x2048, .i32⟩
  | 37 => ⟨S_, .i32⟩
  | 38 => ⟨S2048x2048, .i32⟩
  | 39 => ⟨S2048x2048, .i1⟩
  | 40 => ⟨S_, .i32⟩
  | 41 => ⟨S_, .i32⟩
  | 42 => ⟨S2048x2048, .i32⟩
  | 43 => ⟨S2048x2048, .i32⟩
  | 44 => ⟨S2048x2048, .i32⟩
  | 45 => ⟨S2048x2048, .i32⟩
  | 46 => ⟨S_, .i32⟩
  | 47 => ⟨S2048x2048, .i32⟩
  | 48 => ⟨S2048x2048, .i32⟩
  | 49 => ⟨S2048x2048, .f32⟩
  | 50 => ⟨S_, .f32⟩
  | 51 => ⟨S2048x2048, .f32⟩
  | 52 => ⟨S2048x2048, .f32⟩
  | 53 => ⟨S2048x2048, .f32⟩
  | 54 => ⟨S_, .f32⟩
  | 55 => ⟨S_, .f32⟩
  | 56 => ⟨S2048x2048, .f32⟩
  | 57 => ⟨S2048x2048, .f32⟩
  | 58 => ⟨S_, .f32⟩
  | 59 => ⟨S2048x2048, .f32⟩
  | 60 => ⟨S2048x2048, .f32⟩
  | 61 => ⟨S2048x2048, .i32⟩
  | 62 => ⟨S_, .i32⟩
  | 63 => ⟨S2048x2048, .i32⟩
  | 64 => ⟨S2048x2048, .i32⟩
  | 65 => ⟨S_, .i32⟩
  | 66 => ⟨S2048x2048, .i32⟩
  | 67 => ⟨S2048x2048, .i32⟩
  | 68 => ⟨S_, .i32⟩
  | 69 => ⟨S2048x2048, .i32⟩
  | 70 => ⟨S2048x2048, .i1⟩
  | 71 => ⟨S2048x2048, .i32⟩
  | 72 => ⟨S2048x2048, .i32⟩
  | 73 => ⟨S2048x2048, .i32⟩
  | 74 => ⟨S_, .i32⟩
  | 75 => ⟨S2048x2048, .i32⟩
  | 76 => ⟨S2048x2048, .i1⟩
  | 77 => ⟨S_, .i32⟩
  | 78 => ⟨S2048x2048, .i32⟩
  | 79 => ⟨S2048x2048, .i32⟩
  | 80 => ⟨S2048x2048, .i32⟩
  | 81 => ⟨S2048x2048x1, .i32⟩
  | 82 => ⟨S2048x2048x4, .f32⟩
  | 83 => ⟨S4x2048x2048, .f32⟩
  | 84 => ⟨S_, .i32⟩
  | 85 => ⟨S2048, .i32⟩
  | 86 => ⟨S2048, .i32⟩
  | 87 => ⟨S1x2048, .i32⟩
  | 88 => ⟨S2048x1, .i32⟩
  | 89 => ⟨S2048x2048, .i32⟩
  | 90 => ⟨S2048x2048, .i32⟩
  | 91 => ⟨S2048x2048, .i1⟩
  | 92 => ⟨S16x4x2x2048x2048, .f32⟩
  | 93 => ⟨S_, .f32⟩
  | 94 => ⟨S16x4x2x2048x2048, .f32⟩
  | 95 => ⟨S16x4x2x2048x2048, .f32⟩
  | 96 => ⟨S1x4x1x2048x2048, .f32⟩
  | 97 => ⟨S16x4x2x2048x2048, .f32⟩
  | 98 => ⟨S16x4x2x2048x2048, .f32⟩
  | 99 => ⟨S_, .f32⟩
  | 100 => ⟨S_, .f32⟩
  | 101 => ⟨S16x4x2x2048x2048, .i1⟩
  | 102 => ⟨S16x4x2x2048x2048, .f32⟩
  | 103 => ⟨S16x4x2x2048x2048, .f32⟩
  | 104 => ⟨S_, .f32⟩
  | 105 => ⟨S16x4x2x2048, .f32⟩
  | 106 => ⟨S_, .f32⟩
  | 107 => ⟨S16x4x2x2048, .f32⟩
  | 108 => ⟨S16x4x2x2048, .f32⟩
  | 109 => ⟨S16x4x2x2048x1, .f32⟩
  | 110 => ⟨S16x4x2x2048x2048, .f32⟩
  | 111 => ⟨S16x4x2x2048x2048, .f32⟩
  | 112 => ⟨S16x4x2x2048x2048, .f32⟩
  | 113 => ⟨S_, .f32⟩
  | 114 => ⟨S16x4x2x2048, .f32⟩
  | 115 => ⟨S16x4x2x2048x1, .f32⟩
  | 116 => ⟨S16x4x2x2048x2048, .f32⟩
  | 117 => ⟨S16x4x2x2048x2048, .f32⟩
  | 118 => ⟨S16x4x1x2048x2048, .f32⟩
  | 119 => ⟨S16x4x2048x2048, .f32⟩
  | 120 => ⟨S16x4x1x2048x2048, .f32⟩
  | 121 => ⟨S16x4x2048x2048, .f32⟩
  | 122 => ⟨S16x4x2048x2048, .f32⟩
  | 123 => ⟨S16x4x2048x2048, .f32⟩
  | 124 => ⟨S16x4x2048x2048, .f32⟩
  | 125 => ⟨S16x4x256x2048, .f32⟩
  | 126 => ⟨S16x2048x4x256, .f32⟩
  | 127 => ⟨S16x2048x4x256, .f32⟩
  | _ => ⟨S16x2048x1024, .f32⟩

abbrev hbmTy0_1 (i : Nat) : BufTy := match i % 128 with
  | 0 => ⟨S_, .f32⟩
  | 1 => ⟨S16x2048x4, .f32⟩
  | 2 => ⟨S16x2048x4x1, .f32⟩
  | 3 => ⟨S_, .f32⟩
  | 4 => ⟨S16x2048x4x1, .f32⟩
  | 5 => ⟨S16x2048x4x1, .f32⟩
  | 6 => ⟨S_, .f32⟩
  | 7 => ⟨S16x2048x4x1, .f32⟩
  | 8 => ⟨S16x2048x4x1, .f32⟩
  | 9 => ⟨S16x2048x4x1, .f32⟩
  | 10 => ⟨S16x2048x4x256, .f32⟩
  | 11 => ⟨S16x2048x4x256, .f32⟩
  | 12 => ⟨S256, .f32⟩
  | 13 => ⟨S1x1x1x256, .f32⟩
  | 14 => ⟨S16x2048x4x256, .f32⟩
  | 15 => ⟨S16x2048x4x256, .f32⟩
  | 16 => ⟨S_, .f32⟩
  | 17 => ⟨S16x2048x4x256, .f32⟩
  | 18 => ⟨S16x2048x4x256, .f32⟩
  | 19 => ⟨S16x2048x4x256, .bf16⟩
  | 20 => ⟨S32768x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_c_3 : Ref sig .tc := ⟨.hbm, 41, rfl⟩
abbrev main_call0_v0 : Ref sig .tc := ⟨.hbm, 42, rfl⟩
abbrev main_call0_v1 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_cst_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_19 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_22 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1x1024x8192 : Shape := ⟨3, ![1, 1024, 8192]⟩
abbrev S1x3x1x1024 : Shape := ⟨4, ![1, 3, 1, 1024]⟩
abbrev S1x1024x1024 : Shape := ⟨3, ![1, 1024, 1024]⟩
abbrev S1024x1024 : Shape := ⟨2, ![1024, 1024]⟩
abbrev S32768x1024 : Shape := ⟨2, ![32768, 1024]⟩
abbrev S1x1024 : Shape := ⟨2, ![1, 1024]⟩
abbrev S1024x8192 : Shape := ⟨2, ![1024, 8192]⟩
abbrev S3x1x1024 : Shape := ⟨3, ![3, 1, 1024]⟩
abbrev S3x1024 : Shape := ⟨2, ![3, 1024]⟩
abbrev S32768x5120 : Shape := ⟨2, ![32768, 5120]⟩
abbrev S1024x32768 : Shape := ⟨2, ![1024, 32768]⟩
abbrev S512x1024 : Shape := ⟨2, ![512, 1024]⟩
abbrev S512x5120 : Shape := ⟨2, ![512, 5120]⟩
abbrev S1024x512 : Shape := ⟨2, ![1024, 512]⟩
abbrev S528x1024 : Shape := ⟨2, ![528, 1024]⟩
abbrev S16x1024 : Shape := ⟨2, ![16, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 19
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x8192, .f32⟩
  | .hbm, ⟨4, _⟩ => ⟨S1x3x1x1024, .f32⟩
  | .hbm, ⟨5, _⟩ => ⟨S1x1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S32768x1024, .f32⟩
  | .hbm, ⟨10, _⟩ => ⟨S1x1024, .f32⟩
  | .hbm, ⟨11, _⟩ => ⟨S1x1024, .f32⟩
  | .hbm, ⟨12, _⟩ => ⟨S1024x8192, .f32⟩
  | .hbm, ⟨13, _⟩ => ⟨S1024x8192, .bf16⟩
  | .hbm, ⟨14, _⟩ => ⟨S3x1x1024, .f32⟩
  | .hbm, ⟨15, _⟩ => ⟨S3x1024, .f32⟩
  | .hbm, ⟨16, _⟩ => ⟨S32768x1024, .f32⟩
  | .hbm, ⟨17, _⟩ => ⟨S32768x5120, .bf16⟩
  | .hbm, ⟨18, _⟩ => ⟨S1024x32768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x8192, .bf16⟩
  | .local _ .vmem, ⟨5, _⟩ => ⟨S1024x1024, .bf16⟩
  | .local _ .vmem, ⟨6, _⟩ => ⟨S3x1024, .f32⟩
  | .local _ .vmem, ⟨7, _⟩ => ⟨S512x1024, .f32⟩
  | .local _ .vmem, ⟨8, _⟩ => ⟨S512x1024, .f32⟩
  | .local _ .vmem, ⟨9, _⟩ => ⟨S512x5120, .bf16⟩
  | .local _ .vmem, ⟨10, _⟩ => ⟨S512x5120, .bf16⟩
  | .local _ .vmem, ⟨11, _⟩ => ⟨S1024x512, .bf16⟩
  | .local _ .vmem, ⟨12, _⟩ => ⟨S1024x512, .bf16⟩
  | .local _ .vmem, ⟨13, _⟩ => ⟨S528x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16x2048x1024 : Shape := ⟨3, ![16, 2048, 1024]⟩
abbrev S1024 : Shape := ⟨1, ![1024]⟩
abbrev S1x1024x8192 : Shape := ⟨3, ![1, 1024, 8192]⟩
abbrev S1x3x1x1024 : Shape := ⟨4, ![1, 3, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x8192 : Shape := ⟨2, ![1024, 8192]⟩
abbrev S16x2048x8192 : Shape := ⟨3, ![16, 2048, 8192]⟩
abbrev S16x2050x1024 : Shape := ⟨3, ![16, 2050, 1024]⟩
abbrev S3x1024 : Shape := ⟨2, ![3, 1024]⟩
abbrev S1x1024 : Shape := ⟨2, ![1, 1024]⟩
abbrev S16x2048x5120 : Shape := ⟨3, ![16, 2048, 5120]⟩
abbrev S32768x1024 : Shape := ⟨2, ![32768, 1024]⟩
abbrev S32768x5120 : Shape := ⟨2, ![32768, 5120]⟩
abbrev S1024x32768 : Shape := ⟨2, ![1024, 32768]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1x1024x8192, .f32⟩
  | .hbm, ⟨4, _⟩ => ⟨S1x3x1x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S1024x8192, .f32⟩
  | .hbm, ⟨35, _⟩ => ⟨S16x2048x8192, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S_, .i32⟩
  | .hbm, ⟨46, _⟩ => ⟨S_, .f32⟩
  | .hbm, ⟨47, _⟩ => ⟨S16x2050x1024, .f32⟩
  | .hbm, ⟨48, _⟩ => ⟨S3x1024, .f32⟩
  | .hbm, ⟨49, _⟩ => ⟨S1x1024, .f32⟩
  | .hbm, ⟨50, _⟩ => ⟨S1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S1x1024, .f32⟩
  | .hbm, ⟨56, _⟩ => ⟨S1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S1x1024, .f32⟩
  | .hbm, ⟨63, _⟩ => ⟨S1024, .f32⟩
  | .hbm, ⟨64, _⟩ => ⟨S16x2048x1024, .f32⟩
  | .hbm, ⟨65, _⟩ => ⟨S1x1x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S_, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S16x2048x5120, .f32⟩
  | .hbm, ⟨74, _⟩ => ⟨S16x2048x5120, .bf16⟩
  | .hbm, ⟨75, _⟩ => ⟨S32768x1024, .f32⟩
  | .hbm, ⟨76, _⟩ => ⟨S32768x5120, .bf16⟩
  | .hbm, ⟨77, _⟩ => ⟨S16x2048x1024, .bf16⟩
  | .hbm, ⟨78, _⟩ => ⟨S32768x1024, .bf16⟩
  | .hbm, ⟨79, _⟩ => ⟨S1024x32768, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024x1024 : Shape := ⟨3, ![1, 1024, 1024]⟩
abbrev S1x2x1024 : Shape := ⟨3, ![1, 2, 1024]⟩
abbrev S1x1024 : Shape := ⟨2, ![1, 1024]⟩
abbrev S1x1024x4 : Shape := ⟨3, ![1, 1024, 4]⟩
abbrev S1x4 : Shape := ⟨2, ![1, 4]⟩
abbrev S1x4x1024x8 : Shape := ⟨4, ![1, 4, 1024, 8]⟩
abbrev S1x4x8 : Shape := ⟨3, ![1, 4, 8]⟩
abbrev S32768x1024 : Shape := ⟨2, ![32768, 1024]⟩
abbrev S16x2048x3072 : Shape := ⟨3, ![16, 2048, 3072]⟩
abbrev S32768x3072 : Shape := ⟨2, ![32768, 3072]⟩
abbrev S_ : Shape := ⟨0, ![]⟩
abbrev S32768x5120 : Shape := ⟨2, ![32768, 5120]⟩
abbrev S1024x4 : Shape := ⟨2, ![1024, 4]⟩
abbrev S4x1024x8 : Shape := ⟨3, ![4, 1024, 8]⟩
abbrev S1024x4x8 : Shape := ⟨3, ![1024, 4, 8]⟩
abbrev S1024x32 : Shape := ⟨2, ![1024, 32]⟩
abbrev S1024x40 : Shape := ⟨2, ![1024, 40]⟩
abbrev S1024x128 : Shape := ⟨2, ![1024, 128]⟩
abbrev S1024x256 : Shape := ⟨2, ![1024, 256]⟩
abbrev S4 : Shape := ⟨1, ![4]⟩
abbrev S4x8 : Shape := ⟨2, ![4, 8]⟩
abbrev S32 : Shape := ⟨1, ![32]⟩
abbrev S40 : Shape := ⟨1, ![40]⟩
abbrev S128 : Shape := ⟨1, ![128]⟩
abbrev S1x128 : Shape := ⟨2, ![1, 128]⟩
abbrev S1024x1024 : Shape := ⟨2, ![1024, 1024]⟩
abbrev S2x1024 : Shape := ⟨2, ![2, 1024]⟩
abbrev S1024 : Shape := ⟨1, ![1024]⟩
abbrev S131072x128 : Shape := ⟨2, ![131072, 128]⟩
abbrev S32768x128 : Shape := ⟨2, ![32768, 128]⟩
abbrev S4096x128 : Shape := ⟨2, ![4096, 128]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩

abbrev nBuf : Space → Nat
  | .hbm => 62
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x2x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x4, .f32⟩
  | .hbm, ⟨13, _⟩ => ⟨S1x4x1024x8, .f32⟩
  | .hbm, ⟨14, _⟩ => ⟨S1x4x8, .f32⟩
  | .hbm, ⟨15, _⟩ => ⟨S32768x1024, .f32⟩
  | .hbm, ⟨16, _⟩ => ⟨S32768x1024, .bf16⟩
  | .hbm, ⟨17, _⟩ => ⟨S16x2048x3072, .f32⟩
  | .hbm, ⟨18, _⟩ => ⟨S16x2048x3072, .bf16⟩
  | .hbm, ⟨19, _⟩ => ⟨S32768x3072, .bf16⟩
  | .hbm, ⟨20, _⟩ => ⟨S_, .bf16⟩
  | .hbm, ⟨21, _⟩ => ⟨S32768x5120, .bf16⟩
  | .hbm, ⟨22, _⟩ => ⟨S1024x4, .f32⟩
  | .hbm, ⟨23, _⟩ => ⟨S_, .f32⟩
  | .hbm, ⟨24, _⟩ => ⟨S1024x4, .f32⟩
  | .hbm, ⟨25, _⟩ => ⟨S4x1024x8, .f32⟩
  | .hbm, ⟨26, _⟩ => ⟨S1024x4x8, .f32⟩
  | .hbm, ⟨27, _⟩ => ⟨S1024x32, .f32⟩
  | .hbm, ⟨28, _⟩ => ⟨S1024x40, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x128, .bf16⟩
  | .hbm, ⟨33, _⟩ => ⟨S1024x128, .f32⟩
  | .hbm, ⟨34, _⟩ => ⟨S1024x128, .f32⟩
  | .hbm, ⟨35, _⟩ => ⟨S1024x128, .bf16⟩
  | .hbm, ⟨36, _⟩ => ⟨S1024x256, .bf16⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4x8, .f32⟩
  | .hbm, ⟨41, _⟩ => ⟨S32, .f32⟩
  | .hbm, ⟨42, _⟩ => ⟨S40, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S32768x1024, .f32⟩
  | .hbm, ⟨48, _⟩ => ⟨S1024x1024, .f32⟩
  | .hbm, ⟨49, _⟩ => ⟨S1024x1024, .bf16⟩
  | .hbm, ⟨50, _⟩ => ⟨S1024x1024, .f32⟩
  | .hbm, ⟨51, _⟩ => ⟨S1024x1024, .bf16⟩
  | .hbm, ⟨52, _⟩ => ⟨S1024x1024, .f32⟩
  | .hbm, ⟨53, _⟩ => ⟨S1024x1024, .bf16⟩
  | .hbm, ⟨54, _⟩ => ⟨S2x1024, .f32⟩
  | .hbm, ⟨55, _⟩ => ⟨S1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S32768x1024, .f32⟩
  | .hbm, ⟨60, _⟩ => ⟨S131072x128, .i32⟩
  | .hbm, ⟨61, _⟩ => ⟨S32768x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S1x1024, .f32⟩
  | .local _ .vmem, ⟨15, _⟩ => ⟨S1x1024, .f32⟩
  | .local _ .vmem, ⟨16, _⟩ => ⟨S1024x256, .bf16⟩
  | .local _ .vmem, ⟨17, _⟩ => ⟨S1x128, .f32⟩
  | .local _ .vmem, ⟨18, _⟩ => ⟨S1024x1024, .f32⟩
  | .local _ .vmem, ⟨19, _⟩ => ⟨S1024x1024, .f32⟩
  | .local _ .vmem, ⟨20, _⟩ => ⟨S4096x128, .i32⟩
  | .local _ .vmem, ⟨21, _⟩ => ⟨S4096x128, .i32⟩
  | .local _ .vmem, ⟨22, _⟩ => ⟨S1024x128, .f32⟩
  | .local _ .vmem, ⟨23, _⟩ => ⟨S1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_v37_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel3Ideal.lean ====
abbrev S16x2048x1024 : Shape := ⟨3, ![16, 2048, 1024]⟩
abbrev S1x1024x1024 : Shape := ⟨3, ![1, 1024, 1024]⟩
abbrev S1x2x1024 : Shape := ⟨3, ![1, 2, 1024]⟩
abbrev S1x1024 : Shape := ⟨2, ![1, 1024]⟩
abbrev S1x1024x4 : Shape := ⟨3, ![1, 1024, 4]⟩
abbrev S1x4 : Shape := ⟨2, ![1, 4]⟩
abbrev S1x4x1024x8 : Shape := ⟨4, ![1, 4, 1024, 8]⟩
abbrev S1x4x8 : Shape := ⟨3, ![1, 4, 8]⟩
abbrev S32768x1024 : Shape := ⟨2, ![32768, 1024]⟩
abbrev S16x2048x3072 : Shape := ⟨3, ![16, 2048, 3072]⟩
abbrev S32768x3072 : Shape := ⟨2, ![32768, 3072]⟩
abbrev S_ : Shape := ⟨0, ![]⟩
abbrev S32768x5120 : Shape := ⟨2, ![32768, 5120]⟩
abbrev S1024x4 : Shape := ⟨2, ![1024, 4]⟩
abbrev S4x1024x8 : Shape := ⟨3, ![4, 1024, 8]⟩
abbrev S1024x4x8 : Shape := ⟨3, ![1024, 4, 8]⟩
abbrev S1024x32 : Shape := ⟨2, ![1024, 32]⟩
abbrev S1024x40 : Shape := ⟨2, ![1024, 40]⟩
abbrev S1024x128 : Shape := ⟨2, ![1024, 128]⟩
abbrev S1024x256 : Shape := ⟨2, ![1024, 256]⟩
abbrev S4 : Shape := ⟨1, ![4]⟩
abbrev S4x8 : Shape := ⟨2, ![4, 8]⟩
abbrev S32 : Shape := ⟨1, ![32]⟩
abbrev S40 : Shape := ⟨1, ![40]⟩
abbrev S128 : Shape := ⟨1, ![128]⟩
abbrev S1x128 : Shape := ⟨2, ![1, 128]⟩
abbrev S1024x1024 : Shape := ⟨2, ![1024, 1024]⟩
abbrev S2x1024 : Shape := ⟨2, ![2, 1024]⟩
abbrev S1024 : Shape := ⟨1, ![1024]⟩
abbrev S131072x2x128 : Shape := ⟨3, ![131072, 2, 128]⟩
abbrev S32768x128 : Shape := ⟨2, ![32768, 128]⟩
abbrev S131072x1x128 : Shape := ⟨3, ![131072, 1, 128]⟩
abbrev S131072x128 : Shape := ⟨2, ![131072, 128]⟩
abbrev S4096x128 : Shape := ⟨2, ![4096, 128]⟩
abbrev S4096x2x128 : Shape := ⟨3, ![4096, 2, 128]⟩
abbrev S4096x1x128 : Shape := ⟨3, ![4096, 1, 128]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S256x2x128 : Shape := ⟨3, ![256, 2, 128]⟩
abbrev S256x1x128 : Shape := ⟨3, ![256, 1, 128]⟩

abbrev nBuf : Space → Nat
  | .hbm => 62
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x2x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x4, .f32⟩
  | .hbm, ⟨13, _⟩ => ⟨S1x4x1024x8, .f32⟩
  | .hbm, ⟨14, _⟩ => ⟨S1x4x8, .f32⟩
  | .hbm, ⟨15, _⟩ => ⟨S32768x1024, .f32⟩
  | .hbm, ⟨16, _⟩ => ⟨S32768x1024, .bf16⟩
  | .hbm, ⟨17, _⟩ => ⟨S16x2048x3072, .f32⟩
  | .hbm, ⟨18, _⟩ => ⟨S16x2048x3072, .bf16⟩
  | .hbm, ⟨19, _⟩ => ⟨S32768x3072, .bf16⟩
  | .hbm, ⟨20, _⟩ => ⟨S_, .bf16⟩
  | .hbm, ⟨21, _⟩ => ⟨S32768x5120, .bf16⟩
  | .hbm, ⟨22, _⟩ => ⟨S1024x4, .f32⟩
  | .hbm, ⟨23, _⟩ => ⟨S_, .f32⟩
  | .hbm, ⟨24, _⟩ => ⟨S1024x4, .f32⟩
  | .hbm, ⟨25, _⟩ => ⟨S4x1024x8, .f32⟩
  | .hbm, ⟨26, _⟩ => ⟨S1024x4x8, .f32⟩
  | .hbm, ⟨27, _⟩ => ⟨S1024x32, .f32⟩
  | .hbm, ⟨28, _⟩ => ⟨S1024x40, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x128, .bf16⟩
  | .hbm, ⟨33, _⟩ => ⟨S1024x128, .f32⟩
  | .hbm, ⟨34, _⟩ => ⟨S1024x128, .f32⟩
  | .hbm, ⟨35, _⟩ => ⟨S1024x128, .bf16⟩
  | .hbm, ⟨36, _⟩ => ⟨S1024x256, .bf16⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4x8, .f32⟩
  | .hbm, ⟨41, _⟩ => ⟨S32, .f32⟩
  | .hbm, ⟨42, _⟩ => ⟨S40, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S32768x1024, .f32⟩
  | .hbm, ⟨48, _⟩ => ⟨S1024x1024, .f32⟩
  | .hbm, ⟨49, _⟩ => ⟨S1024x1024, .bf16⟩
  | .hbm, ⟨50, _⟩ => ⟨S1024x1024, .f32⟩
  | .hbm, ⟨51, _⟩ => ⟨S1024x1024, .bf16⟩
  | .hbm, ⟨52, _⟩ => ⟨S1024x1024, .f32⟩
  | .hbm, ⟨53, _⟩ => ⟨S1024x1024, .bf16⟩
  | .hbm, ⟨54, _⟩ => ⟨S2x1024, .f32⟩
  | .hbm, ⟨55, _⟩ => ⟨S1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S32768x1024, .f32⟩
  | .hbm, ⟨60, _⟩ => ⟨S131072x2x128, .bf16⟩
  | .hbm, ⟨61, _⟩ => ⟨S32768x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S1x1024, .f32⟩
  | .local _ .vmem, ⟨15, _⟩ => ⟨S1x1024, .f32⟩
  | .local _ .vmem, ⟨16, _⟩ => ⟨S1024x256, .bf16⟩
  | .local _ .vmem, ⟨17, _⟩ => ⟨S1x128, .f32⟩
  | .local _ .vmem, ⟨18, _⟩ => ⟨S1024x1024, .f32⟩
  | .local _ .vmem, ⟨19, _⟩ => ⟨S1024x1024, .f32⟩
  | .local _ .vmem, ⟨20, _⟩ => ⟨S4096x2x128, .bf16⟩
  | .local _ .vmem, ⟨21, _⟩ => ⟨S4096x2x128, .bf16⟩
  | .local _ .vmem, ⟨22, _⟩ => ⟨S1024x128, .f32⟩
  | .local _ .vmem, ⟨23, _⟩ => ⟨S1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_v37_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096x2x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S16x2048x1024 : Shape := ⟨3, ![16, 2048, 1024]⟩
abbrev S1x1024x1024 : Shape := ⟨3, ![1, 1024, 1024]⟩
abbrev S1x2x1024 : Shape := ⟨3, ![1, 2, 1024]⟩
abbrev S1x1024 : Shape := ⟨2, ![1, 1024]⟩
abbrev S1x1024x4 : Shape := ⟨3, ![1, 1024, 4]⟩
abbrev S1x4 : Shape := ⟨2, ![1, 4]⟩
abbrev S1x4x1024x8 : Shape := ⟨4, ![1, 4, 1024, 8]⟩
abbrev S1x4x8 : Shape := ⟨3, ![1, 4, 8]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S32768x1024 : Shape := ⟨2, ![32768, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x2x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x4, .f32⟩
  | .hbm, ⟨13, _⟩ => ⟨S1x4x1024x8, .f32⟩
  | .hbm, ⟨14, _⟩ => ⟨S1x4x8, .f32⟩
  | .hbm, ⟨15, _⟩ => ⟨S1024x1024, .f32⟩
  | .hbm, ⟨16, _⟩ => ⟨S16x2048x1024, .f32⟩
  | .hbm, ⟨17, _⟩ => ⟨S1024x1024, .f32⟩
  | .hbm, ⟨18, _⟩ => ⟨S16x2048x1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S1024x1024, .f32⟩
  | .hbm, ⟨49, _⟩ => ⟨S16x2048x1024, .f32⟩
  | .hbm, ⟨50, _⟩ => ⟨S_, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S_, .f32⟩
  | .hbm, ⟨66, _⟩ => ⟨S16x2048, .f32⟩
  | .hbm, ⟨67, _⟩ => ⟨S16x2048x1, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S16x2048x1024, .f32⟩
  | .hbm, ⟨72, _⟩ => ⟨S16x2048x1024, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1, .f32⟩
  | .hbm, ⟨77, _⟩ => ⟨S16x2048x1024, .f32⟩
  | .hbm, ⟨78, _⟩ => ⟨S16x2048x1024, .f32⟩
  | .hbm, ⟨79, _⟩ => ⟨S1x1x1024, .f32⟩
  | .hbm, ⟨80, _⟩ => ⟨S16x2048x1024, .f32⟩
  | .hbm, ⟨81, _⟩ => ⟨S16x2048x1024, .f32⟩
  | .hbm, ⟨82, _⟩ => ⟨S1x1x1024, .f32⟩
  | .hbm, ⟨83, _⟩ => ⟨S16x2048x1024, .f32⟩
  | .hbm, ⟨84, _⟩ => ⟨S16x2048x1024, .f32⟩
  | .hbm, ⟨85, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Kernel4.lean ====
abbrev S16x2048x1024 : Shape := ⟨3, ![16, 2048, 1024]⟩
abbrev S1x1024x1024 : Shape := ⟨3, ![1, 1024, 1024]⟩
abbrev S1x2x1024 : Shape := ⟨3, ![1, 2, 1024]⟩
abbrev S1x1024 : Shape := ⟨2, ![1, 1024]⟩
abbrev S1x1024x4 : Shape := ⟨3, ![1, 1024, 4]⟩
abbrev S1x4 : Shape := ⟨2, ![1, 4]⟩
abbrev S1x4x1024x8 : Shape := ⟨4, ![1, 4, 1024, 8]⟩
abbrev S1x4x8 : Shape := ⟨3, ![1, 4, 8]⟩
abbrev S32768x1024 : Shape := ⟨2, ![32768, 1024]⟩
abbrev S16x2048x3072 : Shape := ⟨3, ![16, 2048, 3072]⟩
abbrev S32768x3072 : Shape := ⟨2, ![32768, 3072]⟩
abbrev S_ : Shape := ⟨0, ![]⟩
abbrev S32768x5120 : Shape := ⟨2, ![32768, 5120]⟩
abbrev S1024x4 : Shape := ⟨2, ![1024, 4]⟩
abbrev S4x1024x8 : Shape := ⟨3, ![4, 1024, 8]⟩
abbrev S1024x4x8 : Shape := ⟨3, ![1024, 4, 8]⟩
abbrev S1024x32 : Shape := ⟨2, ![1024, 32]⟩
abbrev S1024x40 : Shape := ⟨2, ![1024, 40]⟩
abbrev S1024x128 : Shape := ⟨2, ![1024, 128]⟩
abbrev S1024x256 : Shape := ⟨2, ![1024, 256]⟩
abbrev S4 : Shape := ⟨1, ![4]⟩
abbrev S4x8 : Shape := ⟨2, ![4, 8]⟩
abbrev S32 : Shape := ⟨1, ![32]⟩
abbrev S40 : Shape := ⟨1, ![40]⟩
abbrev S128 : Shape := ⟨1, ![128]⟩
abbrev S1x128 : Shape := ⟨2, ![1, 128]⟩
abbrev S1024x1024 : Shape := ⟨2, ![1024, 1024]⟩
abbrev S2x1024 : Shape := ⟨2, ![2, 1024]⟩
abbrev S1024 : Shape := ⟨1, ![1024]⟩
abbrev S131072x128 : Shape := ⟨2, ![131072, 128]⟩
abbrev S32768x128 : Shape := ⟨2, ![32768, 128]⟩
abbrev S4096x128 : Shape := ⟨2, ![4096, 128]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩

abbrev nBuf : Space → Nat
  | .hbm => 62
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x2x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x4, .f32⟩
  | .hbm, ⟨13, _⟩ => ⟨S1x4x1024x8, .f32⟩
  | .hbm, ⟨14, _⟩ => ⟨S1x4x8, .f32⟩
  | .hbm, ⟨15, _⟩ => ⟨S32768x1024, .f32⟩
  | .hbm, ⟨16, _⟩ => ⟨S32768x1024, .bf16⟩
  | .hbm, ⟨17, _⟩ => ⟨S16x2048x3072, .f32⟩
  | .hbm, ⟨18, _⟩ => ⟨S16x2048x3072, .bf16⟩
  | .hbm, ⟨19, _⟩ => ⟨S32768x3072, .bf16⟩
  | .hbm, ⟨20, _⟩ => ⟨S_, .bf16⟩
  | .hbm, ⟨21, _⟩ => ⟨S32768x5120, .bf16⟩
  | .hbm, ⟨22, _⟩ => ⟨S1024x4, .f32⟩
  | .hbm, ⟨23, _⟩ => ⟨S_, .f32⟩
  | .hbm, ⟨24, _⟩ => ⟨S1024x4, .f32⟩
  | .hbm, ⟨25, _⟩ => ⟨S4x1024x8, .f32⟩
  | .hbm, ⟨26, _⟩ => ⟨S1024x4x8, .f32⟩
  | .hbm, ⟨27, _⟩ => ⟨S1024x32, .f32⟩
  | .hbm, ⟨28, _⟩ => ⟨S1024x40, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x128, .bf16⟩
  | .hbm, ⟨33, _⟩ => ⟨S1024x128, .f32⟩
  | .hbm, ⟨34, _⟩ => ⟨S1024x128, .f32⟩
  | .hbm, ⟨35, _⟩ => ⟨S1024x128, .bf16⟩
  | .hbm, ⟨36, _⟩ => ⟨S1024x256, .bf16⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4x8, .f32⟩
  | .hbm, ⟨41, _⟩ => ⟨S32, .f32⟩
  | .hbm, ⟨42, _⟩ => ⟨S40, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S32768x1024, .f32⟩
  | .hbm, ⟨48, _⟩ => ⟨S1024x1024, .f32⟩
  | .hbm, ⟨49, _⟩ => ⟨S1024x1024, .bf16⟩
  | .hbm, ⟨50, _⟩ => ⟨S1024x1024, .f32⟩
  | .hbm, ⟨51, _⟩ => ⟨S1024x1024, .bf16⟩
  | .hbm, ⟨52, _⟩ => ⟨S1024x1024, .f32⟩
  | .hbm, ⟨53, _⟩ => ⟨S1024x1024, .bf16⟩
  | .hbm, ⟨54, _⟩ => ⟨S2x1024, .f32⟩
  | .hbm, ⟨55, _⟩ => ⟨S1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S32768x1024, .f32⟩
  | .hbm, ⟨60, _⟩ => ⟨S131072x128, .i32⟩
  | .hbm, ⟨61, _⟩ => ⟨S32768x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S1x1024, .f32⟩
  | .local _ .vmem, ⟨15, _⟩ => ⟨S1x1024, .f32⟩
  | .local _ .vmem, ⟨16, _⟩ => ⟨S1024x256, .bf16⟩
  | .local _ .vmem, ⟨17, _⟩ => ⟨S1x128, .f32⟩
  | .local _ .vmem, ⟨18, _⟩ => ⟨S1024x1024, .f32⟩
  | .local _ .vmem, ⟨19, _⟩ => ⟨S1024x1024, .f32⟩
  | .local _ .vmem, ⟨20, _⟩ => ⟨S4096x128, .i32⟩
  | .local _ .vmem, ⟨21, _⟩ => ⟨S4096x128, .i32⟩
  | .local _ .vmem, ⟨22, _⟩ => ⟨S1024x128, .f32⟩
  | .local _ .vmem, ⟨23, _⟩ => ⟨S1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_v37_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel4Ideal.lean ====
abbrev S16x2048x1024 : Shape := ⟨3, ![16, 2048, 1024]⟩
abbrev S1x1024x1024 : Shape := ⟨3, ![1, 1024, 1024]⟩
abbrev S1x2x1024 : Shape := ⟨3, ![1, 2, 1024]⟩
abbrev S1x1024 : Shape := ⟨2, ![1, 1024]⟩
abbrev S1x1024x4 : Shape := ⟨3, ![1, 1024, 4]⟩
abbrev S1x4 : Shape := ⟨2, ![1, 4]⟩
abbrev S1x4x1024x8 : Shape := ⟨4, ![1, 4, 1024, 8]⟩
abbrev S1x4x8 : Shape := ⟨3, ![1, 4, 8]⟩
abbrev S32768x1024 : Shape := ⟨2, ![32768, 1024]⟩
abbrev S16x2048x3072 : Shape := ⟨3, ![16, 2048, 3072]⟩
abbrev S32768x3072 : Shape := ⟨2, ![32768, 3072]⟩
abbrev S_ : Shape := ⟨0, ![]⟩
abbrev S32768x5120 : Shape := ⟨2, ![32768, 5120]⟩
abbrev S1024x4 : Shape := ⟨2, ![1024, 4]⟩
abbrev S4x1024x8 : Shape := ⟨3, ![4, 1024, 8]⟩
abbrev S1024x4x8 : Shape := ⟨3, ![1024, 4, 8]⟩
abbrev S1024x32 : Shape := ⟨2, ![1024, 32]⟩
abbrev S1024x40 : Shape := ⟨2, ![1024, 40]⟩
abbrev S1024x128 : Shape := ⟨2, ![1024, 128]⟩
abbrev S1024x256 : Shape := ⟨2, ![1024, 256]⟩
abbrev S4 : Shape := ⟨1, ![4]⟩
abbrev S4x8 : Shape := ⟨2, ![4, 8]⟩
abbrev S32 : Shape := ⟨1, ![32]⟩
abbrev S40 : Shape := ⟨1, ![40]⟩
abbrev S128 : Shape := ⟨1, ![128]⟩
abbrev S1x128 : Shape := ⟨2, ![1, 128]⟩
abbrev S1024x1024 : Shape := ⟨2, ![1024, 1024]⟩
abbrev S2x1024 : Shape := ⟨2, ![2, 1024]⟩
abbrev S1024 : Shape := ⟨1, ![1024]⟩
abbrev S131072x2x128 : Shape := ⟨3, ![131072, 2, 128]⟩
abbrev S32768x128 : Shape := ⟨2, ![32768, 128]⟩
abbrev S131072x1x128 : Shape := ⟨3, ![131072, 1, 128]⟩
abbrev S131072x128 : Shape := ⟨2, ![131072, 128]⟩
abbrev S4096x128 : Shape := ⟨2, ![4096, 128]⟩
abbrev S4096x2x128 : Shape := ⟨3, ![4096, 2, 128]⟩
abbrev S4096x1x128 : Shape := ⟨3, ![4096, 1, 128]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S256x2x128 : Shape := ⟨3, ![256, 2, 128]⟩
abbrev S256x1x128 : Shape := ⟨3, ![256, 1, 128]⟩

abbrev nBuf : Space → Nat
  | .hbm => 62
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x2x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x4, .f32⟩
  | .hbm, ⟨13, _⟩ => ⟨S1x4x1024x8, .f32⟩
  | .hbm, ⟨14, _⟩ => ⟨S1x4x8, .f32⟩
  | .hbm, ⟨15, _⟩ => ⟨S32768x1024, .f32⟩
  | .hbm, ⟨16, _⟩ => ⟨S32768x1024, .bf16⟩
  | .hbm, ⟨17, _⟩ => ⟨S16x2048x3072, .f32⟩
  | .hbm, ⟨18, _⟩ => ⟨S16x2048x3072, .bf16⟩
  | .hbm, ⟨19, _⟩ => ⟨S32768x3072, .bf16⟩
  | .hbm, ⟨20, _⟩ => ⟨S_, .bf16⟩
  | .hbm, ⟨21, _⟩ => ⟨S32768x5120, .bf16⟩
  | .hbm, ⟨22, _⟩ => ⟨S1024x4, .f32⟩
  | .hbm, ⟨23, _⟩ => ⟨S_, .f32⟩
  | .hbm, ⟨24, _⟩ => ⟨S1024x4, .f32⟩
  | .hbm, ⟨25, _⟩ => ⟨S4x1024x8, .f32⟩
  | .hbm, ⟨26, _⟩ => ⟨S1024x4x8, .f32⟩
  | .hbm, ⟨27, _⟩ => ⟨S1024x32, .f32⟩
  | .hbm, ⟨28, _⟩ => ⟨S1024x40, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x128, .bf16⟩
  | .hbm, ⟨33, _⟩ => ⟨S1024x128, .f32⟩
  | .hbm, ⟨34, _⟩ => ⟨S1024x128, .f32⟩
  | .hbm, ⟨35, _⟩ => ⟨S1024x128, .bf16⟩
  | .hbm, ⟨36, _⟩ => ⟨S1024x256, .bf16⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4x8, .f32⟩
  | .hbm, ⟨41, _⟩ => ⟨S32, .f32⟩
  | .hbm, ⟨42, _⟩ => ⟨S40, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S32768x1024, .f32⟩
  | .hbm, ⟨48, _⟩ => ⟨S1024x1024, .f32⟩
  | .hbm, ⟨49, _⟩ => ⟨S1024x1024, .bf16⟩
  | .hbm, ⟨50, _⟩ => ⟨S1024x1024, .f32⟩
  | .hbm, ⟨51, _⟩ => ⟨S1024x1024, .bf16⟩
  | .hbm, ⟨52, _⟩ => ⟨S1024x1024, .f32⟩
  | .hbm, ⟨53, _⟩ => ⟨S1024x1024, .bf16⟩
  | .hbm, ⟨54, _⟩ => ⟨S2x1024, .f32⟩
  | .hbm, ⟨55, _⟩ => ⟨S1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S32768x1024, .f32⟩
  | .hbm, ⟨60, _⟩ => ⟨S131072x2x128, .bf16⟩
  | .hbm, ⟨61, _⟩ => ⟨S32768x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S1x1024, .f32⟩
  | .local _ .vmem, ⟨15, _⟩ => ⟨S1x1024, .f32⟩
  | .local _ .vmem, ⟨16, _⟩ => ⟨S1024x256, .bf16⟩
  | .local _ .vmem, ⟨17, _⟩ => ⟨S1x128, .f32⟩
  | .local _ .vmem, ⟨18, _⟩ => ⟨S1024x1024, .f32⟩
  | .local _ .vmem, ⟨19, _⟩ => ⟨S1024x1024, .f32⟩
  | .local _ .vmem, ⟨20, _⟩ => ⟨S4096x2x128, .bf16⟩
  | .local _ .vmem, ⟨21, _⟩ => ⟨S4096x2x128, .bf16⟩
  | .local _ .vmem, ⟨22, _⟩ => ⟨S1024x128, .f32⟩
  | .local _ .vmem, ⟨23, _⟩ => ⟨S1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_v37_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096x2x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16x2048x1024 : Shape := ⟨3, ![16, 2048, 1024]⟩
abbrev S1x1024x1024 : Shape := ⟨3, ![1, 1024, 1024]⟩
abbrev S1x2x1024 : Shape := ⟨3, ![1, 2, 1024]⟩
abbrev S1x1024 : Shape := ⟨2, ![1, 1024]⟩
abbrev S1x1024x4 : Shape := ⟨3, ![1, 1024, 4]⟩
abbrev S1x4 : Shape := ⟨2, ![1, 4]⟩
abbrev S1x4x1024x8 : Shape := ⟨4, ![1, 4, 1024, 8]⟩
abbrev S1x4x8 : Shape := ⟨3, ![1, 4, 8]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S32768x1024 : Shape := ⟨2, ![32768, 1024]⟩
abbrev S1024x4 : Shape := ⟨2, ![1024, 4]⟩
abbrev S32768x4 : Shape := ⟨2, ![32768, 4]⟩
abbrev S4 : Shape := ⟨1, ![4]⟩
abbrev S4x1024x8 : Shape := ⟨3, ![4, 1024, 8]⟩
abbrev S32768x4x8 : Shape := ⟨3, ![32768, 4, 8]⟩
abbrev S4x8 : Shape := ⟨2, ![4, 8]⟩
abbrev S32768x32 : Shape := ⟨2, ![32768, 32]⟩
abbrev S32768x88 : Shape := ⟨2, ![32768, 88]⟩
abbrev S32768x128 : Shape := ⟨2, ![32768, 128]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x1024, .f32⟩
  | .hbm, ⟨4, _⟩ => ⟨S16x2048x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x2x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x4, .f32⟩
  | .hbm, ⟨13, _⟩ => ⟨S1x4x1024x8, .f32⟩
  | .hbm, ⟨14, _⟩ => ⟨S1x4x8, .f32⟩
  | .hbm, ⟨15, _⟩ => ⟨S1024x1024, .f32⟩
  | .hbm, ⟨16, _⟩ => ⟨S16x2048x1024, .f32⟩
  | .hbm, ⟨17, _⟩ => ⟨S1024x1024, .f32⟩
  | .hbm, ⟨18, _⟩ => ⟨S16x2048x1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S1024x1024, .f32⟩
  | .hbm, ⟨49, _⟩ => ⟨S16x2048x1024, .f32⟩
  | .hbm, ⟨50, _⟩ => ⟨S_, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S_, .f32⟩
  | .hbm, ⟨66, _⟩ => ⟨S16x2048, .f32⟩
  | .hbm, ⟨67, _⟩ => ⟨S16x2048x1, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S16x2048x1024, .f32⟩
  | .hbm, ⟨72, _⟩ => ⟨S16x2048x1024, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1, .f32⟩
  | .hbm, ⟨77, _⟩ => ⟨S16x2048x1024, .f32⟩
  | .hbm, ⟨78, _⟩ => ⟨S16x2048x1024, .f32⟩
  | .hbm, ⟨79, _⟩ => ⟨S1x1x1024, .f32⟩
  | .hbm, ⟨80, _⟩ => ⟨S16x2048x1024, .f32⟩
  | .hbm, ⟨81, _⟩ => ⟨S16x2048x1024, .f32⟩
  | .hbm, ⟨82, _⟩ => ⟨S1x1x1024, .f32⟩
  | .hbm, ⟨83, _⟩ => ⟨S16x2048x1024, .f32⟩
  | .hbm, ⟨84, _⟩ => ⟨S16x2048x1024, .f32⟩
  | .hbm, ⟨85, _⟩ => ⟨S32768x1024, .f32⟩
  | .hbm, ⟨86, _⟩ => ⟨S1024x4, .f32⟩
  | .hbm, ⟨87, _⟩ => ⟨S32768x4, .f32⟩
  | .hbm, ⟨88, _⟩ => ⟨S4, .f32⟩
  | .hbm, ⟨89, _⟩ => ⟨S1x4, .f32⟩
  | .hbm, ⟨90, _⟩ => ⟨S32768x4, .f32⟩
  | .hbm, ⟨91, _⟩ => ⟨S32768x4, .f32⟩
  | .hbm, ⟨92, _⟩ => ⟨S4x1024x8, .f32⟩
  | .hbm, ⟨93, _⟩ => ⟨S32768x4x8, .f32⟩
  | .hbm, ⟨94, _⟩ => ⟨S4x8, .f32⟩
  | .hbm, ⟨95, _⟩ => ⟨S1x4x8, .f32⟩
  | .hbm, ⟨96, _⟩ => ⟨S32768x4x8, .f32⟩
  | .hbm, ⟨97, _⟩ => ⟨S32768x4x8, .f32⟩
  | .hbm, ⟨98, _⟩ => ⟨S_, .f32⟩
  | .hbm, ⟨99, _⟩ => ⟨S32768x4, .f32⟩
  | .hbm, ⟨100, _⟩ => ⟨S32768x32, .f32⟩
  | .hbm, ⟨101, _⟩ => ⟨S_, .f32⟩
  | .hbm, ⟨102, _⟩ => ⟨S32768x88, .f32⟩
  | .hbm, ⟨103, _⟩ => ⟨S32768x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_9 : Ref sig .tc := ⟨.hbm, 98, rfl⟩
abbrev main_v73 : Ref sig .tc := ⟨.hbm, 99, rfl⟩
abbrev main_v74 : Ref sig .tc := ⟨.hbm, 100, rfl⟩
abbrev main_cst_10 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== Proof.Attn.Finite.lean ====
/- The precondition read: arrays whose values are all below infinity in absolute value are arrays of real numbers. -/
module

public import proofs.«01_k».proof.Defs
public import proofs.«01_k».proof.Proof.Gen.Pre_finite

@[expose] public section

noncomputable section

namespace Cert.Attn

open Idealize.ShloMosaic

/-- A value whose absolute value is below infinity is a real number. -/
theorem real_of_abs_lt (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hl : max x (-x) < ⊤ := by
    by_contra hn
    simp [Ideal.cmp, hn] at h'
  have hx := max_lt_iff.mp hl
  refine (EReal.coe_toReal hx.1.ne ?_).symm
  intro hb
  rw [hb] at hx
  simp at hx

section
variable [Cert.Pre_finite.Facts]
open Cert.Pre_finite
variable (a0 a1 a2 : FVec Ideal S16x2048x1024 .f32) (a3 : FVec Ideal S32x4 .f32) (a4 a5 : FVec Ideal S1x2x128 .f32) (a6 : FVec Ideal S1x256 .f32)

/-- Where the precondition is all ones, the six arrays it reads hold real numbers. -/
theorem real_of_finite
    (h : (fn (F := Ideal) a0 a1 a2 a3 a4 a5 a6).1 = (fun _ => 1#1)
      ∧ (fn (F := Ideal) a0 a1 a2 a3 a4 a5 a6).2.1 = (fun _ => 1#1)
      ∧ (fn (F := Ideal) a0 a1 a2 a3 a4 a5 a6).2.2.1 = (fun _ => 1#1)
      ∧ (fn (F := Ideal) a0 a1 a2 a3 a4 a5 a6).2.2.2.1 = (fun _ => 1#1)
      ∧ (fn (F := Ideal) a0 a1 a2 a3 a4 a5 a6).2.2.2.2.1 = (fun _ => 1#1)
      ∧ (fn (F := Ideal) a0 a1 a2 a3 a4 a5 a6).2.2.2.2.2 = (fun _ => 1#1)) :
    (∀ i, a0 i = ((EReal.toReal (a0 i) : ℝ) : EReal)) ∧ (∀ i, a1 i = ((EReal.toReal (a1 i) : ℝ) : EReal))
      ∧ (∀ i, a2 i = ((EReal.toReal (a2 i) : ℝ) : EReal)) ∧ (∀ i, a3 i = ((EReal.toReal (a3 i) : ℝ) : EReal))
      ∧ (∀ i, a4 i = ((EReal.toReal (a4 i) : ℝ) : EReal)) ∧ (∀ i, a5 i = ((EReal.toReal (a5 i) : ℝ) : EReal)) :=
  ⟨fun i => real_of_abs_lt _ (congrFun h.1 i), fun i => real_of_abs_lt _ (congrFun h.2.1 i),
    fun i => real_of_abs_lt _ (congrFun h.2.2.1 i), fun i => real_of_abs_lt _ (congrFun h.2.2.2.1 i),
    fun i => real_of_abs_lt _ (congrFun h.2.2.2.2.1 i), fun i => real_of_abs_lt _ (congrFun h.2.2.2.2.2 i)⟩

end

end Cert.Attn

end
-- ==== Proof.Attn.Tile.lean ====
/- The arithmetic of one output tile of the attention, written once: a tile of logits, the lane-wise row maximum, the
   two weighted sums, and their combination, each as the vector operations the kernel prints, over abstract logits and values. -/
module

public import proofs.«01_k».proof.Proof.Gen.KernelIdeal.Skeleton
public import Idealize.ShloMosaic.Lib.Pipeline.ReadBack

@[expose] public section

noncomputable section

namespace Cert.Attn

open Idealize.ShloMosaic Cert.KernelIdeal Cert.KernelIdeal.Gen

variable {F : FTy → Type} [FloatOps F]

/-- The left 128 columns of a tile. -/
def lane0 (s : FVec F S256x256 .f32) : FVec F S256x128 .f32 := extractStridedSlice S256x128 ![0, 0] s slices_S256x256_o0_0_S256x128
/-- The right 128 columns of a tile. -/
def lane1 (s : FVec F S256x256 .f32) : FVec F S256x128 .f32 := extractStridedSlice S256x128 ![0, 128] s slices_S256x256_o0_128_S256x128

/-- The larger of a tile's two column halves. -/
def tmax (s : FVec F S256x256 .f32) : FVec F S256x128 .f32 := maximumf (lane0 s) (lane1 s)

/-- The running maximum of the column halves of the tiles `0 … n`. -/
def mx (S : ℕ → FVec F S256x256 .f32) : ℕ → FVec F S256x128 .f32
  | 0 => tmax (S 0)
  | n + 1 => maximumf (mx S n) (tmax (S (n + 1)))

/-- Each row's maximum, repeated along the row. -/
def rowMax (x : FVec F S256x128 .f32) : FVec F S256x128 .f32 :=
  broadcastTo S256x128 (shapeCast S256x1 (shapeCast S256x1 (multiReduction .maximumf [1] S256 x 0xFF800000#32 reduces_S256x128_S256 (.inl rfl) rfl)
    shapeCasts_S256_S256x1) shapeCasts_S256x1_S256x1) broadcasts_S256x1_S256x128

/-- A tile as it comes back from the scratch. -/
def back (s : FVec F S256x256 .f32) : FVec F S256x256 .f32 :=
  shapeCast S256x256 (shapeCast S1x1x1x1x256x256 s shapeCasts_S256x256_S1x1x1x1x256x256) shapeCasts_S1x1x1x1x256x256_S256x256

/-- The weights of a tile's left half. -/
def e0 (M : FVec F S256x128 .f32) (s : FVec F S256x256 .f32) : FVec F S256x128 .f32 := exp2 (subf (lane0 (back s)) M)
/-- The weights of a tile's right half. -/
def e1 (M : FVec F S256x128 .f32) (s : FVec F S256x256 .f32) : FVec F S256x128 .f32 := exp2 (subf (lane1 (back s)) M)

/-- The weights of one tile, summed over its two halves. -/
def lsumOne (M : FVec F S256x128 .f32) (s : FVec F S256x256 .f32) : FVec F S256x128 .f32 := addf (e0 M s) (e1 M s)
/-- The weights of two tiles, summed over their four halves. -/
def lsumTwo (M : FVec F S256x128 .f32) (s t : FVec F S256x256 .f32) : FVec F S256x128 .f32 :=
  addf (addf (addf (e0 M s) (e1 M s)) (e0 M t)) (e1 M t)

/-- One tile's weights against 256 rows of values. -/
def partOne (M : FVec F S256x128 .f32) (s : FVec F S256x256 .f32) (v : Vec F S256x256 .bf16) : FVec F S256x256 .f32 :=
  matmul dot_S256x256_S256x256_S256x256_1_0_0_1_n_n none
    (truncf .bf16 (concatenate S256x256 1 [⟨S256x128, e0 M s⟩, ⟨S256x128, e1 M s⟩] concatenates_S256x128_S256x128_S256x256_d1) bitsLt_bf16_f32)
    (shapeCast S256x256 v shapeCasts_S256x256_S256x256) (constant S256x256 .f32 0x00000000#32)
/-- Two tiles' weights against 512 rows of values. -/
def partTwo (M : FVec F S256x128 .f32) (s t : FVec F S256x256 .f32) (v : Vec F S512x256 .bf16) : FVec F S256x256 .f32 :=
  matmul dot_S256x512_S512x256_S256x256_1_0_0_1_n_n none
    (truncf .bf16 (concatenate S256x512 1 [⟨S256x128, e0 M s⟩, ⟨S256x128, e1 M s⟩, ⟨S256x128, e0 M t⟩, ⟨S256x128, e1 M t⟩]
      concatenates_S256x128_S256x128_S256x128_S256x128_S256x512_d1) bitsLt_bf16_f32)
    (shapeCast S512x256 v shapeCasts_S512x256_S512x256) (constant S256x256 .f32 0x00000000#32)

/-- The weights' sum over the tile pairs `0 … p`. -/
def lsumPairs (M : FVec F S256x128 .f32) (S : ℕ → FVec F S256x256 .f32) : ℕ → FVec F S256x128 .f32
  | 0 => lsumTwo M (S 0) (S 1)
  | p + 1 => addf (lsumPairs M S p) (lsumTwo M (S (2 * p + 2)) (S (2 * p + 3)))
/-- The weighted values' sum over the tile pairs `0 … p`. -/
def accPairs (M : FVec F S256x128 .f32) (S : ℕ → FVec F S256x256 .f32) (V : ℕ → Vec F S512x256 .bf16) : ℕ → FVec F S256x256 .f32
  | 0 => partTwo M (S 0) (S 1) (V 0)
  | p + 1 => addf (accPairs M S V p) (partTwo M (S (2 * p + 2)) (S (2 * p + 3)) (V (p + 1)))

/-- The weights' sum over the tiles `0 … 2p`: the pairs, then the last tile. -/
def lsumEven (M : FVec F S256x128 .f32) (S : ℕ → FVec F S256x256 .f32) : ℕ → FVec F S256x128 .f32
  | 0 => lsumOne M (S 0)
  | p + 1 => addf (lsumPairs M S p) (lsumOne M (S (2 * p + 2)))
/-- The weighted values' sum over the tiles `0 … 2p`: the pairs, then the last tile. -/
def accEven (M : FVec F S256x128 .f32) (S : ℕ → FVec F S256x256 .f32) (V : ℕ → Vec F S512x256 .bf16) (W : Vec F S256x256 .bf16) :
    ℕ → FVec F S256x256 .f32
  | 0 => partOne M (S 0) W
  | p + 1 => addf (accPairs M S V p) (partOne M (S (2 * p + 2)) W)

/-- Each row's sum of a 128-column vector. -/
def rowSum (x : FVec F S256x128 .f32) : FVec F S256x1 .f32 :=
  shapeCast S256x1 (multiReduction .add [1] S256 x 0x00000000#32 reduces_S256x128_S256 (.inl rfl) rfl) shapeCasts_S256_S256x1

/-- The first map's quotient less the scaled quotient of the second. -/
def comb (lam : FVec F S1x1 .f32) (a0 a1 : FVec F S256x256 .f32) (l0 l1 : FVec F S256x128 .f32) : FVec F S256x256 .f32 :=
  subf (mulf a0 (broadcastTo S256x256 (divf (broadcast S256x1 (Scalar.ofBits .f32 0x3F800000#32)) (rowSum l0)) broadcasts_S256x1_S256x256))
    (mulf a1 (broadcastTo S256x256 (divf (broadcastTo S256x1 lam broadcasts_S1x1_S256x1) (rowSum l1)) broadcasts_S256x1_S256x256))

/-- The row normalisation, the gain and the last cast. -/
def fin (gain : FVec F S1x256 .f32) (o : FVec F S256x256 .f32) : FVec F S256x256 .bf16 :=
  truncf .bf16 (mulf (mulf o (broadcastTo S256x256 (rsqrt (addf (divf (shapeCast S256x1
    (multiReduction .add [1] S256 (mulf o o) 0x00000000#32 reduces_S256x256_S256 (.inl rfl) rfl) shapeCasts_S256_S256x1)
      (broadcast S256x1 (Scalar.ofBits .f32 0x43800000#32))) (broadcast S256x1 (Scalar.ofBits .f32 0x358637BD#32)))) broadcasts_S256x1_S256x256))
    (broadcastTo S256x256 gain broadcasts_S1x256_S256x256)) bitsLt_bf16_f32

/-- The output tile at an even tile index `2p`. -/
def outEven (lam : FVec F S1x1 .f32) (gain : FVec F S1x256 .f32) (S0 S1 : ℕ → FVec F S256x256 .f32) (V : ℕ → Vec F S512x256 .bf16)
    (W : Vec F S256x256 .bf16) (p : ℕ) : FVec F S256x256 .bf16 :=
  fin gain (comb lam (accEven (rowMax (mx S0 (2 * p))) S0 V W p) (accEven (rowMax (mx S1 (2 * p))) S1 V W p)
    (lsumEven (rowMax (mx S0 (2 * p))) S0 p) (lsumEven (rowMax (mx S1 (2 * p))) S1 p))

/-- The output tile at an odd tile index `2p + 1`. -/
def outOdd (lam : FVec F S1x1 .f32) (gain : FVec F S1x256 .f32) (S0 S1 : ℕ → FVec F S256x256 .f32) (V : ℕ → Vec F S512x256 .bf16)
    (p : ℕ) : FVec F S256x256 .bf16 :=
  fin gain (comb lam (accPairs (rowMax (mx S0 (2 * p + 1))) S0 V p) (accPairs (rowMax (mx S1 (2 * p + 1))) S1 V p)
    (lsumPairs (rowMax (mx S0 (2 * p + 1))) S0 p) (lsumPairs (rowMax (mx S1 (2 * p + 1))) S1 p))

/-- The first row and column of a head's query block: rows of the half `a`, columns of the map `m`. -/
theorem inbQ (a : Fin 2) (h : Fin 4) (m : Fin 2) (k : Fin 2) :
    (![a.val * 256, h.val * 256 + m.val * 128] : Fin 2 → ℕ) k + S256x128.size k ≤ S512x1024.size k := by
  revert a h m k; decide
/-- A pair of key tiles lies within the keys. -/
theorem inbKTwo (h : Fin 4) (m : Fin 2) (p : Fin 4) (k : Fin 2) :
    (![h.val * 256 + m.val * 128, p.val * 512] : Fin 2 → ℕ) k + S128x512.size k ≤ S1024x2048.size k := by
  revert h m p k; decide
/-- A single key tile lies within the keys. -/
theorem inbKOne (h : Fin 4) (m : Fin 2) (p : Fin 4) (k : Fin 2) :
    (![h.val * 256 + m.val * 128, p.val * 512] : Fin 2 → ℕ) k + S128x256.size k ≤ S1024x2048.size k := by
  revert h m p k; decide
/-- A pair of value tiles lies within the values. -/
theorem inbVTwo (h : Fin 4) (p : Fin 4) (k : Fin 2) :
    (![p.val * 512, h.val * 256] : Fin 2 → ℕ) k + S512x256.size k ≤ S2048x1024.size k := by
  revert h p k; decide
/-- A single value tile lies within the values. -/
theorem inbVOne (h : Fin 4) (p : Fin 4) (k : Fin 2) :
    (![p.val * 512, h.val * 256] : Fin 2 → ℕ) k + S256x256.size k ≤ S2048x1024.size k := by
  revert h p k; decide
/-- A bias tile lies within the band. -/
theorem inbB (h : Fin 4) (e : Fin 2) (k : Fin 3) :
    (![h.val, 0, e.val * 256] : Fin 3 → ℕ) k + S1x256x256.size k ≤ S4x256x512.size k := by
  revert h e k; decide
/-- An output tile lies within the block. -/
theorem inbO (a : Fin 2) (h : Fin 4) (k : Fin 2) :
    (![a.val * 256, h.val * 256] : Fin 2 → ℕ) k + S256x256.size k ≤ S512x1024.size k := by
  revert a h k; decide

/-- The query block of a half, a head and a map. -/
def qB (x0 : Vec F S512x1024 .bf16) (a : Fin 2) (h : Fin 4) (m : Fin 2) : FVec F S256x128 .bf16 :=
  shapeCast S256x128 (View.ld x0 (Rect.unit (s := S512x1024) ![a.val * 256, h.val * 256 + m.val * 128] S256x128.size (inbQ a h m)))
    shapeCasts_S256x128_S256x128

/-- The products of a query block with a pair of key tiles. -/
def wideTwo (q : FVec F S256x128 .bf16) (x1 : Vec F S1024x2048 .bf16) (h : Fin 4) (m : Fin 2) (p : Fin 4) : FVec F S256x512 .f32 :=
  matmul dot_S256x128_S128x512_S256x512_1_0_0_1_n_n none q
    (shapeCast S128x512 (View.ld x1 (Rect.unit (s := S1024x2048) ![h.val * 256 + m.val * 128, p.val * 512] S128x512.size (inbKTwo h m p)))
      shapeCasts_S128x512_S128x512) (constant S256x512 .f32 0x00000000#32)
/-- The products of a query block with a single key tile. -/
def wideOne (q : FVec F S256x128 .bf16) (x1 : Vec F S1024x2048 .bf16) (h : Fin 4) (m : Fin 2) (p : Fin 4) : FVec F S256x256 .f32 :=
  matmul dot_S256x128_S128x256_S256x256_1_0_0_1_n_n none q
    (shapeCast S128x256 (View.ld x1 (Rect.unit (s := S1024x2048) ![h.val * 256 + m.val * 128, p.val * 512] S128x256.size (inbKOne h m p)))
      shapeCasts_S128x256_S128x256) (constant S256x256 .f32 0x00000000#32)

/-- Tile `j` of the products, out of its pair. -/
def rawTwo (q : FVec F S256x128 .bf16) (x1 : Vec F S1024x2048 .bf16) (h : Fin 4) (m : Fin 2) (j : ℕ) : FVec F S256x256 .f32 :=
  if j % 2 = 0 then extractStridedSlice S256x256 ![0, 0] (wideTwo q x1 h m ⟨j / 2 % 4, Nat.mod_lt _ (by decide)⟩) slices_S256x512_o0_0_S256x256
  else extractStridedSlice S256x256 ![0, 256] (wideTwo q x1 h m ⟨j / 2 % 4, Nat.mod_lt _ (by decide)⟩) slices_S256x512_o0_256_S256x256

/-- The band's tile for the diagonal (`e = 1`) or the tile before it (`e = 0`). -/
def bB (x3 : Vec F S4x256x512 .f32) (h : Fin 4) (e : Fin 2) : FVec F S256x256 .f32 :=
  shapeCast S256x256 (View.ld x3 (Rect.unit (s := S4x256x512) ![h.val, 0, e.val * 256] S1x256x256.size (inbB h e))) shapeCasts_S1x256x256_S256x256

/-- The logits of the tile index `2s`: its own key tile alone, the earlier ones in pairs. -/
def lgEven (x0 : Vec F S512x1024 .bf16) (x1 : Vec F S1024x2048 .bf16) (x3 : Vec F S4x256x512 .f32) (h : Fin 4) (m : Fin 2) (s : Fin 4) (j : ℕ) :
    FVec F S256x256 .f32 :=
  if j = 2 * s.val then addf (wideOne (qB x0 0 h m) x1 h m s) (bB x3 h 1)
  else if j + 1 = 2 * s.val then addf (rawTwo (qB x0 0 h m) x1 h m j) (bB x3 h 0)
  else rawTwo (qB x0 0 h m) x1 h m j
/-- The logits of the tile index `2s + 1`: all key tiles in pairs. -/
def lgOdd (x0 : Vec F S512x1024 .bf16) (x1 : Vec F S1024x2048 .bf16) (x3 : Vec F S4x256x512 .f32) (h : Fin 4) (m : Fin 2) (s : Fin 4) (j : ℕ) :
    FVec F S256x256 .f32 :=
  if j = 2 * s.val + 1 then addf (rawTwo (qB x0 1 h m) x1 h m j) (bB x3 h 1)
  else if j = 2 * s.val then addf (rawTwo (qB x0 1 h m) x1 h m j) (bB x3 h 0)
  else rawTwo (qB x0 1 h m) x1 h m j

/-- The value rows of pair `p`. -/
def vTwo (x2 : Vec F S2048x1024 .bf16) (h : Fin 4) (p : ℕ) : Vec F S512x256 .bf16 :=
  View.ld x2 (Rect.unit (s := S2048x1024) ![(⟨p % 4, Nat.mod_lt _ (by decide)⟩ : Fin 4).val * 512, h.val * 256] S512x256.size (inbVTwo h _))
/-- The value rows of the single tile `2s`. -/
def vOne (x2 : Vec F S2048x1024 .bf16) (h : Fin 4) (s : Fin 4) : Vec F S256x256 .bf16 :=
  View.ld x2 (Rect.unit (s := S2048x1024) ![s.val * 512, h.val * 256] S256x256.size (inbVOne h s))

/-- The weight of the second map, from the whole of both vectors' blocks. -/
def lamB (x4 x5 : Vec F S2x128 .f32) : FVec F S1x1 .f32 :=
  k0_pay1 (View.ld x4 (Rect.unit (s := S2x128) ![0, 0] ![2, 128] inb_S2x128_S2x128_0_0))
    (View.ld x5 (Rect.unit (s := S2x128) ![0, 0] ![2, 128] inb_S2x128_S2x128_0_0))
/-- The gain row, from the whole of its block. -/
def gainB (x6 : Vec F S1x256 .f32) : FVec F S1x256 .f32 :=
  k0_pay2 (View.ld x6 (Rect.unit (s := S1x256) ![0, 0] ![1, 256] inb_S1x256_S1x256_0_0))

/-- The output tile of half `0` of step `s`. -/
def pieceEven (x0 : Vec F S512x1024 .bf16) (x1 : Vec F S1024x2048 .bf16) (x2 : Vec F S2048x1024 .bf16) (x3 : Vec F S4x256x512 .f32)
    (x4 x5 : Vec F S2x128 .f32) (x6 : Vec F S1x256 .f32) (s h : Fin 4) : View.Piece (Elt F) S512x1024 .bf16 :=
  ⟨Rect.unit (s := S512x1024) ![(0 : Fin 2).val * 256, h.val * 256] S256x256.size (inbO 0 h),
    outEven (lamB x4 x5) (gainB x6) (lgEven x0 x1 x3 h 0 s) (lgEven x0 x1 x3 h 1 s) (vTwo x2 h) (vOne x2 h s) s.val⟩
/-- The output tile of half `1` of step `s`. -/
def pieceOdd (x0 : Vec F S512x1024 .bf16) (x1 : Vec F S1024x2048 .bf16) (x2 : Vec F S2048x1024 .bf16) (x3 : Vec F S4x256x512 .f32)
    (x4 x5 : Vec F S2x128 .f32) (x6 : Vec F S1x256 .f32) (s h : Fin 4) : View.Piece (Elt F) S512x1024 .bf16 :=
  ⟨Rect.unit (s := S512x1024) ![(1 : Fin 2).val * 256, h.val * 256] S256x256.size (inbO 1 h),
    outOdd (lamB x4 x5) (gainB x6) (lgOdd x0 x1 x3 h 0 s) (lgOdd x0 x1 x3 h 1 s) (vTwo x2 h) s.val⟩

/-- The eight output tiles of step `s`, the last one stored first. -/
def tiles (x0 : Vec F S512x1024 .bf16) (x1 : Vec F S1024x2048 .bf16) (x2 : Vec F S2048x1024 .bf16) (x3 : Vec F S4x256x512 .f32)
    (x4 x5 : Vec F S2x128 .f32) (x6 : Vec F S1x256 .f32) (s : Fin 4) : List (View.Piece (Elt F) S512x1024 .bf16) :=
  [pieceOdd x0 x1 x2 x3 x4 x5 x6 s 3, pieceEven x0 x1 x2 x3 x4 x5 x6 s 3,
    pieceOdd x0 x1 x2 x3 x4 x5 x6 s 2, pieceEven x0 x1 x2 x3 x4 x5 x6 s 2,
    pieceOdd x0 x1 x2 x3 x4 x5 x6 s 1, pieceEven x0 x1 x2 x3 x4 x5 x6 s 1,
    pieceOdd x0 x1 x2 x3 x4 x5 x6 s 0, pieceEven x0 x1 x2 x3 x4 x5 x6 s 0]

end Cert.Attn

end
-- ==== Proof.Attn.Rows.lean ====
/- One row of an output tile over the extended reals: the two weighted sums of Tile.lean as sums over the keys, the row
   maximum as a number, and the tile's element from them. -/
module

public import proofs.«01_k».proof.Proof.Attn.Tile
public import Idealize.ShloMosaic.Lib.Pointwise

@[expose] public section

noncomputable section

namespace Cert.Attn

open Idealize.ShloMosaic Cert.KernelIdeal Cert.KernelIdeal.Gen
open scoped BigOperators

/-- The left half at an index. -/
theorem lane0_apply (s : FVec Ideal S256x256 .f32) (r : Fin 256) (c : Fin 128) : lane0 s (ix2 r c) = s (ix2 r ⟨c.val, by omega⟩) := by
  pointwise [lane0]
/-- The right half at an index. -/
theorem lane1_apply (s : FVec Ideal S256x256 .f32) (r : Fin 256) (c : Fin 128) : lane1 s (ix2 r c) = s (ix2 r ⟨128 + c.val, by omega⟩) := by
  pointwise [lane1]
/-- A tile comes back from the scratch as it was. -/
theorem back_apply (s : FVec Ideal S256x256 .f32) (r : Fin 256) (c : Fin 256) : back s (ix2 r c) = s (ix2 r c) := by
  pointwise [back]
/-- The left half's weights at an index. -/
theorem e0_apply (M : FVec Ideal S256x128 .f32) (s : FVec Ideal S256x256 .f32) (r : Fin 256) (c : Fin 128) :
    e0 M s (ix2 r c) = Ideal.exp2 (s (ix2 r ⟨c.val, by omega⟩) - M (ix2 r c)) := by
  rw [← back_apply s, ← lane0_apply (back s)]; rfl
/-- The right half's weights at an index. -/
theorem e1_apply (M : FVec Ideal S256x128 .f32) (s : FVec Ideal S256x256 .f32) (r : Fin 256) (c : Fin 128) :
    e1 M s (ix2 r c) = Ideal.exp2 (s (ix2 r ⟨128 + c.val, by omega⟩) - M (ix2 r c)) := by
  rw [← back_apply s, ← lane1_apply (back s)]; rfl

/-- A row of logits over all the keys, out of the tiles. -/
def rowX (S : ℕ → FVec Ideal S256x256 .f32) (r : Fin 256) (k : ℕ) : EReal := S (k / 256) (ix2 r ⟨k % 256, Nat.mod_lt _ (by decide)⟩)
/-- A column of values over all the keys, out of the pairs of tiles. -/
def colV (V : ℕ → Vec Ideal S512x256 .bf16) (c : Fin 256) (k : ℕ) : EReal := V (k / 512) (ix2 ⟨k % 512, Nat.mod_lt _ (by decide)⟩ c)

/-- A tile's element is the row's element at its key. -/
theorem rowX_eq (S : ℕ → FVec Ideal S256x256 .f32) (r : Fin 256) (j k : ℕ) (c : Fin 256) (h : k = 256 * j + c.val) :
    rowX S r k = S j (ix2 r c) := by
  have h1 : k / 256 = j := by omega
  have h2 : (⟨k % 256, Nat.mod_lt _ (by decide)⟩ : Fin 256) = c := Fin.ext (by show k % 256 = c.val; omega)
  unfold rowX; rw [h1, h2]
/-- A pair's value is the column's value at its key. -/
theorem colV_eq (V : ℕ → Vec Ideal S512x256 .bf16) (c : Fin 256) (j k : ℕ) (d : Fin 512) (h : k = 512 * j + d.val) :
    colV V c k = V j (ix2 d c) := by
  have h1 : k / 512 = j := by omega
  have h2 : (⟨k % 512, Nat.mod_lt _ (by decide)⟩ : Fin 512) = d := Fin.ext (by show k % 512 = d.val; omega)
  unfold colV; rw [h1, h2]

/-- The weight of a key. -/
def wt (S : ℕ → FVec Ideal S256x256 .f32) (r : Fin 256) (μ : EReal) (k : ℕ) : EReal := Ideal.exp2 (rowX S r k - μ)

section Sums
variable (M : FVec Ideal S256x128 .f32) (S : ℕ → FVec Ideal S256x256 .f32) (r : Fin 256) (μ : EReal) (hM : ∀ c, M (ix2 r c) = μ)
include hM

/-- The left half's weights are weights of keys. -/
theorem e0_wt (j : ℕ) (c : Fin 128) : e0 M (S j) (ix2 r c) = wt S r μ (256 * j + c.val) := by
  rw [e0_apply, hM, wt, rowX_eq S r j _ ⟨c.val, by omega⟩ rfl]
/-- The right half's weights are weights of keys. -/
theorem e1_wt (j : ℕ) (c : Fin 128) : e1 M (S j) (ix2 r c) = wt S r μ (256 * j + 128 + c.val) := by
  rw [e1_apply, hM, wt, rowX_eq S r j _ ⟨128 + c.val, by omega⟩ (by show _ = 256 * j + (128 + c.val); omega)]

omit hM in
/-- A sum over 256 keys in two halves. -/
theorem sum_halves (G : ℕ → EReal) (n : ℕ) : ∑ k ∈ Finset.range 256, G (n + k)
    = ∑ c : Fin 128, G (n + c.val) + ∑ c : Fin 128, G (n + 128 + c.val) := by
  rw [show 256 = 128 + 128 from rfl, Finset.sum_range_add, Finset.sum_range, Finset.sum_range]
  simp only [Nat.add_assoc]
omit hM in
/-- A sum over 512 keys in four quarters. -/
theorem sum_quarters (G : ℕ → EReal) (n : ℕ) : ∑ k ∈ Finset.range 512, G (n + k)
    = ∑ c : Fin 128, G (n + c.val) + ∑ c : Fin 128, G (n + 128 + c.val) + ∑ c : Fin 128, G (n + 256 + c.val)
      + ∑ c : Fin 128, G (n + 384 + c.val) := by
  rw [show 512 = 256 + 256 from rfl, Finset.sum_range_add, sum_halves]
  have := sum_halves G (n + 256)
  simp only [Nat.add_assoc] at this ⊢
  rw [this]
  simp only [show ∀ x : ℕ, 256 + (128 + x) = 384 + x from fun x => by omega, add_assoc]

/-- One tile's weights, summed along the row. -/
theorem lsumOne_sum (j : ℕ) : ∑ c : Fin 128, lsumOne M (S j) (ix2 r c) = ∑ k ∈ Finset.range 256, wt S r μ (256 * j + k) := by
  rw [sum_halves, ← Finset.sum_add_distrib]
  refine Finset.sum_congr rfl fun c _ => ?_
  rw [← e0_wt M S r μ hM, ← e1_wt M S r μ hM]; rfl
/-- Two tiles' weights, summed along the row. -/
theorem lsumTwo_sum (p : ℕ) : ∑ c : Fin 128, lsumTwo M (S (2 * p)) (S (2 * p + 1)) (ix2 r c)
    = ∑ k ∈ Finset.range 512, wt S r μ (512 * p + k) := by
  rw [sum_quarters, ← Finset.sum_add_distrib, ← Finset.sum_add_distrib, ← Finset.sum_add_distrib]
  refine Finset.sum_congr rfl fun c _ => ?_
  rw [show 512 * p + c.val = 256 * (2 * p) + c.val by omega, show 512 * p + 128 + c.val = 256 * (2 * p) + 128 + c.val by omega,
    show 512 * p + 256 + c.val = 256 * (2 * p + 1) + c.val by omega, show 512 * p + 384 + c.val = 256 * (2 * p + 1) + 128 + c.val by omega,
    ← e0_wt M S r μ hM, ← e1_wt M S r μ hM, ← e0_wt M S r μ hM, ← e1_wt M S r μ hM]; rfl
/-- The pairs' weights, summed along the row. -/
theorem lsumPairs_sum (p : ℕ) : ∑ c : Fin 128, lsumPairs M S p (ix2 r c) = ∑ k ∈ Finset.range (512 * (p + 1)), wt S r μ k := by
  induction p with
  | zero =>
    refine (lsumTwo_sum M S r μ hM 0).trans ?_
    simp
  | succ p ih =>
    rw [show 512 * (p + 1 + 1) = 512 * (p + 1) + 512 by omega, Finset.sum_range_add, ← ih, ← lsumTwo_sum M S r μ hM (p + 1),
      ← Finset.sum_add_distrib]
    rfl
/-- The weights of an even tile index, summed along the row. -/
theorem lsumEven_sum (p : ℕ) : ∑ c : Fin 128, lsumEven M S p (ix2 r c) = ∑ k ∈ Finset.range (512 * p + 256), wt S r μ k := by
  cases p with
  | zero =>
    refine (lsumOne_sum M S r μ hM 0).trans ?_
    simp
  | succ p =>
    rw [Finset.sum_range_add, ← lsumPairs_sum M S r μ hM p]
    have := lsumOne_sum M S r μ hM (2 * p + 2)
    rw [show 256 * (2 * p + 2) = 512 * (p + 1) by omega] at this
    rw [← this, ← Finset.sum_add_distrib]
    rfl

variable (V : ℕ → Vec Ideal S512x256 .bf16) (c : Fin 256)

/-- One tile's weights against its values. -/
theorem partOne_sum (W : Vec Ideal S256x256 .bf16) (j : ℕ) (v : ℕ → EReal) (hW : ∀ d : Fin 256, W (ix2 d c) = v (256 * j + d.val)) :
    partOne M (S j) W (ix2 r c) = ∑ k ∈ Finset.range 256, wt S r μ (256 * j + k) * v (256 * j + k) := by
  rw [sum_halves (fun k => wt S r μ k * v k)]
  pointwise [partOne]
  refine congrArg₂ (· + ·) (Finset.sum_congr rfl fun d _ => ?_) (Finset.sum_congr rfl fun d _ => ?_)
  · rw [e0_wt M S r μ hM]; exact congrArg _ (hW _)
  · rw [e1_wt M S r μ hM, Nat.add_assoc]; exact congrArg _ (hW _)
/-- Two tiles' weights against their values. -/
theorem partTwo_sum (p : ℕ) : partTwo M (S (2 * p)) (S (2 * p + 1)) (V p) (ix2 r c)
    = ∑ k ∈ Finset.range 512, wt S r μ (512 * p + k) * colV V c (512 * p + k) := by
  rw [Finset.sum_range]
  pointwise [partTwo]
  refine Finset.sum_congr rfl fun d _ => ?_
  rw [colV_eq V c p _ d rfl]
  have key : (if h : d.val < 128 then e0 M (S (2 * p)) (ix2 r ⟨d.val, h⟩)
      else if h : d.val - 128 < 128 then e1 M (S (2 * p)) (ix2 r ⟨d.val - 128, h⟩)
      else if h : d.val - 128 - 128 < 128 then e0 M (S (2 * p + 1)) (ix2 r ⟨d.val - 128 - 128, h⟩)
      else e1 M (S (2 * p + 1)) (ix2 r ⟨d.val - 128 - 128 - 128, by omega⟩)) = wt S r μ (512 * p + d.val) := by
    split_ifs with h1 h2 h3
    · rw [e0_wt M S r μ hM]; exact congrArg _ (by show 256 * (2 * p) + d.val = _; omega)
    · rw [e1_wt M S r μ hM]; exact congrArg _ (by show 256 * (2 * p) + 128 + (d.val - 128) = _; omega)
    · rw [e0_wt M S r μ hM]; exact congrArg _ (by show 256 * (2 * p + 1) + (d.val - 128 - 128) = _; omega)
    · rw [e1_wt M S r μ hM]; exact congrArg _ (by show 256 * (2 * p + 1) + 128 + (d.val - 128 - 128 - 128) = _; omega)
  exact congrArg (· * _) key
/-- The pairs' weights against their values. -/
theorem accPairs_sum (p : ℕ) : accPairs M S V p (ix2 r c) = ∑ k ∈ Finset.range (512 * (p + 1)), wt S r μ k * colV V c k := by
  induction p with
  | zero =>
    refine (partTwo_sum M S r μ hM V c 0).trans ?_
    simp
  | succ p ih =>
    rw [show 512 * (p + 1 + 1) = 512 * (p + 1) + 512 by omega, Finset.sum_range_add, ← ih, ← partTwo_sum M S r μ hM V c (p + 1)]
    rfl
/-- The weights of an even tile index against their values. -/
theorem accEven_sum (W : Vec Ideal S256x256 .bf16) (p : ℕ) (hW : ∀ d : Fin 256, W (ix2 d c) = colV V c (512 * p + d.val)) :
    accEven M S V W p (ix2 r c) = ∑ k ∈ Finset.range (512 * p + 256), wt S r μ k * colV V c k := by
  cases p with
  | zero =>
    refine (partOne_sum M S r μ hM c W 0 (colV V c) (by simpa using hW)).trans ?_
    simp
  | succ p =>
    rw [Finset.sum_range_add, ← accPairs_sum M S r μ hM V c p]
    have := partOne_sum M S r μ hM c W (2 * p + 2) (colV V c) (fun d => by rw [hW]; congr 1; omega)
    rw [show 256 * (2 * p + 2) = 512 * (p + 1) by omega] at this
    rw [← this]
    rfl

end Sums

/-- The bit pattern of minus infinity. -/
theorem ofBits_negInf : Ideal.ofBits .f32 0xFF800000#32 = ⊥ := by
  simp [Ideal.ofBits, Ideal.ieee]

/-- A row's maximum as a number. -/
def rmax (S : ℕ → FVec Ideal S256x256 .f32) (r : Fin 256) (n : ℕ) : EReal :=
  Finset.univ.fold max ⊥ fun c : Fin 128 => mx S n (ix2 r c)
/-- The row maximum is that number in every column. -/
theorem rowMax_mx (S : ℕ → FVec Ideal S256x256 .f32) (r : Fin 256) (n : ℕ) (c : Fin 128) : rowMax (mx S n) (ix2 r c) = rmax S r n := by
  pointwise [rowMax]
  rw [ofBits_negInf]; rfl

/-- A larger-half element in terms of the row. -/
theorem tmax_apply (S : ℕ → FVec Ideal S256x256 .f32) (r : Fin 256) (n : ℕ) (c : Fin 128) :
    tmax (S n) (ix2 r c) = max (rowX S r (256 * n + c.val)) (rowX S r (256 * n + 128 + c.val)) := by
  rw [rowX_eq S r n _ ⟨c.val, by omega⟩ rfl, rowX_eq S r n _ ⟨128 + c.val, by omega⟩ (by show _ = 256 * n + (128 + c.val); omega),
    ← lane0_apply (S n), ← lane1_apply (S n)]; rfl
/-- Where no logit of a row is `⊤`, no running maximum is. -/
theorem mx_ne_top (S : ℕ → FVec Ideal S256x256 .f32) (r : Fin 256) (n : ℕ) (h : ∀ k < 256 * (n + 1), rowX S r k ≠ ⊤) (c : Fin 128) :
    mx S n (ix2 r c) ≠ ⊤ := by
  induction n with
  | zero =>
    show tmax (S 0) (ix2 r c) ≠ ⊤
    rw [tmax_apply, ← lt_top_iff_ne_top, max_lt_iff]
    exact ⟨lt_top_iff_ne_top.2 (h _ (by omega)), lt_top_iff_ne_top.2 (h _ (by omega))⟩
  | succ n ih =>
    show max (mx S n (ix2 r c)) (tmax (S (n + 1)) (ix2 r c)) ≠ ⊤
    rw [tmax_apply, ← lt_top_iff_ne_top, max_lt_iff, max_lt_iff]
    exact ⟨lt_top_iff_ne_top.2 (ih fun k hk => h k (by omega)), lt_top_iff_ne_top.2 (h _ (by omega)), lt_top_iff_ne_top.2 (h _ (by omega))⟩
/-- The row maximum is at least every logit of the last tile. -/
theorem le_rmax (S : ℕ → FVec Ideal S256x256 .f32) (r : Fin 256) (n : ℕ) (d : Fin 256) : rowX S r (256 * n + d.val) ≤ rmax S r n := by
  have ht : ∀ c : Fin 128, tmax (S n) (ix2 r c) ≤ rmax S r n := fun c => by
    refine le_trans ?_ ((Finset.le_fold_max _).2 (Or.inr ⟨c, Finset.mem_univ _, le_rfl⟩))
    cases n with
    | zero => exact le_rfl
    | succ n => exact le_max_right _ _
  by_cases hd : d.val < 128
  · exact le_trans (le_trans (le_max_left _ _) (tmax_apply S r n ⟨d.val, hd⟩).ge) (ht _)
  · have e : 256 * n + d.val = 256 * n + 128 + (⟨d.val - 128, by omega⟩ : Fin 128).val := by show _ = 256 * n + 128 + (d.val - 128); omega
    rw [e]
    exact le_trans (le_trans (le_max_right _ _) (tmax_apply S r n _).ge) (ht _)
/-- The row maximum is a real number where no logit is `⊤` and one of the last tile isn't `⊥`. -/
theorem rmax_real (S : ℕ → FVec Ideal S256x256 .f32) (r : Fin 256) (n : ℕ) (h : ∀ k < 256 * (n + 1), rowX S r k ≠ ⊤) (d : Fin 256)
    (hd : rowX S r (256 * n + d.val) ≠ ⊥) : ∃ M : ℝ, rmax S r n = (M : EReal) := by
  have h1 : rmax S r n ≠ ⊥ := fun e => hd (le_bot_iff.1 (e ▸ le_rmax S r n d))
  have h2 : rmax S r n ≠ ⊤ := by
    rw [← lt_top_iff_ne_top]
    exact (Finset.fold_max_lt _).2 ⟨bot_lt_top, fun c _ => lt_top_iff_ne_top.2 (mx_ne_top S r n h c)⟩
  exact ⟨(rmax S r n).toReal, (EReal.coe_toReal h2 h1).symm⟩

/-- The combination of two maps' sums, before the normalisation. -/
def mix (lam : EReal) (x0 x1 : ℕ → EReal) (v : ℕ → EReal) (n : ℕ) : EReal :=
  (∑ k ∈ Finset.range n, x0 k * v k) * Ideal.div 1 (∑ k ∈ Finset.range n, x0 k)
    - (∑ k ∈ Finset.range n, x1 k * v k) * Ideal.div lam (∑ k ∈ Finset.range n, x1 k)

/-- The combination at an index. -/
theorem comb_apply (lam : FVec Ideal S1x1 .f32) (a0 a1 : FVec Ideal S256x256 .f32) (l0 l1 : FVec Ideal S256x128 .f32) (r : Fin 256)
    (c : Fin 256) : comb lam a0 a1 l0 l1 (ix2 r c) = a0 (ix2 r c) * Ideal.div 1 (∑ k : Fin 128, l0 (ix2 r k))
      - a1 (ix2 r c) * Ideal.div (lam (ix2 0 0)) (∑ k : Fin 128, l1 (ix2 r k)) := by
  pointwise [comb, rowSum]

/-- The row normalisation of `o`, with a gain. -/
def norm (o : Fin 256 → EReal) (g : EReal) (c : Fin 256) : EReal :=
  o c * Ideal.rsqrt (Ideal.div (∑ x, o x * o x) (Ideal.ofBits .f32 0x43800000#32) + Ideal.ofBits .f32 0x358637BD#32) * g

/-- The normalisation at an index. -/
theorem fin_apply (gain : FVec Ideal S1x256 .f32) (o : FVec Ideal S256x256 .f32) (r : Fin 256) (c : Fin 256) :
    fin gain o (ix2 r c) = norm (fun x => o (ix2 r x)) (gain (ix2 0 c)) c := by
  pointwise [fin, norm]

/-- An even output tile's element from sums over the keys. -/
theorem outEven_apply (lam : FVec Ideal S1x1 .f32) (gain : FVec Ideal S1x256 .f32) (S0 S1 : ℕ → FVec Ideal S256x256 .f32)
    (V : ℕ → Vec Ideal S512x256 .bf16) (W : Vec Ideal S256x256 .bf16) (p : ℕ)
    (hW : ∀ d c : Fin 256, W (ix2 d c) = colV V c (512 * p + d.val)) (r c : Fin 256) :
    outEven lam gain S0 S1 V W p (ix2 r c) = norm (fun x => mix (lam (ix2 0 0)) (wt S0 r (rmax S0 r (2 * p))) (wt S1 r (rmax S1 r (2 * p)))
      (colV V x) (512 * p + 256)) (gain (ix2 0 c)) c := by
  rw [outEven, fin_apply]
  refine congrArg (norm · _ _) (funext fun x => ?_)
  rw [comb_apply, accEven_sum _ _ r _ (rowMax_mx S0 r (2 * p)) V x W p (hW · x), accEven_sum _ _ r _ (rowMax_mx S1 r (2 * p)) V x W p (hW · x),
    lsumEven_sum _ _ r _ (rowMax_mx S0 r (2 * p)), lsumEven_sum _ _ r _ (rowMax_mx S1 r (2 * p)), mix]
/-- An odd output tile's element from sums over the keys. -/
theorem outOdd_apply (lam : FVec Ideal S1x1 .f32) (gain : FVec Ideal S1x256 .f32) (S0 S1 : ℕ → FVec Ideal S256x256 .f32)
    (V : ℕ → Vec Ideal S512x256 .bf16) (p : ℕ) (r c : Fin 256) :
    outOdd lam gain S0 S1 V p (ix2 r c) = norm (fun x => mix (lam (ix2 0 0)) (wt S0 r (rmax S0 r (2 * p + 1))) (wt S1 r (rmax S1 r (2 * p + 1)))
      (colV V x) (512 * (p + 1))) (gain (ix2 0 c)) c := by
  rw [outOdd, fin_apply]
  refine congrArg (norm · _ _) (funext fun x => ?_)
  rw [comb_apply, accPairs_sum _ _ r _ (rowMax_mx S0 r (2 * p + 1)) V x p, accPairs_sum _ _ r _ (rowMax_mx S1 r (2 * p + 1)) V x p,
    lsumPairs_sum _ _ r _ (rowMax_mx S0 r (2 * p + 1)), lsumPairs_sum _ _ r _ (rowMax_mx S1 r (2 * p + 1)), mix]

end Cert.Attn

end
-- ==== Proof.Attn.Core.lean ====
/- One row of the differential attention over the real numbers, and the two ways of computing it: from weights that are
   each a fixed multiple of the exponentials, summed first and divided after, or divided first and summed after. -/
module

public import proofs.«01_k».proof.Proof.Attn.Rows

@[expose] public section

noncomputable section

namespace Cert.Attn

open Idealize.ShloMosaic
open scoped BigOperators

/-- The weight of a key: the exponential of its logit where the key may be attended to, and zero elsewhere. -/
def weight (ok : ℕ → Prop) [DecidablePred ok] (y : ℕ → ℝ) (k : ℕ) : ℝ := if ok k then Real.exp (y k) else 0

/-- The first map's average of the values less `lam` times the second map's. -/
def row (ok : ℕ → Prop) [DecidablePred ok] (y0 y1 : ℕ → ℝ) (lam : ℝ) (v : ℕ → ℝ) : ℝ :=
  (∑ k ∈ Finset.range 2048, weight ok y0 k * v k) / (∑ k ∈ Finset.range 2048, weight ok y0 k)
    - (∑ k ∈ Finset.range 2048, weight ok y1 k * v k) * (lam / ∑ k ∈ Finset.range 2048, weight ok y1 k)

/-- The quotient of two real numbers, the divisor not zero. -/
theorem div_coe (a b : ℝ) (hb : b ≠ 0) : Ideal.div (a : EReal) (b : EReal) = ((a / b : ℝ) : EReal) := by
  have : (b : EReal) ≠ 0 := by simpa using hb
  rw [Ideal.div, if_neg this, ← EReal.coe_inv, ← EReal.coe_mul, div_eq_mul_inv]

/-- A sum of real numbers is a real number. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section
variable (ok : ℕ → Prop) [DecidablePred ok]

/-- The weights' sum is positive where some key may be attended to. -/
theorem weight_sum_pos (y : ℕ → ℝ) (d : ℕ) (hd : d < 2048) (hok : ok d) : 0 < ∑ k ∈ Finset.range 2048, weight ok y k := by
  refine Finset.sum_pos' (fun k _ => ?_) ⟨d, Finset.mem_range.2 hd, ?_⟩
  · unfold weight; split_ifs
    · exact (Real.exp_pos _).le
    · exact le_rfl
  · unfold weight; rw [if_pos hok]; exact Real.exp_pos _

/-- A sum over the first `n` keys is the sum over all, where the rest weigh nothing. -/
theorem sum_short (y : ℕ → ℝ) (v : ℕ → ℝ) (n : ℕ) (hn : n ≤ 2048) (h : ∀ k, n ≤ k → k < 2048 → ¬ok k) :
    ∑ k ∈ Finset.range n, weight ok y k * v k = ∑ k ∈ Finset.range 2048, weight ok y k * v k := by
  refine Finset.sum_subset (fun k hk => Finset.mem_range.2 (lt_of_lt_of_le (Finset.mem_range.1 hk) hn)) fun k hk hk' => ?_
  rw [weight, if_neg (h k (by simpa using hk') (by simpa using hk)), zero_mul]

/-- Weights that are a multiple of the exponentials, summed first: the combination is the row's value. -/
theorem mix_eq (y0 y1 : ℕ → ℝ) (lam : ℝ) (v : ℕ → ℝ) (x0 x1 u : ℕ → EReal) (n : ℕ) (hn : n ≤ 2048) (C0 C1 : ℝ) (h0 : C0 ≠ 0) (h1 : C1 ≠ 0)
    (hx0 : ∀ k < n, x0 k = ((C0 * weight ok y0 k : ℝ) : EReal)) (hx1 : ∀ k < n, x1 k = ((C1 * weight ok y1 k : ℝ) : EReal))
    (hu : ∀ k < n, u k = (v k : EReal)) (hz : ∀ k, n ≤ k → k < 2048 → ¬ok k) (d : ℕ) (hd : d < 2048) (hok : ok d) :
    mix (lam : EReal) x0 x1 u n = ((row ok y0 y1 lam v : ℝ) : EReal) := by
  have a : ∀ (y : ℕ → ℝ) (C : ℝ) (x : ℕ → EReal), (∀ k < n, x k = ((C * weight ok y k : ℝ) : EReal)) →
      ∑ k ∈ Finset.range n, x k * u k = ((C * ∑ k ∈ Finset.range 2048, weight ok y k * v k : ℝ) : EReal) := fun y C x hx => by
    rw [← sum_short ok y v n hn hz, Finset.mul_sum, ← coe_sum]
    refine Finset.sum_congr rfl fun k hk => ?_
    rw [hx k (Finset.mem_range.1 hk), hu k (Finset.mem_range.1 hk), ← EReal.coe_mul, mul_assoc]
  have b : ∀ (y : ℕ → ℝ) (C : ℝ) (x : ℕ → EReal), (∀ k < n, x k = ((C * weight ok y k : ℝ) : EReal)) →
      ∑ k ∈ Finset.range n, x k = ((C * ∑ k ∈ Finset.range 2048, weight ok y k : ℝ) : EReal) := fun y C x hx => by
    have := sum_short ok y (fun _ => 1) n hn hz
    simp only [mul_one] at this
    rw [← this, Finset.mul_sum, ← coe_sum]
    exact Finset.sum_congr rfl fun k hk => hx k (Finset.mem_range.1 hk)
  have w0 := (weight_sum_pos ok y0 d hd hok).ne'
  have w1 := (weight_sum_pos ok y1 d hd hok).ne'
  rw [mix, a y0 C0 x0 hx0, a y1 C1 x1 hx1, b y0 C0 x0 hx0, b y1 C1 x1 hx1, ← EReal.coe_one, div_coe _ _ (mul_ne_zero h0 w0),
    div_coe _ _ (mul_ne_zero h1 w1), ← EReal.coe_mul, ← EReal.coe_mul, ← EReal.coe_sub, row]
  congr 1
  field_simp

/-- Weights that are a multiple of the exponentials, divided first: the sum of the values is the row's value. -/
theorem late_eq (y0 y1 : ℕ → ℝ) (lam : ℝ) (v : ℕ → ℝ) (g0 g1 u : Fin 2048 → EReal) (D0 D1 : ℝ) (h0 : D0 ≠ 0) (h1 : D1 ≠ 0)
    (hg0 : ∀ k : Fin 2048, g0 k = ((D0 * weight ok y0 k.val : ℝ) : EReal)) (hg1 : ∀ k : Fin 2048, g1 k = ((D1 * weight ok y1 k.val : ℝ) : EReal))
    (hu : ∀ k : Fin 2048, u k = (v k.val : EReal)) (d : ℕ) (hd : d < 2048) (hok : ok d) :
    ∑ k : Fin 2048, u k * (Ideal.div (g0 k) (∑ k, g0 k) - (lam : EReal) * Ideal.div (g1 k) (∑ k, g1 k))
      = ((row ok y0 y1 lam v : ℝ) : EReal) := by
  have b : ∀ (y : ℕ → ℝ) (D : ℝ) (g : Fin 2048 → EReal), (∀ k : Fin 2048, g k = ((D * weight ok y k.val : ℝ) : EReal)) →
      ∑ k, g k = ((D * ∑ k ∈ Finset.range 2048, weight ok y k : ℝ) : EReal) := fun y D g hg => by
    rw [Finset.sum_range, Finset.mul_sum, ← coe_sum]
    exact Finset.sum_congr rfl fun k _ => hg k
  have w0 := (weight_sum_pos ok y0 d hd hok).ne'
  have w1 := (weight_sum_pos ok y1 d hd hok).ne'
  rw [b y0 D0 g0 hg0, b y1 D1 g1 hg1]
  have e : ∀ k : Fin 2048, u k * (Ideal.div (g0 k) ((D0 * ∑ k ∈ Finset.range 2048, weight ok y0 k : ℝ) : EReal)
      - (lam : EReal) * Ideal.div (g1 k) ((D1 * ∑ k ∈ Finset.range 2048, weight ok y1 k : ℝ) : EReal))
      = ((weight ok y0 k.val * v k.val / (∑ k ∈ Finset.range 2048, weight ok y0 k)
        - weight ok y1 k.val * v k.val * (lam / ∑ k ∈ Finset.range 2048, weight ok y1 k) : ℝ) : EReal) := fun k => by
    rw [hg0, hg1, hu, div_coe _ _ (mul_ne_zero h0 w0), div_coe _ _ (mul_ne_zero h1 w1), ← EReal.coe_mul, ← EReal.coe_sub, ← EReal.coe_mul]
    congr 1
    field_simp
  rw [Finset.sum_congr rfl fun k _ => e k, coe_sum, row, Finset.sum_div, Finset.sum_mul, ← Finset.sum_sub_distrib]
  simp only [Finset.sum_range]

/-- The kernel's weights: powers of two of shifted logits in units of `log 2`, a multiple of the exponentials. -/
theorem exp2_weight (y : ℕ → ℝ) (β M : ℝ) (x : ℕ → EReal) (n : ℕ) (h1 : ∀ k < n, ok k → x k = (((y k - β) * (1 / Real.log 2) : ℝ) : EReal))
    (h2 : ∀ k < n, ¬ok k → x k = ⊥) : ∀ k < n, Ideal.exp2 (x k - (M : EReal)) = ((Real.exp (-β - M * Real.log 2) * weight ok y k : ℝ) : EReal) := by
  intro k hk
  have hl : Real.log 2 ≠ 0 := (Real.log_pos (by norm_num)).ne'
  unfold weight
  split_ifs with h
  · rw [h1 k hk h, ← EReal.coe_sub, ← Real.exp_add]
    show ((Real.rpow 2 _ : ℝ) : EReal) = _
    congr 1
    show (2 : ℝ) ^ (_ : ℝ) = _
    rw [Real.rpow_def_of_pos (by norm_num)]
    congr 1
    field_simp
    ring
  · rw [h2 k hk h, mul_zero, EReal.bot_sub]; show (0 : EReal) = _; simp

/-- The reference's weights: exponentials of shifted logits. -/
theorem exp_weight (y : ℕ → ℝ) (N : ℝ) (x : Fin 2048 → EReal) (h1 : ∀ k, ok k.val → x k = ((y k.val : ℝ) : EReal))
    (h2 : ∀ k : Fin 2048, ¬ok k.val → x k = ⊥) (k : Fin 2048) :
    Ideal.exp (x k - (N : EReal)) = ((Real.exp (-N) * weight ok y k.val : ℝ) : EReal) := by
  unfold weight
  split_ifs with h
  · rw [h1 k h, ← EReal.coe_sub, ← Real.exp_add]
    show ((Real.exp _ : ℝ) : EReal) = _
    congr 2
    ring
  · rw [h2 k h, mul_zero, EReal.bot_sub]; show (0 : EReal) = _; simp

end

end Cert.Attn

end
-- ==== Proof.Attn.Bucket.lean ====
/- The relative-position bucket: its thresholds as whole numbers, and the logarithm's formula rounded toward zero, which
   gives the same bucket. -/
module

public import Idealize.ShloMosaic.PureOps.Ideal
public import Idealize.ShloMosaic.Lib.Pointwise

@[expose] public section

noncomputable section

namespace Cert.Attn

open Idealize.ShloMosaic

/-- The bucket of a distance, of sixteen: the distance itself below eight, and then by half powers of two. -/
def large (n : ℕ) : ℕ :=
  if n < 8 then n else if n < 12 then 8 else if n < 16 then 9 else if n < 23 then 10 else if n < 32 then 11 else if n < 46 then 12
  else if n < 64 then 13 else if n < 91 then 14 else 15

/-- The bucket of a query and a key: sixteen more where the key comes after the query. -/
def bucket (q k : ℕ) : ℕ := (if q < k then 16 else 0) + large (k - q + (q - k))

/-- A distance's bucket is one of sixteen. -/
theorem large_lt (n : ℕ) : large n < 16 := by unfold large; split_ifs <;> omega
/-- A bucket is one of thirty-two. -/
theorem bucket_lt (q k : ℕ) : bucket q k < 32 := by have := large_lt (k - q + (q - k)); unfold bucket; split_ifs <;> omega

/-- Eight times the logarithm of `n / 8` to the base sixteen lies between the whole number `j` and the next. -/
theorem log_between (n j : ℕ) (hn : 8 ≤ n) (h1 : 64 * 2 ^ j ≤ n * n) (h2 : n * n < 64 * 2 ^ (j + 1)) :
    (j : ℝ) ≤ Real.log ((n : ℝ) / 8) / Real.log 16 * 8 ∧ Real.log ((n : ℝ) / 8) / Real.log 16 * 8 < (j : ℝ) + 1 := by
  have hl : 0 < Real.log 2 := Real.log_pos (by norm_num)
  have h16 : Real.log 16 = 4 * Real.log 2 := by rw [show (16 : ℝ) = 2 ^ (4 : ℕ) by norm_num, Real.log_pow]; norm_num
  have hp : (0 : ℝ) < n := by exact_mod_cast (by omega : 0 < n)
  have e : Real.log ((n : ℝ) / 8) / Real.log 16 * 8 = Real.log ((n : ℝ) * n / 64) / Real.log 2 := by
    have : (n : ℝ) * n / 64 = ((n : ℝ) / 8) ^ (2 : ℕ) := by ring
    rw [this, Real.log_pow, h16]; field_simp; push_cast; ring
  have r1 : (64 : ℝ) * 2 ^ j ≤ n * n := by exact_mod_cast h1
  have r2 : (n : ℝ) * n < 64 * 2 ^ (j + 1) := by exact_mod_cast h2
  rw [e]
  constructor
  · rw [le_div_iff₀ hl, ← Real.log_pow]
    exact Real.log_le_log (by positivity) (by linarith)
  · rw [div_lt_iff₀ hl]
    have : ((j : ℝ) + 1) * Real.log 2 = Real.log (2 ^ (j + 1)) := by rw [Real.log_pow]; push_cast; ring
    rw [this]
    exact Real.log_lt_log (by positivity) (by linarith)

/-- The formula, rounded toward zero. -/
theorem fptosi_log (n j : ℕ) (hn : 8 ≤ n) (hj : j < 100) (h1 : 64 * 2 ^ j ≤ n * n) (h2 : n * n < 64 * 2 ^ (j + 1)) :
    Ideal.fptosi 32 ((Real.log ((n : ℝ) / 8) / Real.log 16 * 8 : ℝ) : EReal) = BitVec.ofNat 32 j := by
  obtain ⟨a, b⟩ := log_between n j hn h1 h2
  have hf : ⌊Real.log ((n : ℝ) / 8) / Real.log 16 * 8⌋ = (j : ℤ) := Int.floor_eq_iff.2 ⟨by exact_mod_cast a, by exact_mod_cast b⟩
  rw [Ideal.fptosi, Ideal.toIntClamped_coe, if_pos (le_trans (by positivity) a), hf]
  have : max (-((2 ^ (32 - 1) : ℕ) : ℤ)) (min (((2 ^ (32 - 1) : ℕ) : ℤ) - 1) (j : ℤ)) = (j : ℤ) := by norm_num; omega
  rw [this]; simp

/-- The whole number between, for each distance, gives the distance's bucket. -/
theorem exists_between (n : ℕ) (hn : 8 ≤ n) (hb : n < 2048) : ∃ j < 100, 64 * 2 ^ j ≤ n * n ∧ n * n < 64 * 2 ^ (j + 1) ∧ large n = min (8 + j) 15 := by
  have hq : n * n / 64 ≠ 0 := by have : 64 ≤ n * n := by nlinarith
                                 omega
  refine ⟨Nat.log 2 (n * n / 64), ?_, ?_, ?_, ?_⟩
  · refine Nat.log_lt_of_lt_pow hq (lt_of_le_of_lt (Nat.div_le_self _ _) (lt_of_lt_of_le (show n * n < 2 ^ 22 by nlinarith) (Nat.pow_le_pow_right (by norm_num) (by norm_num))))
  · have := Nat.pow_log_le_self 2 hq; omega
  · have := Nat.lt_pow_succ_log_self (b := 2) (by norm_num) (n * n / 64)
    rw [Nat.succ_eq_add_one] at this; omega
  · generalize hj : Nat.log 2 (n * n / 64) = j
    have a : 2 ^ j ≤ n * n / 64 := hj ▸ Nat.pow_log_le_self 2 hq
    have b : n * n / 64 < 2 ^ (j + 1) := hj ▸ Nat.lt_pow_succ_log_self (b := 2) (by norm_num) (n * n / 64)
    have a' : 64 * 2 ^ j ≤ n * n := by omega
    have b' : n * n < 64 * 2 ^ (j + 1) := by omega
    clear a b hj hq
    by_cases h7 : 7 ≤ j
    · have : 2 ^ 7 ≤ 2 ^ j := Nat.pow_le_pow_right (by norm_num) h7
      have : 91 ≤ n := by by_contra h; have : n ≤ 90 := by omega
                          nlinarith
      unfold large; repeat rw [if_neg (by omega)]
      omega
    · have : j = 0 ∨ j = 1 ∨ j = 2 ∨ j = 3 ∨ j = 4 ∨ j = 5 ∨ j = 6 := by omega
      unfold large
      rcases this with rfl | rfl | rfl | rfl | rfl | rfl | rfl <;> norm_num at a' b' ⊢
      · have : n < 12 := by nlinarith
        split_ifs <;> omega
      · have : 12 ≤ n := by nlinarith
        have : n < 16 := by nlinarith
        split_ifs <;> omega
      · have : 16 ≤ n := by nlinarith
        have : n < 23 := by nlinarith
        split_ifs <;> omega
      · have : 23 ≤ n := by nlinarith
        have : n < 32 := by nlinarith
        split_ifs <;> omega
      · have : 32 ≤ n := by nlinarith
        have : n < 46 := by nlinarith
        split_ifs <;> omega
      · have : 46 ≤ n := by nlinarith
        have : n < 64 := by nlinarith
        split_ifs <;> omega
      · have : 64 ≤ n := by nlinarith
        have : n < 91 := by nlinarith
        split_ifs <;> omega

end Cert.Attn

end
-- ==== Proof.Attn.Spec.lean ====
/- The attention over the real numbers: a logit, the mask, the second map's weight and the mixed values, from real
   queries, keys, values and biases, and the real values of the constants both programs print. -/
module

public import proofs.«01_k».proof.Proof.Attn.Core
public import proofs.«01_k».proof.Proof.Attn.Bucket

@[expose] public section

noncomputable section

namespace Cert.Attn

open Idealize.ShloMosaic Cert.KernelIdeal
open scoped BigOperators

/-- The logits' scale as printed: the single-precision number nearest to one over the square root of 128. -/
def scale : ℝ := 11863283 / 134217728
/-- The printed constant of the second map's weight. -/
def lam0 : ℝ := 13421773 / 67108864

/-- The printed scale is `scale`. -/
theorem ofBits_scale : Ideal.ofBits .f32 0x3DB504F3#32 = (scale : EReal) := by
  simp [Ideal.ofBits, Ideal.ieee, scale]; rw [← EReal.coe_mul]; congr 1; norm_num
/-- The printed constant is `lam0`. -/
theorem ofBits_lam0 : Ideal.ofBits .f32 0x3E4CCCCD#32 = (lam0 : EReal) := by
  simp [Ideal.ofBits, Ideal.ieee, lam0]; rw [← EReal.coe_mul]; congr 1; norm_num
/-- The printed two. -/
theorem ofBits_two : Ideal.ofBits .f32 0x40000000#32 = ((2 : ℝ) : EReal) := by
  simp [Ideal.ofBits, Ideal.ieee]; rw [← EReal.coe_mul]; congr 1; norm_num
/-- One over the logarithm of two, as the host computes it. -/
theorem inv_log_two : Ideal.div 1 (Ideal.log (Ideal.ofBits .f32 0x40000000#32)) = ((1 / Real.log 2 : ℝ) : EReal) := by
  have hl : Real.log 2 ≠ 0 := (Real.log_pos (by norm_num)).ne'
  have : Ideal.log ((2 : ℝ) : EReal) = ((Real.log 2 : ℝ) : EReal) := by
    show (if (2 : ℝ) ≤ 0 then (⊥ : EReal) else ((Real.log 2 : ℝ) : EReal)) = _
    rw [if_neg (by norm_num)]
  rw [ofBits_two, this, ← EReal.coe_one, div_coe _ _ hl]

/-- The column of a head, a map and a position in it. -/
def col (h : Fin 4) (p : Fin 2) (d : Fin 128) : Fin 1024 := ⟨h.val * 256 + p.val * 128 + d.val, by omega⟩
/-- The value column of a head. -/
def vcol (h : Fin 4) (x : Fin 256) : Fin 1024 := ⟨h.val * 256 + x.val, by omega⟩
/-- A key's position. -/
def kpos (k : ℕ) : Fin 2048 := ⟨k % 2048, Nat.mod_lt _ (by norm_num)⟩
/-- A position within the sequence is itself. -/
theorem kpos_eq (k : ℕ) (h : k < 2048) : kpos k = ⟨k, h⟩ := Fin.ext (Nat.mod_eq_of_lt h)
/-- The row of the bias table for a query and a key. -/
def bkt (q k : ℕ) : Fin 32 := ⟨bucket q k, bucket_lt q k⟩

variable (q k v : S16x2048x1024.Idx → ℝ) (rb : S32x4.Idx → ℝ) (lq lk : S1x2x128.Idx → ℝ)

/-- A key may be attended to if its chunk of 64 is not after the query's. -/
def seen (qp : ℕ) (kk : ℕ) : Prop := kk / 64 ≤ qp / 64
instance (qp : ℕ) : DecidablePred (seen qp) := fun kk => inferInstanceAs (Decidable (kk / 64 ≤ qp / 64))

/-- The product of a query and a key. -/
def dotR (b : Fin 16) (qp : Fin 2048) (h : Fin 4) (p : Fin 2) (kk : ℕ) : ℝ :=
  ∑ d : Fin 128, q (ix3 b qp (col h p d)) * k (ix3 b (kpos kk) (col h p d))
/-- A logit: the scaled product and the bias of the bucket. -/
def lg (b : Fin 16) (qp : Fin 2048) (h : Fin 4) (p : Fin 2) (kk : ℕ) : ℝ :=
  dotR q k b qp h p kk * scale + rb (ix2 (bkt qp.val kk) h)
/-- The second map's weight. -/
def lamR : ℝ :=
  Real.exp (∑ d : Fin 128, lq (ix3 0 0 d) * lk (ix3 0 0 d)) - Real.exp (∑ d : Fin 128, lq (ix3 0 1 d) * lk (ix3 0 1 d)) + lam0
/-- The mixed values of a query, at one column. -/
def attn (b : Fin 16) (qp : Fin 2048) (h : Fin 4) (x : Fin 256) : ℝ :=
  row (seen qp.val) (lg q k rb b qp h 0) (lg q k rb b qp h 1) (lamR lq lk) (fun kk => v (ix3 b (kpos kk) (vcol h x)))
/-- The result's element: the mixed values normalised over the head, times the gain. -/
def result (sg : S1x256.Idx → EReal) (b : Fin 16) (qp : Fin 2048) (h : Fin 4) (x : Fin 256) : EReal :=
  norm (fun x => (attn q k v rb lq lk b qp h x : EReal)) (sg (ix2 0 x) * Ideal.ofBits .f32 0x3F4CCCCD#32) x

end Cert.Attn

end
-- ==== Proof.Attn.Logits.lean ====
/- A tile's logits read at an index, and a row of them over real queries and keys: the shifted logits in units of the
   logarithm of two, and minus infinity where the mask forbids the key. -/
module

public import proofs.«01_k».proof.Proof.Attn.Spec
public import proofs.«01_k».proof.Proof.Attn.Tile
public import Idealize.ShloMosaic.Lib.Pipeline.ValueKit.Tiles

@[expose] public section

noncomputable section

namespace Cert.Attn

open Idealize.ShloMosaic Cert.KernelIdeal Cert.KernelIdeal.Gen
open scoped BigOperators

variable (x0 : Vec Ideal S512x1024 .bf16) (x1 : Vec Ideal S1024x2048 .bf16) (x2 : Vec Ideal S2048x1024 .bf16) (x3 : Vec Ideal S4x256x512 .f32)

/-- A query block's element. -/
theorem qB_apply (a : Fin 2) (h : Fin 4) (p : Fin 2) (r : Fin 256) (d : Fin 128) :
    qB x0 a h p (ix2 r d) = x0 (ix2 ⟨a.val * 256 + r.val, by omega⟩ (col h p d)) := by
  pointwise [qB]
  rfl

/-- The product of a query's row and a key's column. -/
def prod (a : Fin 2) (h : Fin 4) (p : Fin 2) (r : Fin 256) (k : ℕ) : EReal :=
  ∑ d : Fin 128, (x0 (ix2 ⟨a.val * 256 + r.val, by omega⟩ (col h p d)) : EReal) * x1 (ix2 (col h p d) (kpos k))

/-- An element of the products with a pair of key tiles. -/
theorem wideTwo_apply (a : Fin 2) (h : Fin 4) (p : Fin 2) (u : Fin 4) (r : Fin 256) (j : Fin 512) :
    wideTwo (qB x0 a h p) x1 h p u (ix2 r j) = prod x0 x1 a h p r (u.val * 512 + j.val) := by
  have e : kpos (u.val * 512 + j.val) = ⟨u.val * 512 + j.val, by omega⟩ := kpos_eq _ _
  unfold prod
  rw [e]
  pointwise [wideTwo]
  refine Finset.sum_congr rfl fun d _ => ?_
  rw [qB_apply]
  rfl

/-- An element of the products with a single key tile. -/
theorem wideOne_apply (a : Fin 2) (h : Fin 4) (p : Fin 2) (u : Fin 4) (r : Fin 256) (j : Fin 256) :
    wideOne (qB x0 a h p) x1 h p u (ix2 r j) = prod x0 x1 a h p r (u.val * 512 + j.val) := by
  have e : kpos (u.val * 512 + j.val) = ⟨u.val * 512 + j.val, by omega⟩ := kpos_eq _ _
  unfold prod
  rw [e]
  pointwise [wideOne]
  refine Finset.sum_congr rfl fun d _ => ?_
  rw [qB_apply]
  rfl

/-- An element of a tile out of a pair. -/
theorem rawTwo_apply (a : Fin 2) (h : Fin 4) (p : Fin 2) (j : ℕ) (hj : j < 8) (r : Fin 256) (x : Fin 256) :
    rawTwo (qB x0 a h p) x1 h p j (ix2 r x) = prod x0 x1 a h p r (j * 256 + x.val) := by
  unfold rawTwo
  split_ifs with he
  · pointwise
    rw [wideTwo_apply]
    congr 1
    show j / 2 % 4 * 512 + x.val = _
    omega
  · pointwise
    rw [wideTwo_apply]
    congr 1
    show j / 2 % 4 * 512 + (256 + x.val) = _
    omega

/-- An element of a band tile. -/
theorem bB_apply (h : Fin 4) (e : Fin 2) (r x : Fin 256) : bB x3 h e (ix2 r x) = x3 (ix3 h r ⟨e.val * 256 + x.val, by omega⟩) := by
  unfold bB
  refine (shapeCast_dropUnit_apply ![256, 256] _ _ (ix2 r x)).trans ?_
  refine View.ld_unit_apply_of x3 _ _ _ _ _ fun a => ?_
  match a with
  | 0 => exact (show h.val = h.val + 0 by omega)
  | 1 => exact (show r.val = 0 + r.val by omega)
  | 2 => rfl

/-- An element of the logits of an even tile index. -/
theorem lgEven_apply (h : Fin 4) (p : Fin 2) (s : Fin 4) (j : ℕ) (hj : j ≤ 2 * s.val) (r x : Fin 256) :
    lgEven x0 x1 x3 h p s j (ix2 r x) = prod x0 x1 0 h p r (j * 256 + x.val)
      + (if j = 2 * s.val then (x3 (ix3 h r ⟨256 + x.val, by omega⟩) : EReal) else if j + 1 = 2 * s.val then x3 (ix3 h r ⟨x.val, by omega⟩) else 0) := by
  unfold lgEven
  split_ifs with h1 h2
  · show wideOne (qB x0 0 h p) x1 h p s (ix2 r x) + bB x3 h 1 (ix2 r x) = _
    rw [wideOne_apply, bB_apply, show s.val * 512 + x.val = j * 256 + x.val by omega]
    rfl
  · show rawTwo (qB x0 0 h p) x1 h p j (ix2 r x) + bB x3 h 0 (ix2 r x) = _
    rw [rawTwo_apply _ _ _ _ _ _ (by omega), bB_apply]
    have e' : (⟨(0 : Fin 2).val * 256 + x.val, by have : (0 : Fin 2).val = 0 := rfl; omega⟩ : Fin 512) = ⟨x.val, by omega⟩ := Fin.ext (show 0 * 256 + x.val = x.val by omega)
    rw [e']
  · rw [rawTwo_apply _ _ _ _ _ _ (by omega), add_zero]

/-- An element of the logits of an odd tile index. -/
theorem lgOdd_apply (h : Fin 4) (p : Fin 2) (s : Fin 4) (j : ℕ) (hj : j ≤ 2 * s.val + 1) (r x : Fin 256) :
    lgOdd x0 x1 x3 h p s j (ix2 r x) = prod x0 x1 1 h p r (j * 256 + x.val)
      + (if j = 2 * s.val + 1 then (x3 (ix3 h r ⟨256 + x.val, by omega⟩) : EReal) else if j + 1 = 2 * s.val + 1 then x3 (ix3 h r ⟨x.val, by omega⟩) else 0) := by
  unfold lgOdd
  by_cases h1 : j = 2 * s.val + 1
  · rw [if_pos h1, if_pos h1]
    show rawTwo (qB x0 1 h p) x1 h p j (ix2 r x) + bB x3 h 1 (ix2 r x) = _
    rw [rawTwo_apply _ _ _ _ _ _ (by omega), bB_apply]
    rfl
  · rw [if_neg h1, if_neg h1]
    by_cases h2 : j = 2 * s.val
    · rw [if_pos h2, if_pos (by omega)]
      show rawTwo (qB x0 1 h p) x1 h p j (ix2 r x) + bB x3 h 0 (ix2 r x) = _
      rw [rawTwo_apply _ _ _ _ _ _ (by omega), bB_apply]
      have e' : (⟨(0 : Fin 2).val * 256 + x.val, by have : (0 : Fin 2).val = 0 := rfl; omega⟩ : Fin 512) = ⟨x.val, by omega⟩ := Fin.ext (show 0 * 256 + x.val = x.val by omega)
      rw [e']
    · rw [if_neg h2, if_neg (by omega), rawTwo_apply _ _ _ _ _ _ (by omega), add_zero]

/-- The value column the tiles of pairs spell. -/
theorem vTwo_apply (h : Fin 4) (u : ℕ) (hu : u < 4) (d : Fin 512) (x : Fin 256) :
    vTwo x2 h u (ix2 d x) = x2 (ix2 (kpos (u * 512 + d.val)) (vcol h x)) := by
  have e : kpos (u * 512 + d.val) = ⟨u * 512 + d.val, by omega⟩ := kpos_eq _ _
  rw [e]
  pointwise [vTwo]
  have e' : (⟨u % 4 * 512 + d.val, by omega⟩ : Fin 2048) = ⟨u * 512 + d.val, by omega⟩ := Fin.ext (show u % 4 * 512 + d.val = u * 512 + d.val by omega)
  exact congrArg (fun z => x2 (ix2 z (vcol h x))) e'
/-- The values of the single tile. -/
theorem vOne_apply (h : Fin 4) (s : Fin 4) (d : Fin 256) (x : Fin 256) :
    vOne x2 h s (ix2 d x) = x2 (ix2 (kpos (s.val * 512 + d.val)) (vcol h x)) := by
  have e : kpos (s.val * 512 + d.val) = ⟨s.val * 512 + d.val, by omega⟩ := kpos_eq _ _
  rw [e]
  pointwise [vOne]
  rfl

/-- The gain's element. -/
theorem gainB_apply (x6 : Vec Ideal S1x256 .f32) (x : Fin 256) : gainB x6 (ix2 0 x) = (x6 (ix2 0 x) : EReal) * Ideal.ofBits .f32 0x3F4CCCCD#32 := by
  pointwise [gainB, k0_pay2]

/-- The second map's weight. -/
theorem lamB_apply (x4 x5 : Vec Ideal S2x128 .f32) : lamB x4 x5 (ix2 0 0)
    = Ideal.exp (∑ d : Fin 128, (x4 (ix2 0 d) : EReal) * x5 (ix2 0 d)) - Ideal.exp (∑ d : Fin 128, (x4 (ix2 1 d) : EReal) * x5 (ix2 1 d))
      + Ideal.ofBits .f32 0x3E4CCCCD#32 := by
  pointwise [lamB, k0_pay1]
  trace_state

end Cert.Attn

end
-- ==== Proof.Attn.TileRow.lean ====
/- An output tile over real arguments: each of its elements is the attention's result. -/
module

public import proofs.«01_k».proof.Proof.Attn.Logits
public import proofs.«01_k».proof.Proof.Attn.Rows

@[expose] public section

noncomputable section

namespace Cert.Attn

open Idealize.ShloMosaic Cert.KernelIdeal Cert.KernelIdeal.Gen
open scoped BigOperators

variable (q k v : S16x2048x1024.Idx → ℝ) (rb : S32x4.Idx → ℝ) (lq lk : S1x2x128.Idx → ℝ) (sg : S1x256.Idx → EReal)

/-- What the blocks of batch `b`, step `s` hold, over the real arguments. -/
structure Blocks (b : Fin 16) (s : Fin 4) (x0 : Vec Ideal S512x1024 .bf16) (x1 : Vec Ideal S1024x2048 .bf16) (x2 : Vec Ideal S2048x1024 .bf16)
    (x3 : Vec Ideal S4x256x512 .f32) (x4 x5 : Vec Ideal S2x128 .f32) (x6 : Vec Ideal S1x256 .f32) : Prop where
  /-- The queries, scaled. -/
  h0 : ∀ (r : Fin 512) (c : Fin 1024), x0 (ix2 r c) = ((q (ix3 b ⟨s.val * 512 + r.val, by omega⟩ c) * (scale * (1 / Real.log 2)) : ℝ) : EReal)
  /-- The keys, transposed. -/
  h1 : ∀ (c : Fin 1024) (j : Fin 2048), x1 (ix2 c j) = ((k (ix3 b j c) : ℝ) : EReal)
  /-- The values. -/
  h2 : ∀ (j : Fin 2048) (c : Fin 1024), x2 (ix2 j c) = ((v (ix3 b j c) : ℝ) : EReal)
  /-- The band. -/
  h3 : ∀ (h : Fin 4) (r : Fin 256) (j : Fin 512), x3 (ix3 h r j) =
    if j.val / 64 ≤ r.val / 64 + 4 then (((rb (ix2 (bkt (256 + r.val) j.val) h) - rb (ix2 15 h)) * (1 / Real.log 2) : ℝ) : EReal) else ⊥
  /-- The two small vectors. -/
  h4 : ∀ (r : Fin 2) (d : Fin 128), x4 (ix2 r d) = ((lq (ix3 0 r d) : ℝ) : EReal)
  h5 : ∀ (r : Fin 2) (d : Fin 128), x5 (ix2 r d) = ((lk (ix3 0 r d) : ℝ) : EReal)
  /-- The gain. -/
  h6 : ∀ x : Fin 256, x6 (ix2 0 x) = sg (ix2 0 x)

/-- The second map's weight is a real number. -/
theorem lam_real (x4 x5 : Vec Ideal S2x128 .f32) (h4 : ∀ (r : Fin 2) (d : Fin 128), x4 (ix2 r d) = ((lq (ix3 0 r d) : ℝ) : EReal))
    (h5 : ∀ (r : Fin 2) (d : Fin 128), x5 (ix2 r d) = ((lk (ix3 0 r d) : ℝ) : EReal)) : lamB x4 x5 (ix2 0 0) = ((lamR lq lk : ℝ) : EReal) := by
  have e : ∀ r : Fin 2, (∑ d : Fin 128, (x4 (ix2 r d) : EReal) * x5 (ix2 r d)) = ((∑ d : Fin 128, lq (ix3 0 r d) * lk (ix3 0 r d) : ℝ) : EReal) := fun r => by
    rw [← coe_sum]
    exact Finset.sum_congr rfl fun d _ => by rw [h4, h5, EReal.coe_mul]
  rw [lamB_apply, e, e, ofBits_lam0, lamR, EReal.coe_add, EReal.coe_sub]
  rfl

/-- A product of a query's row and a key's column, over the real arguments. -/
theorem prod_real (x0 : Vec Ideal S512x1024 .bf16) (x1 : Vec Ideal S1024x2048 .bf16) (b : Fin 16) (s : Fin 4)
    (h0 : ∀ (r : Fin 512) (c : Fin 1024), x0 (ix2 r c) = ((q (ix3 b ⟨s.val * 512 + r.val, by omega⟩ c) * (scale * (1 / Real.log 2)) : ℝ) : EReal))
    (h1 : ∀ (c : Fin 1024) (j : Fin 2048), x1 (ix2 c j) = ((k (ix3 b j c) : ℝ) : EReal))
    (a : Fin 2) (h : Fin 4) (p : Fin 2) (r : Fin 256) (qp : Fin 2048) (hqp : qp.val = 256 * (2 * s.val + a.val) + r.val) (kk : ℕ) :
    prod x0 x1 a h p r kk = ((dotR q k b qp h p kk * scale * (1 / Real.log 2) : ℝ) : EReal) := by
  unfold prod dotR
  rw [mul_assoc, Finset.sum_mul, ← coe_sum]
  refine Finset.sum_congr rfl fun d _ => ?_
  have e : (⟨s.val * 512 + (a.val * 256 + r.val), by omega⟩ : Fin 2048) = qp := Fin.ext (by rw [hqp]; show s.val * 512 + (a.val * 256 + r.val) = _; omega)
  rw [h0, h1, ← EReal.coe_mul]
  congr 1
  rw [show (⟨s.val * 512 + (⟨a.val * 256 + r.val, by omega⟩ : Fin 512).val, by have := r.isLt; have := a.isLt; have := s.isLt; show s.val * 512 + (a.val * 256 + r.val) < 2048; omega⟩ : Fin 2048) = qp from e]
  ring

/-- A row of a tile's logits, over the real arguments. -/
theorem row_real (x3 : Vec Ideal S4x256x512 .f32) (P : ℕ → EReal) (b : Fin 16) (h : Fin 4) (p : Fin 2) (i : ℕ) (hi : i < 8) (r : Fin 256) (qp : Fin 2048)
    (hqp : qp.val = 256 * i + r.val) (S : ℕ → FVec Ideal S256x256 .f32)
    (hS : ∀ j ≤ i, ∀ x : Fin 256, S j (ix2 r x) = P (j * 256 + x.val)
      + (if j = i then (x3 (ix3 h r ⟨256 + x.val, by omega⟩) : EReal) else if j + 1 = i then x3 (ix3 h r ⟨x.val, by omega⟩) else 0))
    (hP : ∀ kk, P kk = ((dotR q k b qp h p kk * scale * (1 / Real.log 2) : ℝ) : EReal))
    (h3 : ∀ (h : Fin 4) (r : Fin 256) (j : Fin 512), x3 (ix3 h r j) =
      if j.val / 64 ≤ r.val / 64 + 4 then (((rb (ix2 (bkt (256 + r.val) j.val) h) - rb (ix2 15 h)) * (1 / Real.log 2) : ℝ) : EReal) else ⊥)
    (kk : ℕ) (hk : kk < 256 * (i + 1)) :
    rowX S r kk = if seen qp.val kk then (((lg q k rb b qp h p kk - rb (ix2 15 h)) * (1 / Real.log 2) : ℝ) : EReal) else ⊥ := by
  have hr := r.isLt
  have e : rowX S r kk = S (kk / 256) (ix2 r ⟨kk % 256, Nat.mod_lt _ (by norm_num)⟩) := rfl
  rw [e, hS (kk / 256) (by omega), hP, show kk / 256 * 256 + kk % 256 = kk by omega]
  have B : ∀ c : ℕ, bucket (256 + r.val) c = bucket qp.val kk → bkt (256 + r.val) c = bkt qp.val kk := fun c hc => Fin.ext hc
  have fin : ∀ β : ℝ, ((dotR q k b qp h p kk * scale * (1 / Real.log 2) : ℝ) : EReal) + (((rb (ix2 (bkt qp.val kk) h) - β) * (1 / Real.log 2) : ℝ) : EReal)
      = (((lg q k rb b qp h p kk - β) * (1 / Real.log 2) : ℝ) : EReal) := fun β => by
    rw [← EReal.coe_add, lg]; congr 1; ring
  have near : ∀ c : ℕ, c < 512 → c + qp.val = 256 + r.val + kk → bkt (256 + r.val) c = bkt qp.val kk := fun c _ hc => B c (by
    unfold bucket
    rw [show c - (256 + r.val) + (256 + r.val - c) = kk - qp.val + (qp.val - kk) by omega]
    congr 1
    split_ifs <;> omega)
  by_cases c1 : kk / 256 = i
  · rw [if_pos c1, h3]
    by_cases c2 : seen qp.val kk
    · rw [if_pos c2]
      unfold seen at c2
      rw [if_pos (show (256 + kk % 256) / 64 ≤ r.val / 64 + 4 by omega),
        show bkt (256 + r.val) (⟨256 + kk % 256, by omega⟩ : Fin 512).val = bkt qp.val kk from near (256 + kk % 256) (by omega) (by omega), fin]
    · rw [if_neg c2]
      unfold seen at c2
      rw [if_neg (show ¬(256 + kk % 256) / 64 ≤ r.val / 64 + 4 by omega), EReal.add_bot]
  · have c2 : seen qp.val kk := by unfold seen; omega
    rw [if_neg c1, if_pos c2]
    by_cases c3 : kk / 256 + 1 = i
    · rw [if_pos c3, h3, if_pos (show (kk % 256) / 64 ≤ r.val / 64 + 4 by omega),
        show bkt (256 + r.val) (⟨kk % 256, by omega⟩ : Fin 512).val = bkt qp.val kk from near (kk % 256) (by omega) (by omega), fin]
    · rw [if_neg c3, add_zero, lg]
      have far : bkt qp.val kk = 15 := Fin.ext (by
        show bucket qp.val kk = 15
        unfold bucket large
        rw [if_neg (by omega)]
        repeat rw [if_neg (by omega)])
      rw [far]
      congr 1
      ring

/-- The weights of a row, over the real arguments: a fixed multiple of the exponentials. -/
theorem weights (b : Fin 16) (h : Fin 4) (p : Fin 2) (i : ℕ) (hi : i < 8) (r : Fin 256) (qp : Fin 2048)
    (hqp : qp.val = 256 * i + r.val) (S : ℕ → FVec Ideal S256x256 .f32)
    (hX : ∀ kk < 256 * (i + 1), rowX S r kk = if seen qp.val kk then (((lg q k rb b qp h p kk - rb (ix2 15 h)) * (1 / Real.log 2) : ℝ) : EReal) else ⊥) :
    ∃ C : ℝ, C ≠ 0 ∧ ∀ kk < 256 * (i + 1), wt S r (rmax S r i) kk = ((C * weight (seen qp.val) (lg q k rb b qp h p) kk : ℝ) : EReal) := by
  obtain ⟨M, hM⟩ := rmax_real S r i (fun kk hk => by
    rw [hX kk hk]; split_ifs
    · exact EReal.coe_ne_top _
    · exact bot_ne_top) r (by
    rw [hX _ (by have := r.isLt; omega), if_pos (by unfold seen; rw [hqp])]
    exact EReal.coe_ne_bot _)
  refine ⟨Real.exp (-rb (ix2 15 h) - M * Real.log 2), (Real.exp_pos _).ne', fun kk hk => ?_⟩
  rw [hM]
  exact exp2_weight (seen qp.val) (lg q k rb b qp h p) (rb (ix2 15 h)) M (fun kk => rowX S r kk) (256 * (i + 1))
    (fun kk hk ho => by show rowX S r kk = _; rw [hX kk hk, if_pos ho]) (fun kk hk ho => by show rowX S r kk = _; rw [hX kk hk, if_neg ho]) kk hk

/-- A row's mixed values, over the real arguments. -/
theorem mixed (b : Fin 16) (h : Fin 4) (i : ℕ) (hi : i < 8) (r : Fin 256) (qp : Fin 2048)
    (hqp : qp.val = 256 * i + r.val) (S0 S1 : ℕ → FVec Ideal S256x256 .f32)
    (hX0 : ∀ kk < 256 * (i + 1), rowX S0 r kk = if seen qp.val kk then (((lg q k rb b qp h 0 kk - rb (ix2 15 h)) * (1 / Real.log 2) : ℝ) : EReal) else ⊥)
    (hX1 : ∀ kk < 256 * (i + 1), rowX S1 r kk = if seen qp.val kk then (((lg q k rb b qp h 1 kk - rb (ix2 15 h)) * (1 / Real.log 2) : ℝ) : EReal) else ⊥)
    (u : ℕ → EReal) (x : Fin 256) (hu : ∀ kk < 256 * (i + 1), u kk = ((v (ix3 b (kpos kk) (vcol h x)) : ℝ) : EReal)) (lam : EReal) (hl : lam = ((lamR lq lk : ℝ) : EReal)) :
    mix lam (wt S0 r (rmax S0 r i)) (wt S1 r (rmax S1 r i)) u (256 * (i + 1)) = ((attn q k v rb lq lk b qp h x : ℝ) : EReal) := by
  obtain ⟨C0, p0, w0⟩ := weights q k rb b h 0 i hi r qp hqp S0 hX0
  obtain ⟨C1, p1, w1⟩ := weights q k rb b h 1 i hi r qp hqp S1 hX1
  rw [hl]
  exact mix_eq (seen qp.val) _ _ _ (fun kk => v (ix3 b (kpos kk) (vcol h x))) _ _ _ _ (by omega) C0 C1 p0 p1 w0 w1 hu
    (fun kk h1 h2 => by have := r.isLt; unfold seen; omega) qp.val qp.isLt (le_refl _)

variable {q k v rb lq lk sg}

/-- The tile of an even index. -/
theorem even_result {b : Fin 16} {s : Fin 4} {x0 x1 x2 x3 x4 x5 x6} (H : Blocks q k v rb lq lk sg b s x0 x1 x2 x3 x4 x5 x6) (h : Fin 4) (r x : Fin 256)
    (qp : Fin 2048) (hqp : qp.val = s.val * 512 + r.val) :
    outEven (lamB x4 x5) (gainB x6) (lgEven x0 x1 x3 h 0 s) (lgEven x0 x1 x3 h 1 s) (vTwo x2 h) (vOne x2 h s) s.val (ix2 r x)
      = result q k v rb lq lk sg b qp h x := by
  have hr := r.isLt
  have hs := s.isLt
  have X : ∀ p : Fin 2, ∀ kk < 256 * (2 * s.val + 1), rowX (lgEven x0 x1 x3 h p s) r kk
      = if seen qp.val kk then (((lg q k rb b qp h p kk - rb (ix2 15 h)) * (1 / Real.log 2) : ℝ) : EReal) else ⊥ := fun p =>
    row_real q k rb x3 _ b h p (2 * s.val) (by omega) r qp (by omega) _ (fun j hj x => lgEven_apply x0 x1 x3 h p s j hj r x)
      (prod_real q k x0 x1 b s H.h0 H.h1 0 h p r qp (by show qp.val = 256 * (2 * s.val + 0) + r.val; omega)) H.h3
  have cv : ∀ (d : ℕ) (x : Fin 256), d < 2048 → colV (vTwo x2 h) x d = x2 (ix2 (kpos d) (vcol h x)) := fun d x hd => by
    show vTwo x2 h (d / 512) (ix2 ⟨d % 512, _⟩ x) = _
    rw [vTwo_apply _ _ _ (by omega)]
    congr 3
    show d / 512 * 512 + d % 512 = d
    omega
  rw [outEven_apply _ _ _ _ _ _ _ (fun d c => by
    rw [vOne_apply, cv _ _ (by have := d.isLt; omega), mul_comm 512]) r x]
  unfold result
  rw [gainB_apply, H.h6]
  congr 1
  funext x
  rw [show 512 * s.val + 256 = 256 * (2 * s.val + 1) by omega]
  exact mixed q k v rb lq lk b h (2 * s.val) (by omega) r qp (by omega) _ _ (X 0) (X 1) _ x
    (fun kk hk => by rw [cv _ _ (by omega), H.h2]) _ (lam_real lq lk x4 x5 H.h4 H.h5)

/-- The tile of an odd index. -/
theorem odd_result {b : Fin 16} {s : Fin 4} {x0 x1 x2 x3 x4 x5 x6} (H : Blocks q k v rb lq lk sg b s x0 x1 x2 x3 x4 x5 x6) (h : Fin 4) (r x : Fin 256)
    (qp : Fin 2048) (hqp : qp.val = s.val * 512 + 256 + r.val) :
    outOdd (lamB x4 x5) (gainB x6) (lgOdd x0 x1 x3 h 0 s) (lgOdd x0 x1 x3 h 1 s) (vTwo x2 h) s.val (ix2 r x)
      = result q k v rb lq lk sg b qp h x := by
  have hr := r.isLt
  have hs := s.isLt
  have X : ∀ p : Fin 2, ∀ kk < 256 * (2 * s.val + 1 + 1), rowX (lgOdd x0 x1 x3 h p s) r kk
      = if seen qp.val kk then (((lg q k rb b qp h p kk - rb (ix2 15 h)) * (1 / Real.log 2) : ℝ) : EReal) else ⊥ := fun p =>
    row_real q k rb x3 _ b h p (2 * s.val + 1) (by omega) r qp (by omega) _ (fun j hj x => lgOdd_apply x0 x1 x3 h p s j hj r x)
      (prod_real q k x0 x1 b s H.h0 H.h1 1 h p r qp (by show qp.val = 256 * (2 * s.val + 1) + r.val; omega)) H.h3
  have cv : ∀ (d : ℕ) (x : Fin 256), d < 2048 → colV (vTwo x2 h) x d = x2 (ix2 (kpos d) (vcol h x)) := fun d x hd => by
    show vTwo x2 h (d / 512) (ix2 ⟨d % 512, _⟩ x) = _
    rw [vTwo_apply _ _ _ (by omega)]
    congr 3
    show d / 512 * 512 + d % 512 = d
    omega
  rw [outOdd_apply]
  unfold result
  rw [gainB_apply, H.h6]
  congr 1
  funext x
  rw [show 512 * (s.val + 1) = 256 * (2 * s.val + 1 + 1) by omega]
  exact mixed q k v rb lq lk b h (2 * s.val + 1) (by omega) r qp (by omega) _ _ (X 0) (X 1) _ x
    (fun kk hk => by rw [cv _ _ (by omega), H.h2]) _ (lam_real lq lk x4 x5 H.h4 H.h5)

end Cert.Attn

end
-- ==== Proof.Attn.Host.lean ====
/- What the host prepares for the kernel, read at an index: the scaled queries beside the values, the transposed keys, the
   band of biases and the two small vectors. -/
module

public import proofs.«01_k».proof.Proof.Attn.Spec
public import proofs.«01_k».proof.Proof.Gen.KernelIdeal.Frame.Runs
public import Idealize.ShloMosaic.Lib.StableHlo.ReadAt

@[expose] public section

set_option maxRecDepth 16384

noncomputable section

namespace Cert.Attn

open Idealize.ShloMosaic Idealize.ShloMosaic.TcCoe Cert.KernelIdeal Cert.KernelIdeal.Gen
open scoped BigOperators

/-- The first table: a key column's chunk, counted from four chunks before the tile. -/
theorem lit0_eq (k : Fin 512) : lit0 k = BitVec.ofInt 32 ((k.val / 64 : ℤ) - 4) := by revert k; decide +kernel
/-- The second table: a query row's chunk. -/
theorem lit1_eq (k : Fin 256) : lit1 k = BitVec.ofNat 32 (k.val / 64) := by revert k; decide +kernel
/-- The third table: the bucket of a relative position, the positions counted from -511. -/
theorem lit2_eq (k : Fin 768) : lit2 k = BitVec.ofNat 32 (bucket 511 k.val) := by revert k; decide +kernel

/-- The band's mask, of the tables' entries. -/
theorem mask_tables (r : Fin 256) (j : Fin 512) : IntOp.cmpi .sle (lit0 j) (lit1 r) = BitVec.ofBool (decide (j.val / 64 ≤ r.val / 64 + 4)) := by
  rw [lit0_eq, lit1_eq]
  have : ∀ a : Fin 8, ∀ b : Fin 4, IntOp.cmpi .sle (BitVec.ofInt 32 ((a.val : ℤ) - 4)) (BitVec.ofNat 32 b.val) = BitVec.ofBool (decide (a.val ≤ b.val + 4)) := by
    decide
  have h := this ⟨j.val / 64, by omega⟩ ⟨r.val / 64, by omega⟩
  simpa using h

/-- A bucket is read by comparing it with each of the thirty-two numbers. -/
theorem pick (n : Fin 32) (x : Fin 32) : IntOp.cmpi .eq (BitVec.ofNat 32 n.val) (BitVec.ofNat 32 x.val) = BitVec.ofBool (decide (n = x)) := by
  revert n x; decide +kernel

/-- A bucket depends on the relative position only. -/
theorem bucket_shift (r j : ℕ) (hr : r < 256) : bucket 511 (255 + j - r) = bucket (256 + r) j := by
  unfold bucket
  have e : 255 + j - r - 511 + (511 - (255 + j - r)) = j - (256 + r) + (256 + r - j) := by omega
  rw [e]
  congr 1
  split_ifs <;> omega

variable (mm : (ℓ : Loc nD τ sig) → Buf (Elt Ideal) ℓ) (c : Dev nD)

/-- The kernel's argument 0, on the core `c`. -/
abbrev karg0 : S16x2048x1024.Idx → EReal := mm (c, Proc.tc.devRef main_arg0)
/-- The kernel's argument 1, on the core `c`. -/
abbrev karg1 : S16x2048x1024.Idx → EReal := mm (c, Proc.tc.devRef main_arg1)
/-- The kernel's argument 2, on the core `c`. -/
abbrev karg2 : S16x2048x1024.Idx → EReal := mm (c, Proc.tc.devRef main_arg2)
/-- The kernel's argument 3, on the core `c`. -/
abbrev karg3 : S32x4.Idx → EReal := mm (c, Proc.tc.devRef main_arg3)
/-- The kernel's argument 4, on the core `c`. -/
abbrev karg4 : S1x2x128.Idx → EReal := mm (c, Proc.tc.devRef main_arg4)
/-- The kernel's argument 5, on the core `c`. -/
abbrev karg5 : S1x2x128.Idx → EReal := mm (c, Proc.tc.devRef main_arg5)
/-- The kernel's argument 6, on the core `c`. -/
abbrev karg6 : S1x256.Idx → EReal := mm (c, Proc.tc.devRef main_arg6)

/-- The queries, scaled, beside the values. -/
theorem host_p (r : Fin 32768) (j : Fin 5120) : (V mm c main_v10 : S32768x5120.Idx → EReal) (ix2 r j) =
    if h : j.val < 2048 then
      if h' : j.val < 1024 then
        karg0 mm c (ix3 ⟨r.val / 2048, by omega⟩ ⟨r.val % 2048, by omega⟩ ⟨j.val, h'⟩)
          * (Ideal.ofBits .f32 0x3DB504F3#32 * Ideal.div 1 (Ideal.log (Ideal.ofBits .f32 0x40000000#32)))
      else karg2 mm c (ix3 ⟨r.val / 2048, by omega⟩ ⟨r.val % 2048, by omega⟩ ⟨j.val - 1024, by omega⟩)
    else 0 := by
  unfold V
  simp only [List.flatten, List.append]
  after_reads_at
  after_reads_at

/-- The keys, transposed. -/
theorem host_kt (r : Fin 1024) (j : Fin 32768) : (V mm c main_v13 : S1024x32768.Idx → EReal) (ix2 r j) =
    karg1 mm c (ix3 ⟨j.val / 2048, by omega⟩ ⟨j.val % 2048, by omega⟩ r) := by
  unfold V
  simp only [List.flatten, List.append]
  after_reads_at

/-- The first small vector. -/
theorem host_lq (r : Fin 2) (j : Fin 128) : (V mm c main_v45 : S2x128.Idx → EReal) (ix2 r j) =
    karg4 mm c (ix3 0 r j) := by
  unfold V
  simp only [List.flatten, List.append]
  after_reads_at
/-- The second small vector. -/
theorem host_lk (r : Fin 2) (j : Fin 128) : (V mm c main_v46 : S2x128.Idx → EReal) (ix2 r j) =
    karg5 mm c (ix3 0 r j) := by
  unfold V
  simp only [List.flatten, List.append]
  after_reads_at
/-- The gain's row. -/
theorem host_sg (r : Fin 1) (j : Fin 256) : (V mm c main_v48 : S1x256.Idx → EReal) (ix2 r j) =
    karg6 mm c (ix2 0 j) := by
  unfold V
  simp only [List.flatten, List.append]
  after_reads_at

/-- The band, as the host computes it. -/
theorem host_band_raw (h : Fin 4) (r : Fin 256) (j : Fin 512) : (V mm c main_v44 : S4x256x512.Idx → EReal) (ix3 h r j) =
    Scalar.select (IntOp.cmpi .sle (lit0 (S1x512.rowMajor (ix2 0 j))) (lit1 (S256x1.rowMajor (ix2 r 0))))
      (∑ x : Fin 32, Scalar.select (IntOp.cmpi .eq (lit2 (S768.rowMajor (ix1 ⟨(r.val * 767 + (255 + j.val)) % 768, Nat.mod_lt _ (by norm_num)⟩)))
          (BitVec.ofNat 32 x.val))
        ((karg3 mm c (ix2 x h) - karg3 mm c (ix2 15 h))
          * Ideal.div 1 (Ideal.log (Ideal.ofBits .f32 0x40000000#32))) (Ideal.ofBits .f32 0x00000000#32))
      (Ideal.ofBits .f32 0xFF800000#32) := by
  generalize hz : Ideal.ofBits .f32 0x00000000#32 = z
  unfold V
  simp only [List.flatten, List.append]
  after_reads_at
  subst hz
  rfl

/-- The band, over real biases: a bucket's bias less the far bucket's, in units of the logarithm of two, and minus infinity where
    the key's chunk is after the query's. -/
theorem host_band (rb : S32x4.Idx → ℝ) (hrb : ∀ i, karg3 mm c i = (rb i : EReal))
    (h : Fin 4) (r : Fin 256) (j : Fin 512) : (V mm c main_v44 : S4x256x512.Idx → EReal) (ix3 h r j) =
    if j.val / 64 ≤ r.val / 64 + 4 then (((rb (ix2 (bkt (256 + r.val) j.val) h) - rb (ix2 15 h)) * (1 / Real.log 2) : ℝ) : EReal) else ⊥ := by
  rw [host_band_raw]
  have e0 : S1x512.rowMajor (ix2 0 j) = j := Fin.ext ((Shape.rowMajor_val_two _).trans (show 0 * 512 + j.val = j.val by omega))
  have e1 : S256x1.rowMajor (ix2 r 0) = r := Fin.ext ((Shape.rowMajor_val_two _).trans (show r.val * 1 + 0 = r.val by omega))
  have hj := j.isLt
  have hr := r.isLt
  have lt : 255 + j.val - r.val < 768 := by omega
  have e2 : lit2 (S768.rowMajor (ix1 ⟨(r.val * 767 + (255 + j.val)) % 768, Nat.mod_lt _ (by norm_num)⟩)) = BitVec.ofNat 32 (bucket 511 (255 + j.val - r.val)) :=
    (congrArg lit2 (Fin.ext ((Shape.rowMajor_val_one _).trans (show (r.val * 767 + (255 + j.val)) % 768 = 255 + j.val - r.val by omega)) : _ = (⟨255 + j.val - r.val, lt⟩ : Fin 768))).trans (lit2_eq _)
  rw [e0, e1, e2, mask_tables, bucket_shift r.val j.val r.isLt, inv_log_two]
  have s : (∑ x : Fin 32, Scalar.select (IntOp.cmpi .eq (BitVec.ofNat 32 (bucket (256 + r.val) j.val)) (BitVec.ofNat 32 x.val))
        ((karg3 mm c (ix2 x h) - karg3 mm c (ix2 15 h))
          * ((1 / Real.log 2 : ℝ) : EReal)) (Ideal.ofBits .f32 0x00000000#32))
      = (((rb (ix2 (bkt (256 + r.val) j.val) h) - rb (ix2 15 h)) * (1 / Real.log 2) : ℝ) : EReal) := by
    have z : Ideal.ofBits .f32 0x00000000#32 = (0 : EReal) := by simp [Ideal.ofBits, Ideal.ieee]
    have P : ∀ x : Fin 32, IntOp.cmpi .eq (BitVec.ofNat 32 (bucket (256 + r.val) j.val)) (BitVec.ofNat 32 x.val)
        = BitVec.ofBool (decide (bkt (256 + r.val) j.val = x)) := fun x => pick (bkt (256 + r.val) j.val) x
    rw [Finset.sum_eq_single (bkt (256 + r.val) j.val)]
    · rw [P, hrb, hrb, decide_eq_true rfl]
      simp [Scalar.select]
    · intro x _ hx
      rw [P, decide_eq_false (Ne.symm hx), z]
      simp [Scalar.select]
    · intro hx; exact absurd (Finset.mem_univ _) hx
  rw [s, ofBits_negInf]
  by_cases hm : j.val / 64 ≤ r.val / 64 + 4
  · rw [if_pos hm, decide_eq_true hm]; simp [Scalar.select]
  · rw [if_neg hm, decide_eq_false hm]; simp [Scalar.select]

end Cert.Attn

end
-- ==== Proof.Attn.Cases.lean ====
/- What each of the four switch branches leaves in the output block: the same eight tiles, at the step the branch is for. -/
module

public import proofs.«01_k».proof.Proof.Attn.Tile
public import proofs.«01_k».proof.Proof.Gen.KernelIdeal.Value

@[expose] public section

set_option maxRecDepth 16384

noncomputable section

namespace Cert.Attn

open Idealize.ShloMosaic Idealize.ShloMosaic.TcCoe Idealize.ShloMosaic.Tactic Cert.KernelIdeal Cert.KernelIdeal.Gen

variable {F : FTy → Type} [FloatOps F]
variable (m : (ℓ : Loc nD τ sig) → Buf (Elt F) ℓ)

/-- The tiles a grid point leaves, over the blocks it reads. -/
def tilesAt (c : Dev nD) (t : Fin cfg0.N) (s : Fin 4) : List (View.Piece (Elt F) S512x1024 .bf16) :=
  tiles (iblk m c 0 t) (iblk m c 1 t) (iblk m c 2 t) (iblk m c 3 t) (iblk m c 4 t) (iblk m c 5 t) (iblk m c 6 t) s

set_option maxHeartbeats 2000000 in
/-- The first branch leaves the tiles of step 0. -/
theorem outs_A (c : Dev nD) (t : Fin cfg0.N) (h0 : ¬1 ≤ t.val % 4) : outsAt0 m c t.val t.isLt = View.canon (tilesAt m c t 0) := by
  rw [outsAt0_A m c t h0]
  unfold out0_A_7 tilesAt
  rw [View.read_writes_eq_canon _ _ _ (cover0_A_7 c _ _ _ _ _ _ _ _ _ _ _ _ _ _ _ _ _ _ _ _ _ _ _ _ _ _ _)]
  unfold kernelRun0_A
  dsimp only
  sl_unfold_run_names
  sl_unfold_run_names
  simp (disch := decide) only [↓View.readCov_cons_toLoadRect, ↓View.readCov_skip, View.readAt_eq_ld, (hs0_0 t).read_unread,
    (hs0_1 t).read_unread, (hs0_2 t).read_unread, (hs0_3 t).read_unread, (hs0_4 t).read_unread, (hs0_5 t).read_unread, (hs0_6 t).read_unread]
  rfl

set_option maxHeartbeats 2000000 in
/-- The second branch leaves the tiles of step 1. -/
theorem outs_B (c : Dev nD) (t : Fin cfg0.N) (h0 : 1 ≤ t.val % 4) (h1 : ¬t.val % 4 ≠ 1) : outsAt0 m c t.val t.isLt = View.canon (tilesAt m c t 1) := by
  rw [outsAt0_B m c t h0 h1]
  unfold out0_B_7 tilesAt
  rw [View.read_writes_eq_canon _ _ _ (cover0_B_7 c _ _ _ _ _ _ _ _ _ _ _ _ _ _ _ _ _ _ _ _ _ _ _ _ _ _ _ _)]
  unfold kernelRun0_B
  dsimp only
  sl_unfold_run_names
  sl_unfold_run_names
  simp (disch := decide) only [↓View.readCov_cons_toLoadRect, ↓View.readCov_skip, View.readAt_eq_ld, (hs0_0 t).read_unread,
    (hs0_1 t).read_unread, (hs0_2 t).read_unread, (hs0_3 t).read_unread, (hs0_4 t).read_unread, (hs0_5 t).read_unread, (hs0_6 t).read_unread]
  rfl

set_option maxHeartbeats 2000000 in
/-- The third branch leaves the tiles of step 2. -/
theorem outs_C (c : Dev nD) (t : Fin cfg0.N) (h0 : 1 ≤ t.val % 4) (h1 : t.val % 4 ≠ 1) (h2 : ¬t.val % 4 ≠ 2) : outsAt0 m c t.val t.isLt = View.canon (tilesAt m c t 2) := by
  rw [outsAt0_C m c t h0 h1 h2]
  unfold out0_C_7 tilesAt
  rw [View.read_writes_eq_canon _ _ _ (cover0_C_7 c _ _ _ _ _ _ _ _ _ _ _ _ _ _ _ _ _ _ _ _ _ _ _ _ _ _ _ _ _)]
  unfold kernelRun0_C
  dsimp only
  sl_unfold_run_names
  sl_unfold_run_names
  simp (disch := decide) only [↓View.readCov_cons_toLoadRect, ↓View.readCov_skip, View.readAt_eq_ld, (hs0_0 t).read_unread,
    (hs0_1 t).read_unread, (hs0_2 t).read_unread, (hs0_3 t).read_unread, (hs0_4 t).read_unread, (hs0_5 t).read_unread, (hs0_6 t).read_unread]
  rfl

set_option maxHeartbeats 2000000 in
/-- The fourth branch leaves the tiles of step 3. -/
theorem outs_D (c : Dev nD) (t : Fin cfg0.N) (h0 : 1 ≤ t.val % 4) (h1 : t.val % 4 ≠ 1) (h2 : t.val % 4 ≠ 2) : outsAt0 m c t.val t.isLt = View.canon (tilesAt m c t 3) := by
  rw [outsAt0_D m c t h0 h1 h2]
  unfold out0_D_7 tilesAt
  rw [View.read_writes_eq_canon _ _ _ (cover0_D_7 c _ _ _ _ _ _ _ _ _ _ _ _ _ _ _ _ _ _ _ _ _ _ _ _ _ _ _ _ _)]
  unfold kernelRun0_D
  dsimp only
  sl_unfold_run_names
  sl_unfold_run_names
  simp (disch := decide) only [↓View.readCov_cons_toLoadRect, ↓View.readCov_skip, View.readAt_eq_ld, (hs0_0 t).read_unread,
    (hs0_1 t).read_unread, (hs0_2 t).read_unread, (hs0_3 t).read_unread, (hs0_4 t).read_unread, (hs0_5 t).read_unread, (hs0_6 t).read_unread]
  rfl

end Cert.Attn

end
-- ==== Proof.Attn.Launch.lean ====
/- What the launch leaves in the result: at every index the attention's element. -/
module

public import proofs.«01_k».proof.Proof.Attn.TileRow
public import proofs.«01_k».proof.Proof.Attn.Host
public import proofs.«01_k».proof.Proof.Attn.Cases
public import Idealize.ShloMosaic.Lib.Pipeline.ValueKit.Point

@[expose] public section

set_option maxRecDepth 16384

noncomputable section

namespace Cert.Attn

open Idealize.ShloMosaic Idealize.ShloMosaic.TcCoe Idealize.ShloMosaic.Tactic Cert.KernelIdeal Cert.KernelIdeal.Gen
open scoped BigOperators

/-- The blocks' places, at every grid point. -/
theorem places : ∀ t : Fin cfg0.N, win0_0.index t = ![t.val, 0] ∧ win0_1.index t = ![0, t.val / 4] ∧ win0_2.index t = ![t.val / 4, 1]
    ∧ win0_3.index t = ![0, 0, 0] ∧ win0_4.index t = ![0, 0] ∧ win0_5.index t = ![0, 0] ∧ win0_6.index t = ![0, 0] ∧ win0_7.index t = ![t.val, 0] :=
  (by decide +kernel : ∀ t : Fin grid0.N, win0_0.index t = ![t.val, 0] ∧ win0_1.index t = ![0, t.val / 4] ∧ win0_2.index t = ![t.val / 4, 1]
    ∧ win0_3.index t = ![0, 0, 0] ∧ win0_4.index t = ![0, 0] ∧ win0_5.index t = ![0, 0] ∧ win0_6.index t = ![0, 0] ∧ win0_7.index t = ![t.val, 0])

variable (mm : (ℓ : Loc nD τ sig) → Buf (Elt Ideal) ℓ) (c : Dev nD)

/-- The query block's element. -/
theorem iblk0 (t : Fin cfg0.N) (r : Fin 512) (j : Fin 1024) : iblk mm c 0 t (ix2 r j) = V mm c main_v10 (ix2 ⟨t.val * 512 + r.val, by have : t.val < 64 := t.isLt; omega⟩ ⟨j.val, by omega⟩) := by
  have p := places t
  blk_ext [iblk, p.1]
/-- The key block's element. -/
theorem iblk1 (t : Fin cfg0.N) (r : Fin 1024) (j : Fin 2048) : iblk mm c 1 t (ix2 r j) = V mm c main_v13 (ix2 r ⟨t.val / 4 * 2048 + j.val, by have : t.val < 64 := t.isLt; omega⟩) := by
  have p := places t
  blk_ext [iblk, p.2.1]
/-- The value block's element. -/
theorem iblk2 (t : Fin cfg0.N) (r : Fin 2048) (j : Fin 1024) : iblk mm c 2 t (ix2 r j) = V mm c main_v10 (ix2 ⟨t.val / 4 * 2048 + r.val, by have : t.val < 64 := t.isLt; omega⟩ ⟨1024 + j.val, by omega⟩) := by
  have p := places t
  blk_ext [iblk, p.2.2.1]
/-- The band's element. -/
theorem iblk3 (t : Fin cfg0.N) (h : Fin 4) (r : Fin 256) (j : Fin 512) : iblk mm c 3 t (ix3 h r j) = V mm c main_v44 (ix3 h r j) := by
  have p := places t
  blk_ext [iblk, p.2.2.2.1]
/-- The first small vector's element. -/
theorem iblk4 (t : Fin cfg0.N) (r : Fin 2) (j : Fin 128) : iblk mm c 4 t (ix2 r j) = V mm c main_v45 (ix2 r j) := by
  have p := places t
  blk_ext [iblk, p.2.2.2.2.1]
/-- The second small vector's element. -/
theorem iblk5 (t : Fin cfg0.N) (r : Fin 2) (j : Fin 128) : iblk mm c 5 t (ix2 r j) = V mm c main_v46 (ix2 r j) := by
  have p := places t
  blk_ext [iblk, p.2.2.2.2.2.1]
/-- The gain's element. -/
theorem iblk6 (t : Fin cfg0.N) (r : Fin 1) (j : Fin 256) : iblk mm c 6 t (ix2 r j) = V mm c main_v48 (ix2 r j) := by
  have p := places t
  blk_ext [iblk, p.2.2.2.2.2.2.1]

variable (q k v : S16x2048x1024.Idx → ℝ) (rb : S32x4.Idx → ℝ) (lq lk : S1x2x128.Idx → ℝ)

/-- The arguments are these real numbers. -/
structure Args : Prop where
  /-- The queries. -/
  q : ∀ i, karg0 mm c i = (q i : EReal)
  /-- The keys. -/
  k : ∀ i, karg1 mm c i = (k i : EReal)
  /-- The values. -/
  v : ∀ i, karg2 mm c i = (v i : EReal)
  /-- The bias table. -/
  rb : ∀ i, karg3 mm c i = (rb i : EReal)
  /-- The two small vectors. -/
  lq : ∀ i, karg4 mm c i = (lq i : EReal)
  lk : ∀ i, karg5 mm c i = (lk i : EReal)

variable {mm c q k v rb lq lk}

/-- The blocks a grid point reads hold what the tiles are read over. -/
theorem blocks (A : Args mm c q k v rb lq lk) (t : Fin cfg0.N) :
    Blocks q k v rb lq lk (karg6 mm c) ⟨t.val / 4, by have : t.val < 64 := t.isLt; omega⟩ ⟨t.val % 4, Nat.mod_lt _ (by norm_num)⟩
      (iblk mm c 0 t) (iblk mm c 1 t) (iblk mm c 2 t) (iblk mm c 3 t) (iblk mm c 4 t) (iblk mm c 5 t) (iblk mm c 6 t) where
  h0 r j := by
    have ht : t.val < 64 := t.isLt
    have hj := j.isLt
    rw [iblk0, host_p, dif_pos (show j.val < 2048 by omega), dif_pos (show j.val < 1024 by omega), A.q, ofBits_scale, inv_log_two, ← EReal.coe_mul, ← EReal.coe_mul]
    have e : (ix3 ⟨(t.val * 512 + r.val) / 2048, by omega⟩ ⟨(t.val * 512 + r.val) % 2048, by omega⟩ j : S16x2048x1024.Idx)
        = ix3 ⟨t.val / 4, by omega⟩ ⟨t.val % 4 * 512 + r.val, by omega⟩ j := by
      congr 1 <;> apply Fin.ext
      · show (t.val * 512 + r.val) / 2048 = t.val / 4; omega
      · show (t.val * 512 + r.val) % 2048 = t.val % 4 * 512 + r.val; omega
    exact congrArg (fun z => ((q z * (scale * (1 / Real.log 2)) : ℝ) : EReal)) e
  h1 d j := by
    have ht : t.val < 64 := t.isLt
    rw [iblk1, host_kt, A.k]
    have e : (ix3 ⟨(t.val / 4 * 2048 + j.val) / 2048, by omega⟩ ⟨(t.val / 4 * 2048 + j.val) % 2048, by omega⟩ d : S16x2048x1024.Idx)
        = ix3 ⟨t.val / 4, by omega⟩ j d := by
      congr 1 <;> apply Fin.ext
      · show (t.val / 4 * 2048 + j.val) / 2048 = t.val / 4; omega
      · show (t.val / 4 * 2048 + j.val) % 2048 = j.val; omega
    exact congrArg (fun z => ((k z : ℝ) : EReal)) e
  h2 j d := by
    have ht : t.val < 64 := t.isLt
    have hd := d.isLt
    rw [iblk2, host_p, dif_pos (show 1024 + d.val < 2048 by omega), dif_neg (show ¬1024 + d.val < 1024 by omega), A.v]
    have e : (ix3 ⟨(t.val / 4 * 2048 + j.val) / 2048, by omega⟩ ⟨(t.val / 4 * 2048 + j.val) % 2048, by omega⟩ ⟨1024 + d.val - 1024, by omega⟩ : S16x2048x1024.Idx)
        = ix3 ⟨t.val / 4, by omega⟩ j d := by
      congr 1 <;> apply Fin.ext
      · show (t.val / 4 * 2048 + j.val) / 2048 = t.val / 4; omega
      · show (t.val / 4 * 2048 + j.val) % 2048 = j.val; omega
      · show 1024 + d.val - 1024 = d.val; omega
    exact congrArg (fun z => ((v z : ℝ) : EReal)) e
  h3 h r j := by rw [iblk3]; exact host_band mm c rb A.rb h r j
  h4 r d := by rw [iblk4, host_lq, A.lq]
  h5 r d := by rw [iblk5, host_lk, A.lk]
  h6 x := by rw [iblk6, host_sg]

/-- The result at a row and a column. -/
def resultAt (q k v : S16x2048x1024.Idx → ℝ) (rb : S32x4.Idx → ℝ) (lq lk : S1x2x128.Idx → ℝ) (sg : S1x256.Idx → EReal) (R : Fin 32768) (C : Fin 1024) : EReal :=
  result q k v rb lq lk sg ⟨R.val / 2048, by omega⟩ ⟨R.val % 2048, by omega⟩ ⟨C.val / 256, by omega⟩ ⟨C.val % 256, by omega⟩

/-- The result's block of a batch and a step. -/
def blockOf (q k v : S16x2048x1024.Idx → ℝ) (rb : S32x4.Idx → ℝ) (lq lk : S1x2x128.Idx → ℝ) (sg : S1x256.Idx → EReal) (b : Fin 16) (s : Fin 4) : Vec Ideal S512x1024 .bf16 :=
  fun y => result q k v rb lq lk sg b ⟨s.val * 512 + (y 0).val, by have : (y 0).val < 512 := (y 0).isLt; omega⟩
    ⟨(y 1).val / 256, by have : (y 1).val < 1024 := (y 1).isLt; omega⟩ ⟨(y 1).val % 256, by omega⟩

/-- The block at an index given by its parts. -/
theorem blockOf_at (sg : S1x256.Idx → EReal) (b : Fin 16) (s : Fin 4) (y : S512x1024.Idx) (qp : Fin 2048) (h : Fin 4) (x : Fin 256)
    (h0 : qp.val = s.val * 512 + (y 0).val) (h1 : (y 1).val = h.val * 256 + x.val) :
    blockOf q k v rb lq lk sg b s y = result q k v rb lq lk sg b qp h x := by
  have := x.isLt
  unfold blockOf
  congr 1 <;> apply Fin.ext
  · exact h0.symm
  · show (y 1).val / 256 = h.val; omega
  · show (y 1).val % 256 = x.val; omega

/-- The eight tiles are the result's block. -/
theorem tiles_result {sg : S1x256.Idx → EReal} {b : Fin 16} {s : Fin 4} {x0 x1 x2 x3 x4 x5 x6} (H : Blocks q k v rb lq lk sg b s x0 x1 x2 x3 x4 x5 x6) :
    View.canon (Val := Elt Ideal) (tiles x0 x1 x2 x3 x4 x5 x6 s) = blockOf q k v rb lq lk sg b s := by
  funext y
  have h0 : (y 0).val < 512 := (y 0).isLt
  have h1 : (y 1).val < 1024 := (y 1).isLt
  have hs := s.isLt
  refine View.canon_apply_of_pieces (Val := Elt Ideal) (blockOf q k v rb lq lk sg b s) _ ?_ y ?_
  · have E : ∀ h : Fin 4, ∀ x, (pieceEven x0 x1 x2 x3 x4 x5 x6 s h).2 x = blockOf q k v rb lq lk sg b s ((pieceEven x0 x1 x2 x3 x4 x5 x6 s h).1.emb x) := by
      intro h x
      have l0 : (x 0).val < 256 := (x 0).isLt
      have e : x = ix2 (⟨(x 0).val, l0⟩ : Fin 256) (⟨(x 1).val, (x 1).isLt⟩ : Fin 256) := funext fun a => match a with | 0 => rfl | 1 => rfl
      have v0 : ((pieceEven x0 x1 x2 x3 x4 x5 x6 s h).1.emb x 0).val = 0 * 256 + (x 0).val := Rect.idx_unit_val _ _ (inbO 0 h) x 0
      have v1 : ((pieceEven x0 x1 x2 x3 x4 x5 x6 s h).1.emb x 1).val = h.val * 256 + (x 1).val := Rect.idx_unit_val _ _ (inbO 0 h) x 1
      refine Eq.trans ?_ (blockOf_at sg b s _ ⟨s.val * 512 + (x 0).val, by omega⟩ h ⟨(x 1).val, (x 1).isLt⟩ (by rw [v0]; show s.val * 512 + (x 0).val = _; omega) v1).symm
      refine (congrArg (pieceEven x0 x1 x2 x3 x4 x5 x6 s h).2 e).trans ?_
      exact even_result H h ⟨(x 0).val, l0⟩ ⟨(x 1).val, (x 1).isLt⟩ _ rfl
    have O : ∀ h : Fin 4, ∀ x, (pieceOdd x0 x1 x2 x3 x4 x5 x6 s h).2 x = blockOf q k v rb lq lk sg b s ((pieceOdd x0 x1 x2 x3 x4 x5 x6 s h).1.emb x) := by
      intro h x
      have l0 : (x 0).val < 256 := (x 0).isLt
      have e : x = ix2 (⟨(x 0).val, l0⟩ : Fin 256) (⟨(x 1).val, (x 1).isLt⟩ : Fin 256) := funext fun a => match a with | 0 => rfl | 1 => rfl
      have v0 : ((pieceOdd x0 x1 x2 x3 x4 x5 x6 s h).1.emb x 0).val = 1 * 256 + (x 0).val := Rect.idx_unit_val _ _ (inbO 1 h) x 0
      have v1 : ((pieceOdd x0 x1 x2 x3 x4 x5 x6 s h).1.emb x 1).val = h.val * 256 + (x 1).val := Rect.idx_unit_val _ _ (inbO 1 h) x 1
      refine Eq.trans ?_ (blockOf_at sg b s _ ⟨s.val * 512 + 256 + (x 0).val, by omega⟩ h ⟨(x 1).val, (x 1).isLt⟩ (by rw [v0]; show s.val * 512 + 256 + (x 0).val = _; omega) v1).symm
      refine (congrArg (pieceOdd x0 x1 x2 x3 x4 x5 x6 s h).2 e).trans ?_
      exact odd_result H h ⟨(x 0).val, l0⟩ ⟨(x 1).val, (x 1).isLt⟩ _ rfl
    intro p hp
    simp only [tiles, List.mem_cons, List.not_mem_nil, or_false] at hp
    rcases hp with rfl | rfl | rfl | rfl | rfl | rfl | rfl | rfl
    · exact O 3
    · exact E 3
    · exact O 2
    · exact E 2
    · exact O 1
    · exact E 1
    · exact O 0
    · exact E 0
  · have hh : ∀ h : Fin 4, pieceEven x0 x1 x2 x3 x4 x5 x6 s h ∈ tiles x0 x1 x2 x3 x4 x5 x6 s ∧ pieceOdd x0 x1 x2 x3 x4 x5 x6 s h ∈ tiles x0 x1 x2 x3 x4 x5 x6 s := by
      intro h
      fin_cases h <;> simp [tiles]
    have hd : (y 1).val / 256 < 4 := by omega
    by_cases c : (y 0).val < 256
    · refine ⟨_, (hh ⟨(y 1).val / 256, hd⟩).1, (Rect.mem_set_unit (inb := inbO 0 ⟨(y 1).val / 256, hd⟩)).2 fun a => ?_⟩
      match a with
      | 0 => exact (show 0 * 256 ≤ (y 0).val ∧ (y 0).val < 0 * 256 + 256 by omega)
      | 1 => exact (show (y 1).val / 256 * 256 ≤ (y 1).val ∧ (y 1).val < (y 1).val / 256 * 256 + 256 by omega)
    · refine ⟨_, (hh ⟨(y 1).val / 256, hd⟩).2, (Rect.mem_set_unit (inb := inbO 1 ⟨(y 1).val / 256, hd⟩)).2 fun a => ?_⟩
      match a with
      | 0 => exact (show 1 * 256 ≤ (y 0).val ∧ (y 0).val < 1 * 256 + 256 by omega)
      | 1 => exact (show (y 1).val / 256 * 256 ≤ (y 1).val ∧ (y 1).val < (y 1).val / 256 * 256 + 256 by omega)

/-- Whatever the branch, the block a grid point leaves is the result's. -/
theorem outs_result (A : Args mm c q k v rb lq lk) (t : Fin cfg0.N) : outsAt0 mm c t.val t.isLt
    = blockOf q k v rb lq lk (karg6 mm c) ⟨t.val / 4, by have : t.val < 64 := t.isLt; omega⟩ ⟨t.val % 4, Nat.mod_lt _ (by norm_num)⟩ := by
  rw [← tiles_result (blocks A t)]
  have h4 : t.val % 4 < 4 := Nat.mod_lt _ (by norm_num)
  by_cases h0 : 1 ≤ t.val % 4
  · by_cases h1 : t.val % 4 = 1
    · rw [outs_B mm c t h0 (by simpa using h1)]; unfold tilesAt; congr 2; exact Fin.ext h1.symm
    · by_cases h2 : t.val % 4 = 2
      · rw [outs_C mm c t h0 h1 (by simpa using h2)]; unfold tilesAt; congr 2; exact Fin.ext h2.symm
      · rw [outs_D mm c t h0 h1 h2]; unfold tilesAt; congr 2; exact Fin.ext (show 3 = t.val % 4 by omega)
  · rw [outs_A mm c t h0]; unfold tilesAt; congr 2; exact Fin.ext (show 0 = t.val % 4 by omega)

/-- The result's buffer after the launch. -/
theorem arr_result (A : Args mm c q k v rb lq lk) : (dats mm 0 c).arrAt 7 cfg0.N
    = fun i : S32768x1024.Idx => resultAt q k v rb lq lk (karg6 mm c) (i 0) (i 1) := by
  refine (dats mm 0 c).arrAt_eq_of_covers 7 _ (by decide +kernel) fun t hf y => ?_
  have p := places t
  have v0 : (((cfg0.win 7).blk t).view.emb y 0).val = t.val * 512 + (y 0).val := by blk_simp [p.2.2.2.2.2.2.2]
  have v1 : (((cfg0.win 7).blk t).view.emb y 1).val = (y 1).val := by blk_simp [p.2.2.2.2.2.2.2]
  refine (congrFun ((after0_7 mm c t).trans (outs_result A t)) _).trans ?_
  have ht : t.val < 64 := t.isLt
  have y0 : (y 0).val < 512 := (y 0).isLt
  have y1 : (y 1).val < 1024 := (y 1).isLt
  have g : ∀ (R : Fin 32768) (C : Fin 1024) (z : S512x1024.Idx), R.val = t.val * 512 + (y 0).val → C.val = (y 1).val → (z 0).val = (y 0).val → (z 1).val = (y 1).val →
      blockOf q k v rb lq lk (karg6 mm c) ⟨t.val / 4, by omega⟩ ⟨t.val % 4, Nat.mod_lt _ (by norm_num)⟩ z = resultAt q k v rb lq lk (karg6 mm c) R C := by
    intro R C z hR hC z0 z1
    unfold resultAt
    have eb : (⟨R.val / 2048, by omega⟩ : Fin 16) = ⟨t.val / 4, by omega⟩ := Fin.ext (show R.val / 2048 = t.val / 4 by omega)
    rw [eb]
    exact blockOf_at _ _ _ _ _ _ _ (show R.val % 2048 = t.val % 4 * 512 + (z 0).val by omega) (show (z 1).val = C.val / 256 * 256 + C.val % 256 by omega)
  exact g _ _ _ v0 v1 rfl rfl

end Cert.Attn

end
-- ==== Proof.Attn.RefBucket.lean ====
/- The reference's bias: the bucket it computes for a query and a key is the bucket of the specification, its gather
   reads that row of the table, and its mask lets through the keys the specification lets through. -/
module

public import proofs.«01_k».proof.Proof.Gen.ReferenceIdeal.Read
public import proofs.«01_k».proof.Proof.Attn.Spec

@[expose] public section

noncomputable section

namespace Cert.Attn

open Idealize.ShloMosaic Cert.ReferenceIdeal Cert.ReferenceIdeal.Read
open scoped BigOperators

/-- A small whole number, as a word read signed, is itself. -/
theorem toInt_small (a : ℕ) (ha : a < 2 ^ 31) : (BitVec.ofNat 32 a).toInt = (a : ℤ) := by
  rw [BitVec.toInt_eq_toNat_cond, BitVec.toNat_ofNat, Nat.mod_eq_of_lt (by omega), if_pos (by omega)]

/-- Comparing two small words compares the numbers. -/
theorem slt_small (a b : ℕ) (ha : a < 2 ^ 31) (hb : b < 2 ^ 31) : (BitVec.ofNat 32 a).slt (BitVec.ofNat 32 b) = decide (a < b) := by
  rw [BitVec.slt_eq_decide, toInt_small a ha, toInt_small b hb]; simp

/-- The difference of two positions, read signed. -/
theorem toInt_diff (q k : ℕ) (hq : q < 2048) (hk : k < 2048) : (BitVec.ofNat 32 k - BitVec.ofNat 32 q).toInt = (k : ℤ) - q := by
  rw [BitVec.toInt_sub, toInt_small k (by omega), toInt_small q (by omega), Int.bmod_def]; omega

/-- The absolute value of the difference is the distance. -/
theorem abs_diff (q k : ℕ) (hq : q < 2048) (hk : k < 2048) :
    IntOp.absi (IntOp.subi (BitVec.ofNat 32 k) (BitVec.ofNat 32 q)) = BitVec.ofNat 32 (k - q + (q - k)) := by
  have hd := toInt_diff q k hq hk
  show (if (BitVec.ofNat 32 k - BitVec.ofNat 32 q).msb then -(BitVec.ofNat 32 k - BitVec.ofNat 32 q) else (BitVec.ofNat 32 k - BitVec.ofNat 32 q)) = _
  rw [BitVec.msb_eq_toInt, hd]
  by_cases h : (k : ℤ) - q < 0
  · rw [if_pos (by simpa using h)]
    refine BitVec.eq_of_toInt_eq ?_
    rw [BitVec.toInt_neg, hd, toInt_small _ (by omega), Int.bmod_def]; omega
  · rw [if_neg (by simpa using h)]
    refine BitVec.eq_of_toInt_eq ?_
    rw [hd, toInt_small _ (by omega)]; omega

/-- The difference is positive where the key comes after. -/
theorem sgt_diff (q k : ℕ) (hq : q < 2048) (hk : k < 2048) :
    IntOp.cmpi .sgt (IntOp.subi (BitVec.ofNat 32 k) (BitVec.ofNat 32 q)) 0#32 = BitVec.ofBool (decide (q < k)) := by
  have hd := toInt_diff q k hq hk
  show BitVec.ofBool ((0#32).slt (BitVec.ofNat 32 k - BitVec.ofNat 32 q)) = _
  rw [BitVec.slt_eq_decide, hd]
  congr 1
  simp

/-- The reference's formula for far distances, rounded toward zero. -/
theorem far_formula (n : ℕ) (hn : 8 ≤ n) (hb : n < 2048) :
    ∃ j < 100, large n = min (8 + j) 15 ∧
      Ideal.fptosi 32 (Ideal.div (Ideal.log (Ideal.div (((BitVec.ofNat 32 n).toInt : ℝ) : EReal) (Ideal.ofBits .f32 0x41000000#32)))
        (Ideal.log (Ideal.ofBits .f32 0x41800000#32)) * Ideal.ofBits .f32 0x41000000#32) = BitVec.ofNat 32 j := by
  obtain ⟨j, hj, a, b, e⟩ := exists_between n hn hb
  refine ⟨j, hj, e, ?_⟩
  have h8 : Ideal.ofBits .f32 0x41000000#32 = ((8 : ℝ) : EReal) := by
    simp [Ideal.ofBits, Ideal.ieee]; rw [← EReal.coe_mul]; congr 1; norm_num
  have h16 : Ideal.ofBits .f32 0x41800000#32 = ((16 : ℝ) : EReal) := by
    simp [Ideal.ofBits, Ideal.ieee]; rw [← EReal.coe_mul]; congr 1; norm_num
  have hlog : ∀ r : ℝ, 0 < r → Ideal.log (r : EReal) = ((Real.log r : ℝ) : EReal) := fun r hr => by
    show (if r ≤ 0 then (⊥ : EReal) else ((Real.log r : ℝ) : EReal)) = _
    rw [if_neg (not_le.2 hr)]
  have hp : (0 : ℝ) < n := by exact_mod_cast (by omega : 0 < n)
  rw [h8, h16, toInt_small n (by omega), div_coe _ _ (by norm_num), hlog 16 (by norm_num), hlog _ (by push_cast; positivity),
    div_coe _ _ (Real.log_pos (by norm_num)).ne', ← EReal.coe_mul, ← fptosi_log n j hn hj a b]
  push_cast; rfl

/-- The bucket the reference computes. -/
theorem ref_bucket (q k : Fin 2048) : val_main_v56 (F := Ideal) (ix2 q k) = BitVec.ofNat 32 (bucket q.val k.val) := by
  have hq := q.isLt; have hk := k.isLt
  have e26 : val_main_v26 (F := Ideal) (ix2 q k) = IntOp.subi (BitVec.ofNat 32 k.val) (BitVec.ofNat 32 q.val) := by
    rw [val_main_v26_apply, val_main_v24_apply, val_main_v25_apply, val_main_v22_apply, val_main_v23_apply, val_main_v21_apply, val_main_v21_apply]
    rfl
  have e29 : val_main_v29 (F := Ideal) (ix2 q k) = BitVec.ofNat 32 (if q.val < k.val then 16 else 0) := by
    rw [val_main_v29_apply, val_main_v28_apply, val_main_v27_apply, val_main_c_apply, val_main_call0_v0_apply, val_main_call0_v1_apply,
      val_main_c_2_apply, val_main_c_3_apply, e26, sgt_diff _ _ hq hk]
    by_cases h : q.val < k.val <;> simp [h, Scalar.select]
  generalize hn : k.val - q.val + (q.val - k.val) = n
  have hb : n < 2048 := by omega
  have e30 : val_main_v30 (F := Ideal) (ix2 q k) = BitVec.ofNat 32 n := by
    rw [val_main_v30_apply, e26, abs_diff _ _ hq hk, hn]
  have e49 : val_main_v49 (F := Ideal) (ix2 q k) = BitVec.ofNat 32 (large n) := by
    rw [val_main_v49_apply, val_main_v48_apply, val_main_v47_apply, val_main_c_10_apply, e30]
    rw [show IntOp.cmpi .slt (BitVec.ofNat 32 n) 8#32 = BitVec.ofBool (decide (n < 8)) from congrArg BitVec.ofBool (slt_small n 8 (by omega) (by omega))]
    by_cases h : n < 8
    · simp [h, Scalar.select, large]
    · obtain ⟨j, hj, e, ef⟩ := far_formula n (by omega) hb
      have e32 : val_main_v32 (F := Ideal) (ix2 q k) = BitVec.ofNat 32 n := by
        rw [val_main_v32_apply, e30, val_main_v31_apply, val_main_c_4_apply]
        show (if (1#32).slt (BitVec.ofNat 32 n) then BitVec.ofNat 32 n else 1#32) = _
        rw [show (1#32).slt (BitVec.ofNat 32 n) = decide (1 < n) from slt_small 1 n (by omega) (by omega), if_pos (by simp; omega)]
      have e42 : val_main_v42 (F := Ideal) (ix2 q k) = BitVec.ofNat 32 j := by
        rw [val_main_v42_apply, val_main_v41_apply, val_main_v39_apply, val_main_v40_apply, val_main_cst_7_apply, val_main_v38_apply,
          val_main_v37_apply, val_main_cst_6_apply, val_main_v36_apply, val_main_v35_apply, val_main_v34_apply, val_main_cst_5_apply,
          val_main_v33_apply, e32]
        exact ef
      have e44 : val_main_v44 (F := Ideal) (ix2 q k) = BitVec.ofNat 32 (8 + j) := by
        rw [val_main_v44_apply, e42, val_main_v43_apply, val_main_c_8_apply]
        show BitVec.ofNat 32 8 + BitVec.ofNat 32 j = _
        rw [← BitVec.ofNat_add]
      have e46 : val_main_v46 (F := Ideal) (ix2 q k) = BitVec.ofNat 32 (min (8 + j) 15) := by
        rw [val_main_v46_apply, e44, val_main_v45_apply, val_main_c_9_apply]
        show (if (BitVec.ofNat 32 (8 + j)).slt 15#32 then BitVec.ofNat 32 (8 + j) else 15#32) = _
        rw [show (BitVec.ofNat 32 (8 + j)).slt 15#32 = decide (8 + j < 15) from slt_small (8 + j) 15 (by omega) (by omega)]
        by_cases h15 : 8 + j < 15
        · rw [if_pos (by simpa using h15), min_eq_left (by omega)]
        · rw [if_neg (by simpa using h15), min_eq_right (by omega)]
      rw [e46, e]
      simp [h, Scalar.select]
  have e51 : val_main_v51 (F := Ideal) (ix2 q k) = BitVec.ofNat 32 (bucket q.val k.val) := by
    rw [val_main_v51_apply, val_main_v50_apply, e29, e49]
    show BitVec.ofNat 32 _ + BitVec.ofNat 32 _ = _
    rw [← BitVec.ofNat_add, bucket, hn]
  have hlt := bucket_lt q.val k.val
  rw [val_main_v56_apply, val_main_v53_apply, val_main_v52_apply, val_main_c_11_apply, e51,
    show IntOp.cmpi .slt (BitVec.ofNat 32 (bucket q.val k.val)) 0#32 = BitVec.ofBool (decide (bucket q.val k.val < 0)) from
      congrArg BitVec.ofBool (slt_small _ 0 (by omega) (by omega))]
  simp [Scalar.select]

/-- The reference's gather reads the bucket's row of the table. -/
theorem ref_bias (x3 : (⟨S32x4, .f32⟩ : BufTy).Contents (Elt Ideal)) (q k : Fin 2048) (h : Fin 4) :
    val_main_v58 (F := Ideal) x3 (ix3 q k h) = x3 (ix2 (bkt q.val k.val) h) := by
  have hidx : (val_main_v57 (F := Ideal) (ix3 q k 0)).toInt.toNat = bucket q.val k.val := by
    rw [val_main_v57_apply]
    have e : idx_main_v57 (ix3 q k 0) = ix2 q k := by
      funext a; match a with
      | ⟨0, _⟩ => rfl
      | ⟨1, _⟩ => rfl
    rw [e, ref_bucket, toInt_small _ (by have := bucket_lt q.val k.val; omega)]; simp
  have hlt := bucket_lt q.val k.val
  generalize hd : gather_S32x4_S2048x2048x1_S2048x2048x4_2_0_n_n_0_2_14 = D
  unfold val_main_v58 Host.gather
  rw [hd]
  congr 1
  funext a
  refine Fin.ext ?_
  show D.start (ix3 q k h) _ a + D.batchCoord (ix3 q k h) a + D.offCoord (ix3 q k h) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S32x4.rank) ∈ gather_S32x4_S2048x2048x1_S2048x2048x4_2_0_n_n_0_2_14.startIndexMap from List.mem_singleton.mpr rfl)]
    have hsi : gather_S32x4_S2048x2048x1_S2048x2048x4_2_0_n_n_0_2_14.siIdx (ix3 q k h) ⟨List.idxOf (0 : Fin 2) gather_S32x4_S2048x2048x1_S2048x2048x4_2_0_n_n_0_2_14.startIndexMap,
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi, hidx]
    show min (bucket q.val k.val) 31 = bucket q.val k.val
    omega
  · rw [GatherDims.batchCoord_eq_zero _ _ _ List.not_mem_nil]
    unfold GatherDims.start
    rw [dif_neg (by decide)]
    simp only [Nat.add_zero, Nat.zero_add]
    rfl

end Cert.Attn

end
-- ==== Proof.Attn.RefMap.lean ====
/- The reference's two softmax maps read at an index: a masked logit, its row's maximum as a real number, and the
   exponentials as multiples of the specification's weights. -/
module

public import proofs.«01_k».proof.Proof.Attn.RefBucket

@[expose] public section

noncomputable section

namespace Cert.Attn

open Idealize.ShloMosaic Cert.ReferenceIdeal Cert.ReferenceIdeal.Read
open scoped BigOperators

/-- A position divided by the chunk length. -/
theorem chunk_div : ∀ a : Fin 2048, IntOp.divsi .host (BitVec.ofNat 32 a.val) 64#32 = BitVec.ofNat 32 (a.val / 64) := by decide +kernel

/-- The reference's mask. -/
theorem ref_mask (q k : Fin 2048) : val_main_v66 (F := Ideal) (ix2 q k) = BitVec.ofBool (decide (seen q.val k.val)) := by
  have hq := q.isLt; have hk := k.isLt
  rw [val_main_v66_apply, val_main_v64_apply, val_main_v65_apply, val_main_v62_apply, val_main_v63_apply, val_main_v61_apply, val_main_v61_apply,
    val_main_v60_apply, val_main_v60_apply, val_main_c_13_apply, val_main_v21_apply, val_main_v21_apply]
  have e1 := chunk_div k
  have e2 := chunk_div q
  show BitVec.ofBool (BitVec.sle (IntOp.divsi .host (BitVec.ofNat 32 k.val) 64#32) (IntOp.divsi .host (BitVec.ofNat 32 q.val) 64#32)) = _
  rw [e1, e2, BitVec.sle_eq_decide, toInt_small _ (by omega), toInt_small _ (by omega)]
  congr 1
  unfold seen
  exact decide_eq_decide.2 (by omega)

/-- The running maximum of a list: above the start and every element, and not `⊤` where none of them is. -/
theorem foldl_max {α : Type} (f : α → EReal) (l : List α) (b : EReal) :
    (b ≠ ⊤ → (∀ a, f a ≠ ⊤) → l.foldl (fun r n => max r (f n)) b ≠ ⊤) ∧ b ≤ l.foldl (fun r n => max r (f n)) b
      ∧ ∀ a ∈ l, f a ≤ l.foldl (fun r n => max r (f n)) b := by
  induction l generalizing b with
  | nil => exact ⟨fun h _ => h, le_rfl, fun a h => absurd h List.not_mem_nil⟩
  | cons c l ih =>
    obtain ⟨i1, i2, i3⟩ := ih (max b (f c))
    refine ⟨fun h h' => i1 ?_ h', le_trans (le_max_left _ _) i2, fun a h => ?_⟩
    · rcases max_choice b (f c) with e | e <;> rw [e]
      · exact h
      · exact h' c
    · rcases List.mem_cons.1 h with rfl | h
      · exact le_trans (le_max_right _ _) i2
      · exact i3 a h

section
variable (x0 x1 : (⟨S16x2048x1024, .f32⟩ : BufTy).Contents (Elt Ideal)) (x3 : (⟨S32x4, .f32⟩ : BufTy).Contents (Elt Ideal))
variable (q k : S16x2048x1024.Idx → ℝ) (rb : S32x4.Idx → ℝ)
variable (h0 : ∀ i, x0 i = ((q i : ℝ) : EReal)) (h1 : ∀ i, x1 i = ((k i : ℝ) : EReal)) (h3 : ∀ i, x3 i = ((rb i : ℝ) : EReal))
include h0 h1

/-- The product of a query and a key. -/
theorem ref_dot (b : Fin 16) (h : Fin 4) (p : Fin 2) (qp kk : Fin 2048) :
    val_main_v67 (F := Ideal) x0 x1 (ix5 b h p qp kk) = ((dotR q k b qp h p kk.val : ℝ) : EReal) := by
  have hb := b.isLt; have hh := h.isLt; have hp := p.isLt; have hq := qp.isLt; have hk := kk.isLt
  rw [val_main_v67_apply, dotR, ← coe_sum]
  refine Finset.sum_congr rfl fun d _ => ?_
  have hd := d.isLt
  rw [val_main_v0_apply, val_main_v1_apply, h0, h1, ← EReal.coe_mul]
  have e1 : idx_main_v0 (lidx_main_v67 (ix5 b h p qp kk) d) = ix3 b qp (col h p d) := by
    funext a; match a with
    | ⟨0, _⟩ => exact Fin.ext (by show ((((b.val * 2048 + qp.val) * 4 + h.val) * 2 + p.val) * 128 + d.val) / 2097152 = b.val; omega)
    | ⟨1, _⟩ => exact Fin.ext (by show ((((b.val * 2048 + qp.val) * 4 + h.val) * 2 + p.val) * 128 + d.val) / 1024 % 2048 = qp.val; omega)
    | ⟨2, _⟩ => exact Fin.ext (by show ((((b.val * 2048 + qp.val) * 4 + h.val) * 2 + p.val) * 128 + d.val) % 1024 = h.val * 256 + p.val * 128 + d.val; omega)
  have e2 : idx_main_v1 (ridx_main_v67 (ix5 b h p qp kk) d) = ix3 b (kpos kk.val) (col h p d) := by
    rw [kpos_eq _ hk]
    funext a; match a with
    | ⟨0, _⟩ => exact Fin.ext (by show ((((b.val * 2048 + kk.val) * 4 + h.val) * 2 + p.val) * 128 + d.val) / 2097152 = b.val; omega)
    | ⟨1, _⟩ => exact Fin.ext (by show ((((b.val * 2048 + kk.val) * 4 + h.val) * 2 + p.val) * 128 + d.val) / 1024 % 2048 = kk.val; omega)
    | ⟨2, _⟩ => exact Fin.ext (by show ((((b.val * 2048 + kk.val) * 4 + h.val) * 2 + p.val) * 128 + d.val) % 1024 = h.val * 256 + p.val * 128 + d.val; omega)
  rw [e1, e2]

include h3
/-- A masked logit. -/
theorem ref_logit (b : Fin 16) (h : Fin 4) (p : Fin 2) (qp kk : Fin 2048) :
    val_main_v73 (F := Ideal) x0 x1 x3 (ix5 b h p qp kk)
      = if seen qp.val kk.val then ((lg q k rb b qp h p kk.val : ℝ) : EReal) else ⊥ := by
  have em : val_main_call2_v1 (F := Ideal) (ix5 b h p qp kk) = BitVec.ofBool (decide (seen qp.val kk.val)) := by
    rw [val_main_call2_v1_apply, ← ref_mask]
    refine congrArg _ (funext fun a => ?_)
    match a with
    | ⟨0, _⟩ => rfl
    | ⟨1, _⟩ => rfl
  have eb : val_main_v71 (F := Ideal) x3 (ix5 b h p qp kk) = ((rb (ix2 (bkt qp.val kk.val) h) : ℝ) : EReal) := by
    rw [val_main_v71_apply, val_main_v70_apply, val_main_v59_apply, ← h3, ← ref_bias x3]
    refine congrArg _ (funext fun a => ?_)
    match a with
    | ⟨0, _⟩ => rfl
    | ⟨1, _⟩ => rfl
    | ⟨2, _⟩ => rfl
  have ev : val_main_v72 (F := Ideal) x0 x1 x3 (ix5 b h p qp kk) = ((lg q k rb b qp h p kk.val : ℝ) : EReal) := by
    rw [val_main_v72_apply, val_main_v69_apply, val_main_v68_apply, val_main_cst_14_apply, eb, ref_dot x0 x1 q k h0 h1, lg, EReal.coe_add, EReal.coe_mul,
      ← ofBits_scale]
    rfl
  have ec : val_main_call2_v2 (F := Ideal) (ix5 b h p qp kk) = (⊥ : EReal) := by
    rw [val_main_call2_v2_apply, val_main_call2_v0_apply, val_main_cst_15_apply]
    exact ofBits_negInf
  rw [val_main_v73_apply, em, ev, ec]
  by_cases hs : seen qp.val kk.val <;> simp [hs, Scalar.select]

/-- A row's maximum is a real number. -/
theorem ref_max (b : Fin 16) (h : Fin 4) (p : Fin 2) (qp : Fin 2048) :
    ∃ N : ℝ, val_main_v76 (F := Ideal) x0 x1 x3 (ix4 b h p qp) = (N : EReal) := by
  have H : ∀ i : S16x4x2x2048x2048.Idx, val_main_v73 (F := Ideal) x0 x1 x3 i ≠ (⊤ : EReal) := fun i => by
    have e : i = ix5 (i 0) (i 1) (i 2) (i 3) (i 4) := funext fun a => by
      match a with
      | ⟨0, _⟩ => rfl
      | ⟨1, _⟩ => rfl
      | ⟨2, _⟩ => rfl
      | ⟨3, _⟩ => rfl
      | ⟨4, _⟩ => rfl
    rw [e]
    refine ne_of_eq_of_ne (ref_logit x0 x1 x3 q k rb h0 h1 h3 (i 0) (i 1) (i 2) (i 3) (i 4)) ?_
    split_ifs
    · exact EReal.coe_ne_top _
    · exact bot_ne_top
  have D := ref_logit x0 x1 x3 q k rb h0 h1 h3 b h p qp qp
  rw [if_pos (show seen qp.val qp.val from le_rfl)] at D
  have hI : (val_main_cst_16 (F := Ideal)) (Shape.Idx.first Cert.ReferenceIdeal.Gen.h_S_) = (⊥ : EReal) := ofBits_negInf
  have F := foldl_max (fun n : Fin S16x4x2x2048x2048.numel => (val_main_v73 (F := Ideal) x0 x1 x3 (S16x4x2x2048x2048.rowMajor.symm n) : EReal))
    ((List.finRange S16x4x2x2048x2048.numel).filter fun n =>
      (Cert.ReferenceIdeal.Gen.reducesTo_S16x4x2x2048x2048_S16x4x2x2048_d4).drop (S16x4x2x2048x2048.rowMajor.symm n) = ix4 b h p qp) ⊥
  have E : val_main_v74 (F := Ideal) x0 x1 x3 (ix4 b h p qp) = ((List.finRange S16x4x2x2048x2048.numel).filter fun n =>
      (Cert.ReferenceIdeal.Gen.reducesTo_S16x4x2x2048x2048_S16x4x2x2048_d4).drop (S16x4x2x2048x2048.rowMajor.symm n) = ix4 b h p qp).foldl
        (fun r n => max r (val_main_v73 (F := Ideal) x0 x1 x3 (S16x4x2x2048x2048.rowMajor.symm n) : EReal)) ⊥ := by
    rw [← hI]; rfl
  have n1 : val_main_v74 (F := Ideal) x0 x1 x3 (ix4 b h p qp) ≠ (⊤ : EReal) := by
    rw [E]; exact F.1 bot_ne_top fun a => H _
  have n2 : ((lg q k rb b qp h p qp.val : ℝ) : EReal) ≤ val_main_v74 (F := Ideal) x0 x1 x3 (ix4 b h p qp) := by
    rw [E, ← D]
    refine le_trans (le_of_eq ?_) (F.2.2 (S16x4x2x2048x2048.rowMajor (ix5 b h p qp qp)) (List.mem_filter.2 ⟨List.mem_finRange _, decide_eq_true ?_⟩))
    · show _ = val_main_v73 (F := Ideal) x0 x1 x3 (S16x4x2x2048x2048.rowMajor.symm (S16x4x2x2048x2048.rowMajor (ix5 b h p qp qp)))
      rw [Equiv.symm_apply_apply]
    · rw [Equiv.symm_apply_apply]
      exact (Shape.ReducesTo.fiber_r5_a4 _ _ _).2 ⟨qp, funext fun a => by
        match a with
        | ⟨0, _⟩ => rfl
        | ⟨1, _⟩ => rfl
        | ⟨2, _⟩ => rfl
        | ⟨3, _⟩ => rfl
        | ⟨4, _⟩ => rfl⟩
  have n3 : val_main_v74 (F := Ideal) x0 x1 x3 (ix4 b h p qp) ≠ (⊥ : EReal) := fun e => by
    rw [e] at n2; exact EReal.coe_ne_bot _ (le_bot_iff.1 n2)
  refine ⟨EReal.toReal (val_main_v74 (F := Ideal) x0 x1 x3 (ix4 b h p qp)), ?_⟩
  rw [EReal.coe_toReal n1 n3, val_main_v76_apply, val_main_v75_apply, val_main_cst_17_apply]
  show max (Ideal.ofBits .f32 0xFF800000#32) _ = _
  rw [ofBits_negInf]
  exact max_eq_right bot_le

/-- The exponentials of a row are one multiple of the weights. -/
theorem ref_weights (b : Fin 16) (h : Fin 4) (p : Fin 2) (qp : Fin 2048) :
    ∃ D : ℝ, D ≠ 0 ∧ ∀ kk : Fin 2048, val_main_v80 (F := Ideal) x0 x1 x3 (ix5 b h p qp kk)
      = ((D * weight (seen qp.val) (lg q k rb b qp h p) kk.val : ℝ) : EReal) := by
  obtain ⟨N, hN⟩ := ref_max x0 x1 x3 q k rb h0 h1 h3 b h p qp
  refine ⟨Real.exp (-N), (Real.exp_pos _).ne', fun kk => ?_⟩
  have hL := ref_logit x0 x1 x3 q k rb h0 h1 h3 b h p qp
  rw [← exp_weight (seen qp.val) (lg q k rb b qp h p) N (fun kk => val_main_v73 (F := Ideal) x0 x1 x3 (ix5 b h p qp kk))
    (fun kk hk => by rw [hL, if_pos hk]) (fun kk hk => by rw [hL, if_neg hk]) kk]
  rw [val_main_v80_apply, val_main_v79_apply, val_main_v78_apply, val_main_v77_apply, ← hN]
  refine congrArg (fun z => Ideal.exp (val_main_v73 (F := Ideal) x0 x1 x3 (ix5 b h p qp kk) - val_main_v76 (F := Ideal) x0 x1 x3 z)) (funext fun a => ?_)
  match a with
  | ⟨0, _⟩ => rfl
  | ⟨1, _⟩ => rfl
  | ⟨2, _⟩ => rfl
  | ⟨3, _⟩ => rfl

omit h0 h1 h3 in
/-- A softmax element: an exponential over its row's sum. -/
theorem ref_softmax (b : Fin 16) (h : Fin 4) (p : Fin 2) (qp kk : Fin 2048) :
    val_main_v84 (F := Ideal) x0 x1 x3 (ix5 b h p qp kk) = Ideal.div (val_main_v80 (F := Ideal) x0 x1 x3 (ix5 b h p qp kk))
      (∑ kk : Fin 2048, (val_main_v80 (F := Ideal) x0 x1 x3 (ix5 b h p qp kk) : EReal)) := by
  rw [val_main_v84_apply, val_main_v83_apply, val_main_v82_apply, val_main_v81_apply]
  refine congrArg (Ideal.div _) ?_
  have hz : (val_main_cst_18 (F := Ideal)) (Shape.Idx.first Cert.ReferenceIdeal.Gen.h_S_) = (0 : EReal) := by
    show Ideal.ofBits .f32 0x00000000#32 = 0
    simp [Ideal.ofBits, Ideal.ieee]
  rw [hz, zero_add]
  refine Finset.sum_congr rfl fun j _ => congrArg _ (funext fun a => ?_)
  match a with
  | ⟨0, _⟩ => rfl
  | ⟨1, _⟩ => rfl
  | ⟨2, _⟩ => rfl
  | ⟨3, _⟩ => rfl
  | ⟨4, _⟩ => rfl

end

end Cert.Attn

end
-- ==== Proof.Attn.RefRead.lean ====
/- The reference's result read at an index: the specification's result. -/
module

public import proofs.«01_k».proof.Proof.Attn.RefMap

@[expose] public section

noncomputable section

namespace Cert.Attn

open Idealize.ShloMosaic Cert.ReferenceIdeal Cert.ReferenceIdeal.Read
open scoped BigOperators

/-- A sum over a vector's indices is a sum over its positions. -/
theorem sum_vec (f : S128.Idx → EReal) : ∑ j : S128.Idx, f j = ∑ d : Fin 128, f (ix1 d) := by
  refine (Equiv.sum_comp (⟨fun d => ix1 d, fun j => j 0, fun _ => rfl, fun j => funext fun a => ?_⟩ : Fin 128 ≃ S128.Idx) f).symm
  match a with
  | ⟨0, _⟩ => rfl

section
variable (x0 x1 x2 : (⟨S16x2048x1024, .f32⟩ : BufTy).Contents (Elt Ideal)) (x3 : (⟨S32x4, .f32⟩ : BufTy).Contents (Elt Ideal))
variable (x4 x5 : (⟨S1x2x128, .f32⟩ : BufTy).Contents (Elt Ideal)) (x6 : (⟨S1x256, .f32⟩ : BufTy).Contents (Elt Ideal))
variable (q k v : S16x2048x1024.Idx → ℝ) (rb : S32x4.Idx → ℝ) (lq lk : S1x2x128.Idx → ℝ)
variable (h0 : ∀ i, x0 i = ((q i : ℝ) : EReal)) (h1 : ∀ i, x1 i = ((k i : ℝ) : EReal)) (h2 : ∀ i, x2 i = ((v i : ℝ) : EReal))
variable (h3 : ∀ i, x3 i = ((rb i : ℝ) : EReal)) (h4 : ∀ i, x4 i = ((lq i : ℝ) : EReal)) (h5 : ∀ i, x5 i = ((lk i : ℝ) : EReal))

include h4 h5 in
/-- The second map's weight. -/
theorem ref_lam (i : S_.Idx) : val_main_v20 (F := Ideal) x4 x5 i = ((lamR lq lk : ℝ) : EReal) := by
  have hz : (val_main_cst (F := Ideal)) (Shape.Idx.first Cert.ReferenceIdeal.Gen.h_S_) = (0 : EReal) := by
    show Ideal.ofBits .f32 0x00000000#32 = 0
    simp [Ideal.ofBits, Ideal.ieee]
  have hz0 : (val_main_cst_0 (F := Ideal)) (Shape.Idx.first Cert.ReferenceIdeal.Gen.h_S_) = (0 : EReal) := by
    show Ideal.ofBits .f32 0x00000000#32 = 0
    simp [Ideal.ofBits, Ideal.ieee]
  have e0 : val_main_v10 (F := Ideal) x4 x5 i = ((∑ d : Fin 128, lq (ix3 0 0 d) * lk (ix3 0 0 d) : ℝ) : EReal) := by
    rw [val_main_v10_apply, hz, zero_add, sum_vec, ← coe_sum]
    refine Finset.sum_congr rfl fun d _ => ?_
    have hd := d.isLt
    rw [val_main_v9_apply, val_main_v6_apply, val_main_v8_apply, val_main_v5_apply, val_main_v7_apply, val_main_v3_apply, val_main_v4_apply, h4, h5, EReal.coe_mul]
    have e1 : idx_main_v3 (idx_main_v5 (idx_main_v6 (ix1 d))) = ix3 0 0 d := by
      funext a; match a with
      | ⟨0, _⟩ => rfl
      | ⟨1, _⟩ => exact Fin.ext (by show (0 * 128 + d.val % 128) / 128 % 2 = 0; omega)
      | ⟨2, _⟩ => exact Fin.ext (by show (0 * 128 + d.val % 128) % 128 = d.val; omega)
    exact congrArg₂ (fun a b => ((lq a : ℝ) : EReal) * ((lk b : ℝ) : EReal)) e1 e1
  have e1 : val_main_v17 (F := Ideal) x4 x5 i = ((∑ d : Fin 128, lq (ix3 0 1 d) * lk (ix3 0 1 d) : ℝ) : EReal) := by
    rw [val_main_v17_apply, hz0, zero_add, sum_vec, ← coe_sum]
    refine Finset.sum_congr rfl fun d _ => ?_
    have hd := d.isLt
    rw [val_main_v16_apply, val_main_v13_apply, val_main_v15_apply, val_main_v12_apply, val_main_v14_apply, val_main_v3_apply, val_main_v4_apply, h4, h5, EReal.coe_mul]
    have e1 : idx_main_v3 (idx_main_v12 (idx_main_v13 (ix1 d))) = ix3 0 1 d := by
      funext a; match a with
      | ⟨0, _⟩ => rfl
      | ⟨1, _⟩ => exact Fin.ext (by show ((1 + 0) * 128 + d.val % 128) / 128 % 2 = 1; omega)
      | ⟨2, _⟩ => exact Fin.ext (by show ((1 + 0) * 128 + d.val % 128) % 128 = d.val; omega)
    exact congrArg₂ (fun a b => ((lq a : ℝ) : EReal) * ((lk b : ℝ) : EReal)) e1 e1
  rw [val_main_v20_apply, val_main_v19_apply, val_main_v11_apply, val_main_v18_apply, val_main_cst_1_apply, e0, e1, lamR, EReal.coe_add, EReal.coe_sub, ← ofBits_lam0]
  rfl

include h0 h1 h2 h3 h4 h5

/-- The mixed values. -/
theorem ref_attn (b : Fin 16) (qp : Fin 2048) (h : Fin 4) (x : Fin 256) :
    val_main_v93 (F := Ideal) x0 x1 x2 x3 x4 x5 (ix4 b qp h x) = ((attn q k v rb lq lk b qp h x : ℝ) : EReal) := by
  have hb := b.isLt; have hh := h.isLt; have hq := qp.isLt; have hx := x.isLt
  obtain ⟨D0, hD0, w0⟩ := ref_weights x0 x1 x3 q k rb h0 h1 h3 b h 0 qp
  obtain ⟨D1, hD1, w1⟩ := ref_weights x0 x1 x3 q k rb h0 h1 h3 b h 1 qp
  rw [attn, ← late_eq (seen qp.val) (lg q k rb b qp h 0) (lg q k rb b qp h 1) (lamR lq lk) (fun kk => v (ix3 b (kpos kk) (vcol h x)))
    (fun kk => val_main_v80 (F := Ideal) x0 x1 x3 (ix5 b h 0 qp kk)) (fun kk => val_main_v80 (F := Ideal) x0 x1 x3 (ix5 b h 1 qp kk))
    (fun kk => ((v (ix3 b (kpos kk.val) (vcol h x)) : ℝ) : EReal)) D0 D1 hD0 hD1 w0 w1 (fun _ => rfl) qp.val hq le_rfl]
  rw [val_main_v93_apply, val_main_v92_apply]
  refine Finset.sum_congr rfl fun kk _ => ?_
  have hk := kk.isLt
  have ev : val_main_v2 (F := Ideal) x2 (lidx_main_v92 (idx_main_v93 (ix4 b qp h x)) kk) = ((v (ix3 b (kpos kk.val) (vcol h x)) : ℝ) : EReal) := by
    rw [val_main_v2_apply, h2, kpos_eq _ hk]
    refine congrArg (fun i => ((v i : ℝ) : EReal)) (funext fun a => ?_)
    match a with
    | ⟨0, _⟩ => exact Fin.ext (by show (((b.val * 2048 + kk.val) * 4 + h.val) * 256 + x.val) / 2097152 = b.val; omega)
    | ⟨1, _⟩ => exact Fin.ext (by show (((b.val * 2048 + kk.val) * 4 + h.val) * 256 + x.val) / 1024 % 2048 = kk.val; omega)
    | ⟨2, _⟩ => exact Fin.ext (by show (((b.val * 2048 + kk.val) * 4 + h.val) * 256 + x.val) % 1024 = h.val * 256 + x.val; omega)
  have e86 : val_main_v86 (F := Ideal) x0 x1 x3 (ridx_main_v92 (idx_main_v93 (ix4 b qp h x)) kk) = val_main_v84 (F := Ideal) x0 x1 x3 (ix5 b h 0 qp kk) := by
    rw [val_main_v86_apply, val_main_v85_apply]
    refine congrArg _ (funext fun a => ?_)
    match a with
    | ⟨0, _⟩ => exact Fin.ext (by show (((b.val * 4 + h.val) * 2048 + qp.val) * 2048 + kk.val) / 16777216 = b.val; omega)
    | ⟨1, _⟩ => exact Fin.ext (by show (((b.val * 4 + h.val) * 2048 + qp.val) * 2048 + kk.val) / 4194304 % 4 = h.val; omega)
    | ⟨2, _⟩ => rfl
    | ⟨3, _⟩ => exact Fin.ext (by show (((b.val * 4 + h.val) * 2048 + qp.val) * 2048 + kk.val) / 2048 % 2048 = qp.val; omega)
    | ⟨4, _⟩ => exact Fin.ext (by show (((b.val * 4 + h.val) * 2048 + qp.val) * 2048 + kk.val) % 2048 = kk.val; omega)
  have e88 : val_main_v88 (F := Ideal) x0 x1 x3 (ridx_main_v92 (idx_main_v93 (ix4 b qp h x)) kk) = val_main_v84 (F := Ideal) x0 x1 x3 (ix5 b h 1 qp kk) := by
    rw [val_main_v88_apply, val_main_v87_apply]
    refine congrArg _ (funext fun a => ?_)
    match a with
    | ⟨0, _⟩ => exact Fin.ext (by show (((b.val * 4 + h.val) * 2048 + qp.val) * 2048 + kk.val) / 16777216 = b.val; omega)
    | ⟨1, _⟩ => exact Fin.ext (by show (((b.val * 4 + h.val) * 2048 + qp.val) * 2048 + kk.val) / 4194304 % 4 = h.val; omega)
    | ⟨2, _⟩ => rfl
    | ⟨3, _⟩ => exact Fin.ext (by show (((b.val * 4 + h.val) * 2048 + qp.val) * 2048 + kk.val) / 2048 % 2048 = qp.val; omega)
    | ⟨4, _⟩ => exact Fin.ext (by show (((b.val * 4 + h.val) * 2048 + qp.val) * 2048 + kk.val) % 2048 = kk.val; omega)
  rw [val_main_v91_apply, val_main_v90_apply, val_main_v89_apply, ev, e86, e88, ref_lam x4 x5 lq lk h4 h5, ref_softmax, ref_softmax]
  rfl

/-- The reference's result. -/
theorem ref_result (R : Fin 32768) (C : Fin 1024) (b : Fin 16) (qp : Fin 2048) (h : Fin 4) (x : Fin 256)
    (hR : R.val = b.val * 2048 + qp.val) (hC : C.val = h.val * 256 + x.val) :
    val_main_v111 (F := Ideal) x0 x1 x2 x3 x4 x5 x6 (ix2 R C) = result q k v rb lq lk x6 b qp h x := by
  have hb := b.isLt; have hh := h.isLt; have hq := qp.isLt; have hx := x.isLt
  have A := ref_attn x0 x1 x2 x3 x4 x5 q k v rb lq lk h0 h1 h2 h3 h4 h5 b qp h
  have ei : idx_main_v111 (ix2 R C) = ix4 b qp h x := by
    funext a; match a with
    | ⟨0, _⟩ => exact Fin.ext (by show (R.val * 1024 + C.val) / 2097152 = b.val; omega)
    | ⟨1, _⟩ => exact Fin.ext (by show (R.val * 1024 + C.val) / 1024 % 2048 = qp.val; omega)
    | ⟨2, _⟩ => exact Fin.ext (by show (R.val * 1024 + C.val) / 256 % 4 = h.val; omega)
    | ⟨3, _⟩ => exact Fin.ext (by show (R.val * 1024 + C.val) % 256 = x.val; omega)
  have hz : (val_main_cst_19 (F := Ideal)) (Shape.Idx.first Cert.ReferenceIdeal.Gen.h_S_) = (0 : EReal) := by
    show Ideal.ofBits .f32 0x00000000#32 = 0
    simp [Ideal.ofBits, Ideal.ieee]
  have es : val_main_v95 (F := Ideal) x0 x1 x2 x3 x4 x5 (ix3 b qp h)
      = ∑ y : Fin 256, ((attn q k v rb lq lk b qp h y : ℝ) : EReal) * ((attn q k v rb lq lk b qp h y : ℝ) : EReal) := by
    rw [val_main_v95_apply, hz, zero_add]
    refine Finset.sum_congr rfl fun y _ => ?_
    rw [val_main_v94_apply, ← A y]
    refine congrArg (fun i => (val_main_v93 (F := Ideal) x0 x1 x2 x3 x4 x5 i : EReal) * val_main_v93 (F := Ideal) x0 x1 x2 x3 x4 x5 i) (funext fun a => ?_)
    match a with
    | ⟨0, _⟩ => rfl
    | ⟨1, _⟩ => rfl
    | ⟨2, _⟩ => rfl
    | ⟨3, _⟩ => rfl
  have er : val_main_v102 (F := Ideal) x0 x1 x2 x3 x4 x5 (ix4 b qp h x)
      = Ideal.rsqrt (Ideal.div (∑ y : Fin 256, ((attn q k v rb lq lk b qp h y : ℝ) : EReal) * ((attn q k v rb lq lk b qp h y : ℝ) : EReal)) (Ideal.ofBits .f32 0x43800000#32)
        + Ideal.ofBits .f32 0x358637BD#32) := by
    rw [val_main_v102_apply, val_main_v101_apply, val_main_v100_apply, val_main_v99_apply, val_main_cst_21_apply, val_main_v98_apply, val_main_v97_apply,
      val_main_cst_20_apply, val_main_v96_apply, ← es]
    refine congrArg (fun i => Ideal.rsqrt (Ideal.div (val_main_v95 (F := Ideal) x0 x1 x2 x3 x4 x5 i : EReal) (Ideal.ofBits .f32 0x43800000#32) + Ideal.ofBits .f32 0x358637BD#32)) (funext fun a => ?_)
    match a with
    | ⟨0, _⟩ => rfl
    | ⟨1, _⟩ => rfl
    | ⟨2, _⟩ => rfl
  have eg : val_main_v106 (F := Ideal) x6 (ix4 b qp h x) = x6 (ix2 0 x) := by
    rw [val_main_v106_apply, val_main_v105_apply, val_main_v104_apply]
    refine congrArg _ (funext fun a => ?_)
    match a with
    | ⟨0, _⟩ => rfl
    | ⟨1, _⟩ => exact Fin.ext (by show x.val % 256 = x.val; omega)
  rw [val_main_v111_apply, ei, val_main_v110_apply, val_main_v109_apply, val_main_v108_apply, val_main_cst_22_apply, val_main_v107_apply, val_main_v103_apply, A, er, eg]
  unfold result norm
  exact mul_assoc _ _ _

end

end Cert.Attn

end
-- ==== Proof.Proj.Spec.lean ====
/- The projections written as numbers: the layer norm of a row, the eight blocks of columns of the product with the weights,
   the three-tap causal convolution along a sequence, and the five blocks the packed result holds. Rows are counted over
   all the sequences, 2048 to a sequence. -/
module

public import proofs.«01_k».proof.Proof.Gen.Kernel2Ideal.Skeleton
public import Idealize.ShloMosaic.Lib.Pointwise

@[expose] public section

noncomputable section

namespace Cert.Proj

open Idealize.ShloMosaic Cert.Kernel2Ideal
open scoped BigOperators

/-- The mean of a row. -/
def mean (X : Fin 1024 → EReal) : EReal := Ideal.div (∑ k, X k) (Ideal.ofBits .f32 0x44800000#32)

/-- The layer norm of a row, with its gain and its bias. -/
def norm (X G B : Fin 1024 → EReal) (j : Fin 1024) : EReal :=
  (X j - mean X) * Ideal.rsqrt (mean (fun k => (X k - mean X) * (X k - mean X)) + Ideal.ofBits .f32 0x3727C5AC#32) * G j + B j

/-- The scale the queries are multiplied by. -/
def qscale : EReal := Ideal.ofBits .f32 0x3E0293EE#32

/-- The column of a block of columns of the weights. -/
abbrev col (q : Fin 8) (j : Fin 1024) : Fin 8192 := ⟨q.val * 1024 + j.val, by omega⟩

variable (x : S16x2048x1024.Idx → EReal) (g b : S1024.Idx → EReal) (w : S1x1024x8192.Idx → EReal) (cw : S1x3x1x1024.Idx → EReal)

/-- A row of the input. -/
def xrow (R : ℕ) (j : Fin 1024) : EReal := x (ix3 ⟨R / 2048 % 16, Nat.mod_lt _ (by norm_num)⟩ ⟨R % 2048, Nat.mod_lt _ (by norm_num)⟩ j)

/-- The normalized row. -/
def urow (R : ℕ) (j : Fin 1024) : EReal := norm (xrow x R) (fun k => g (ix1 k)) (fun k => b (ix1 k)) j

/-- The row's product with a column of the weights. -/
def proj (R : ℕ) (q : Fin 8) (j : Fin 1024) : EReal := ∑ k, urow x g b R k * w (ix3 0 k (col q j))

/-- The convolution's input. -/
def zrow (R : ℕ) (j : Fin 1024) : EReal := proj x g b w R 4 j * proj x g b w R 5 j

/-- The convolution's input some rows earlier: zero before the sequence's start. -/
def zback (R d : ℕ) (j : Fin 1024) : EReal := if d ≤ R % 2048 then zrow x g b w (R - d) j else 0

/-- The convolution. -/
def conv (R : ℕ) (j : Fin 1024) : EReal :=
  cw (ix4 0 0 0 j) * zback x g b w R 2 j + cw (ix4 0 1 0 j) * zback x g b w R 1 j + cw (ix4 0 2 0 j) * zback x g b w R 0 j

/-- The packed result's five blocks: the scaled queries, the values, the gated convolution and the two gates. -/
def packed (R q : ℕ) (j : Fin 1024) : EReal :=
  if q = 0 then proj x g b w R 0 j * qscale else if q = 1 then proj x g b w R 2 j
  else if q = 2 then proj x g b w R 3 j * conv x g b w cw R j else if q = 3 then proj x g b w R 6 j else proj x g b w R 7 j

/-- A column within its block of columns. -/
abbrev cix (n : ℕ) : Fin 1024 := ⟨n % 1024, Nat.mod_lt _ (by norm_num)⟩

/-- The array of the normalized rows. -/
def outU : S32768x1024.Idx → EReal := fun i => urow x g b (i 0).val (cix (i 1).val)

/-- The packed array. -/
def outP : S32768x5120.Idx → EReal := fun i => packed x g b w cw (i 0).val ((i 1).val / 1024) (cix (i 1).val)

/-- The array of the keys, transposed. -/
def outK : S1024x32768.Idx → EReal := fun i => proj x g b w (i 1).val 1 (cix (i 0).val)

end Cert.Proj

end
-- ==== Proof.Proj.Tile.lean ====
/- What the kernel computes over a half of a tile, 256 rows, read at an index: the normalized rows, their products with the
   blocks of the weights, and the convolution of the rows it is given. -/
module

public import proofs.«01_k».proof.Proof.Proj.Spec
public import Idealize.ShloMosaic.Lib.Pointwise

@[expose] public section

noncomputable section

namespace Cert.Proj

open Idealize.ShloMosaic Cert.Kernel2Ideal Cert.Kernel2Ideal.Gen
open scoped BigOperators

variable (x : Vec Ideal S256x1024 .f32) (g b : Vec Ideal S1x1024 .f32)

/-- A half tile's normalized row. -/
def hrow (r : Fin 256) (j : Fin 1024) : EReal := norm (fun k => x (ix2 r k)) (fun k => g (ix2 0 k)) (fun k => b (ix2 0 k)) j

/-- The product of a half tile's normalized row with a column. -/
def hdot (w : Vec Ideal S1024x1024 .bf16) (r : Fin 256) (j : Fin 1024) : EReal := ∑ k, hrow x g b r k * w (ix2 k j)

/-- The second half's normalized rows. -/
theorem pay20_apply (r : Fin 256) (j : Fin 1024) : k0_pay20 x g b (ix2 r j) = hrow x g b r j := by
  pointwise [k0_pay20]
  rfl

/-- The same, after a cast. -/
theorem pay21_apply (r : Fin 256) (j : Fin 1024) : k0_pay21 x g b (ix2 r j) = hrow x g b r j := pay20_apply x g b r j

/-- The first half's normalized rows. -/
theorem pay10_apply (r : Fin 256) (j : Fin 1024) : k0_pay10 (k0_pay7 g) (k0_pay8 b) (k0_pay9 x) (ix2 r j) = hrow x g b r j :=
  pay20_apply x g b r j

/-- The same, after a cast. -/
theorem pay11_apply (r : Fin 256) (j : Fin 1024) : k0_pay11 (k0_pay7 g) (k0_pay8 b) (k0_pay9 x) (ix2 r j) = hrow x g b r j :=
  pay20_apply x g b r j

variable (w w' : Vec Ideal S1024x1024 .bf16)

/-- A product with a block of the weights. -/
theorem pay2_apply (u : FVec Ideal S256x1024 .bf16) (r : Fin 256) (j : Fin 1024) : k0_pay2 u w (ix2 r j) = ∑ k, u (ix2 r k) * w (ix2 k j) := by
  pointwise [k0_pay2]

/-- A transposed product with a block of the weights. -/
theorem pay25_apply (u : FVec Ideal S256x1024 .bf16) (r : Fin 256) (j : Fin 1024) : k0_pay25 u w (ix2 j r) = ∑ k, w (ix2 j k) * u (ix2 r k) := by
  pointwise [k0_pay25]

/-- The second half's product. -/
theorem dot1 (r : Fin 256) (j : Fin 1024) : k0_pay2 (k0_pay21 x g b) w (ix2 r j) = hdot x g b w r j := by
  rw [pay2_apply]
  exact Finset.sum_congr rfl fun k _ => by rw [pay21_apply]

/-- The first half's product. -/
theorem dot0 (r : Fin 256) (j : Fin 1024) : k0_pay2 (k0_pay11 (k0_pay7 g) (k0_pay8 b) (k0_pay9 x)) w (ix2 r j) = hdot x g b w r j :=
  dot1 x g b w r j

/-- The second half's gates. -/
theorem pay3_apply (r : Fin 256) (j : Fin 1024) : k0_pay3 (k0_pay21 x g b) w (ix2 r j) = hdot x g b w r j := dot1 x g b w r j
/-- The first half's gates. -/
theorem pay18_apply (r : Fin 256) (j : Fin 1024) : k0_pay18 (k0_pay11 (k0_pay7 g) (k0_pay8 b) (k0_pay9 x)) w (ix2 r j) = hdot x g b w r j := dot1 x g b w r j
/-- The first half's gates, the second block. -/
theorem pay19_apply (r : Fin 256) (j : Fin 1024) : k0_pay19 (k0_pay11 (k0_pay7 g) (k0_pay8 b) (k0_pay9 x)) w (ix2 r j) = hdot x g b w r j := dot1 x g b w r j
/-- The first half's values. -/
theorem pay13_apply (r : Fin 256) (j : Fin 1024) : k0_pay13 (k0_pay7 g) (k0_pay8 b) (k0_pay9 x) w (ix2 r j) = hdot x g b w r j := dot1 x g b w r j
/-- The second half's values. -/
theorem pay24_apply (r : Fin 256) (j : Fin 1024) : k0_pay24 (k0_pay23 x g b w) (ix2 r j) = hdot x g b w r j := dot1 x g b w r j
/-- The first half's scaled queries. -/
theorem pay12_apply (r : Fin 256) (j : Fin 1024) : k0_pay12 (k0_pay7 g) (k0_pay8 b) (k0_pay9 x) w (ix2 r j) = hdot x g b w r j * qscale := by
  rw [← dot1]; rfl
/-- The second half's scaled queries. -/
theorem pay22_apply (r : Fin 256) (j : Fin 1024) : k0_pay22 x g b w (ix2 r j) = hdot x g b w r j * qscale := by
  rw [← dot1]; rfl
/-- The first half's convolution input. -/
theorem pay16_apply (r : Fin 256) (j : Fin 1024) :
    k0_pay16 (k0_pay15 (k0_pay7 g) (k0_pay8 b) (k0_pay9 x) w w') (ix2 r j) = hdot x g b w r j * hdot x g b w' r j := by
  rw [← dot1, ← dot1]
  pointwise [k0_pay16]
  rfl
/-- The second half's convolution input. -/
theorem pay26_apply (r : Fin 256) (j : Fin 1024) : k0_pay26 (k0_pay21 x g b) w w' (ix2 r j) = hdot x g b w r j * hdot x g b w' r j :=
  pay16_apply x g b w w' r j
/-- The first half's keys, transposed. -/
theorem pay14_apply (r : Fin 256) (j : Fin 1024) : k0_pay14 (k0_pay7 g) (k0_pay8 b) (k0_pay9 x) w (ix2 j r) = ∑ k, w (ix2 j k) * hrow x g b r k :=
  (pay25_apply w (k0_pay21 x g b) r j).trans (Finset.sum_congr rfl fun k _ => by rw [pay21_apply])
/-- The second half's keys, transposed. -/
theorem pay25_apply' (r : Fin 256) (j : Fin 1024) : k0_pay25 (k0_pay21 x g b) w (ix2 j r) = ∑ k, w (ix2 j k) * hrow x g b r k :=
  pay14_apply x g b w r j

/-- The first half's gated convolution. -/
theorem pay17_apply (v : Vec Ideal S3x1024 .f32) (z2 z1 z0 : Vec Ideal S256x1024 .f32) (r : Fin 256) (j : Fin 1024) :
    k0_pay17 (k0_pay6 v) (k0_pay11 (k0_pay7 g) (k0_pay8 b) (k0_pay9 x)) z2 z1 z0 w (ix2 r j)
      = hdot x g b w r j * (v (ix2 0 j) * z2 (ix2 r j) + v (ix2 1 j) * z1 (ix2 r j) + v (ix2 2 j) * z0 (ix2 r j)) := by
  have e : ∀ a : Fin 3, k0_pay6 v (ix2 a j) = v (ix2 a j) := fun a => by pointwise [k0_pay6]
  rw [← e, ← e, ← e, ← dot0, pay2_apply]
  pointwise [k0_pay17]
/-- The second half's gated convolution. -/
theorem pay1_apply (v : Vec Ideal S3x1024 .f32) (z2 z1 z0 : Vec Ideal S256x1024 .f32) (r : Fin 256) (j : Fin 1024) :
    k0_pay1 (k0_pay21 x g b) (k0_pay27 (k0_pay6 v) z2 z1 z0) (k0_pay28 w) (constant S256x1024 .f32 0x00000000#32) (ix2 r j)
      = hdot x g b w r j * (v (ix2 0 j) * z2 (ix2 r j) + v (ix2 1 j) * z1 (ix2 r j) + v (ix2 2 j) * z0 (ix2 r j)) :=
  pay17_apply x g b w v z2 z1 z0 r j

/-- The rows copied back are the rows read. -/
theorem pay4_apply (v : Vec Ideal S16x1024 .f32) (r : Fin 16) (j : Fin 1024) : k0_pay4 v (ix2 r j) = v (ix2 r j) := by
  pointwise [k0_pay4]
/-- The rows cleared at a sequence's start are zero. -/
theorem pay5_apply (r : Fin 16) (j : Fin 1024) : k0_pay5 (F := Ideal) (ix2 r j) = 0 := by
  pointwise [k0_pay5]

end Cert.Proj

end
-- ==== Proof.Proj.Host.lean ====
/- What the host prepares for the kernel, read at an index, and the block of it each tile reads. -/
module

public import proofs.«01_k».proof.Proof.Proj.Spec
public import proofs.«01_k».proof.Proof.Gen.Kernel2Ideal.Frame.Runs
public import Idealize.ShloMosaic.Lib.StableHlo.ReadAt
public import Idealize.ShloMosaic.Lib.Pipeline.ValueKit.Point

@[expose] public section

set_option maxRecDepth 16384

noncomputable section

namespace Cert.Proj

open Idealize.ShloMosaic Idealize.ShloMosaic.TcCoe Idealize.ShloMosaic.Tactic Cert.Kernel2Ideal Cert.Kernel2Ideal.Gen
open scoped BigOperators

variable (mm : (ℓ : Loc nD τ sig) → Buf (Elt Ideal) ℓ) (c : Dev nD)

/-- The kernel's argument 0, on the core `c`. -/
abbrev karg0 : S16x2048x1024.Idx → EReal := mm (c, Proc.tc.devRef main_arg0)
/-- The kernel's argument 1, on the core `c`. -/
abbrev karg1 : S1024.Idx → EReal := mm (c, Proc.tc.devRef main_arg1)
/-- The kernel's argument 2, on the core `c`. -/
abbrev karg2 : S1024.Idx → EReal := mm (c, Proc.tc.devRef main_arg2)
/-- The kernel's argument 3, on the core `c`. -/
abbrev karg3 : S1x1024x8192.Idx → EReal := mm (c, Proc.tc.devRef main_arg3)
/-- The kernel's argument 4, on the core `c`. -/
abbrev karg4 : S1x3x1x1024.Idx → EReal := mm (c, Proc.tc.devRef main_arg4)

/-- The input's rows. -/
theorem host_x (R : Fin 32768) (j : Fin 1024) : (V mm c main_v4 : S32768x1024.Idx → EReal) (ix2 R j) =
    karg0 mm c (ix3 ⟨R.val / 2048, by omega⟩ ⟨R.val % 2048, by omega⟩ j) := by
  unfold V
  after_reads_at
/-- The gain's row. -/
theorem host_g (r : Fin 1) (j : Fin 1024) : (V mm c main_v5 : S1x1024.Idx → EReal) (ix2 r j) = karg1 mm c (ix1 j) := by
  unfold V
  after_reads_at
/-- The bias's row. -/
theorem host_b (r : Fin 1) (j : Fin 1024) : (V mm c main_v6 : S1x1024.Idx → EReal) (ix2 r j) = karg2 mm c (ix1 j) := by
  unfold V
  after_reads_at
/-- The weights. -/
theorem host_w (k : Fin 1024) (n : Fin 8192) : (V mm c main_v8 : S1024x8192.Idx → EReal) (ix2 k n) = karg3 mm c (ix3 0 k n) := by
  unfold V
  after_reads_at
/-- The keys' weights, transposed. -/
theorem host_wkt (j k : Fin 1024) : (V mm c main_v3 : S1024x1024.Idx → EReal) (ix2 j k) = karg3 mm c (ix3 0 k ⟨1024 + j.val, by omega⟩) := by
  unfold V
  after_reads_at
/-- The convolution's weights. -/
theorem host_cw (a : Fin 3) (j : Fin 1024) : (V mm c main_v10 : S3x1024.Idx → EReal) (ix2 a j) = karg4 mm c (ix4 0 a 0 j) := by
  unfold V
  after_reads_at

/-- The blocks' places, at every grid point. -/
theorem places : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0]
    ∧ win0_8.index t = ![0, t.val] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0]
    ∧ win0_8.index t = ![0, t.val])

/-- The input block's element. -/
theorem iblk0 (t : Fin cfg0.N) (r : Fin 512) (j : Fin 1024) : iblk mm c 0 t (ix2 r j) = V mm c main_v4 (ix2 ⟨t.val * 512 + r.val, by have : t.val < 64 := t.isLt; omega⟩ j) := by
  have p := places t
  blk_ext [iblk, p.1]
/-- The gain block's element. -/
theorem iblk1 (t : Fin cfg0.N) (r : Fin 1) (j : Fin 1024) : iblk mm c 1 t (ix2 r j) = V mm c main_v5 (ix2 r j) := by
  have p := places t
  blk_ext [iblk, p.2.1]
/-- The bias block's element. -/
theorem iblk2 (t : Fin cfg0.N) (r : Fin 1) (j : Fin 1024) : iblk mm c 2 t (ix2 r j) = V mm c main_v6 (ix2 r j) := by
  have p := places t
  blk_ext [iblk, p.2.2.1]
/-- The weights' element. -/
theorem iblk3 (t : Fin cfg0.N) (k : Fin 1024) (n : Fin 8192) : iblk mm c 3 t (ix2 k n) = V mm c main_v8 (ix2 k n) := by
  have p := places t
  blk_ext [iblk, p.2.2.2.1]
/-- The transposed weights' element. -/
theorem iblk4 (t : Fin cfg0.N) (j k : Fin 1024) : iblk mm c 4 t (ix2 j k) = V mm c main_v3 (ix2 j k) := by
  have p := places t
  blk_ext [iblk, p.2.2.2.2.1]
/-- The convolution weights' element. -/
theorem iblk5 (t : Fin cfg0.N) (a : Fin 3) (j : Fin 1024) : iblk mm c 5 t (ix2 a j) = V mm c main_v10 (ix2 a j) := by
  have p := places t
  blk_ext [iblk, p.2.2.2.2.2.1]

/-- The six blocks a tile reads hold this, of the arguments. -/
structure Blocks (x : S16x2048x1024.Idx → EReal) (g b : S1024.Idx → EReal) (w : S1x1024x8192.Idx → EReal) (cw : S1x3x1x1024.Idx → EReal) (T : ℕ)
    (x0 : Vec Ideal S512x1024 .f32) (x1 x2 : Vec Ideal S1x1024 .f32) (x3 : Vec Ideal S1024x8192 .bf16) (x4 : Vec Ideal S1024x1024 .bf16)
    (x5 : Vec Ideal S3x1024 .f32) : Prop where
  /-- The input's rows of the tile. -/
  h0 : ∀ r j, x0 (ix2 r j) = xrow x (T * 512 + r.val) j
  /-- The gain. -/
  h1 : ∀ j, x1 (ix2 0 j) = g (ix1 j)
  /-- The bias. -/
  h2 : ∀ j, x2 (ix2 0 j) = b (ix1 j)
  /-- The weights. -/
  h3 : ∀ k n, x3 (ix2 k n) = w (ix3 0 k n)
  /-- The keys' weights. -/
  h4 : ∀ j k, x4 (ix2 j k) = w (ix3 0 k (col 1 j))
  /-- The convolution's weights. -/
  h5 : ∀ a j, x5 (ix2 a j) = cw (ix4 0 a 0 j)

/-- The blocks a grid point reads hold it. -/
theorem blocks (t : Fin cfg0.N) : Blocks (karg0 mm c) (karg1 mm c) (karg2 mm c) (karg3 mm c) (karg4 mm c) t.val
    (iblk mm c 0 t) (iblk mm c 1 t) (iblk mm c 2 t) (iblk mm c 3 t) (iblk mm c 4 t) (iblk mm c 5 t) where
  h0 r j := by
    have ht : t.val < 64 := t.isLt
    rw [iblk0, host_x]
    unfold xrow
    congr 2
    exact Fin.ext (show (t.val * 512 + r.val) / 2048 = (t.val * 512 + r.val) / 2048 % 16 by omega)
  h1 j := by rw [iblk1, host_g]
  h2 j := by rw [iblk2, host_b]
  h3 k n := by rw [iblk3, host_w]
  h4 j k := by
    rw [iblk4, host_wkt]
    congr 2
  h5 a j := by rw [iblk5, host_cw]

end Cert.Proj

end
-- ==== Proof.Proj.Cases.lean ====
/- What the kernel's two branches leave in its three output blocks and in its scratch: the same pieces, over what the
   convolution reads. At a sequence's first tile the scratch's leading rows are cleared; at the others they are what the
   tile before left. -/
module

public import proofs.«01_k».proof.Proof.Proj.Spec
public import proofs.«01_k».proof.Proof.Gen.Kernel2Ideal.Value
public import Idealize.ShloMosaic.Lib.Pipeline.ReadBack

@[expose] public section

set_option maxRecDepth 16384

noncomputable section

namespace Cert.Proj

open Idealize.ShloMosaic Idealize.ShloMosaic.TcCoe Idealize.ShloMosaic.Tactic Cert.Kernel2Ideal Cert.Kernel2Ideal.Gen

variable {F : FTy → Type} [FloatOps F]

section
variable (x0 : Vec F S512x1024 .f32) (x1 x2 : Vec F S1x1024 .f32) (x3 : Vec F S1024x8192 .bf16) (x4 : Vec F S1024x1024 .bf16) (x5 : Vec F S3x1024 .f32)

/-- The first half of a tile's rows. -/
def lo : Vec F S256x1024 .f32 := View.ld (Val := Elt F) (e' := .f32) x0 (Rect.unit ![0, 0] ![256, 1024] inb_S512x1024_S256x1024_0_0)
/-- The second half of a tile's rows. -/
def hi : Vec F S256x1024 .f32 := View.ld (Val := Elt F) (e' := .f32) x0 (Rect.unit ![256, 0] ![256, 1024] inb_S512x1024_S256x1024_256_0)
/-- A row vector, read whole. -/
def vec (v : Vec F S1x1024 .f32) : Vec F S1x1024 .f32 := View.ld (Val := Elt F) (e' := .f32) v (Rect.unit ![0, 0] ![1, 1024] inb_S1x1024_S1x1024_0_0)
/-- The convolution's weights, read whole. -/
def taps : Vec F S3x1024 .f32 := View.ld (Val := Elt F) (e' := .f32) x5 (Rect.unit ![0, 0] ![3, 1024] inb_S3x1024_S3x1024_0_0)
/-- The transposed weights, read whole. -/
def wt : Vec F S1024x1024 .bf16 := View.ld (Val := Elt F) (e' := .bf16) x4 (Rect.unit ![0, 0] ![1024, 1024] inb_S1024x1024_S1024x1024_0_0)

/-- Where a block of the weights' columns lies in them. -/
theorem inbW (q : Fin 8) : ∀ a : Fin 2, (![0, q.val * 1024] : Fin 2 → ℕ) a + (![1024, 1024] : Fin 2 → ℕ) a ≤ S1024x8192.size a := by
  intro a
  match a with
  | 0 => show 0 + 1024 ≤ 1024; omega
  | 1 => show q.val * 1024 + 1024 ≤ 8192; omega
/-- A block of the weights' columns. -/
def wb (q : Fin 8) : Vec F S1024x1024 .bf16 := View.ld (Val := Elt F) (e' := .bf16) x3 (Rect.unit ![0, q.val * 1024] ![1024, 1024] (inbW q))

/-- The first half's rows before their gain. -/
def v36 : FVec F S256x1024 .f32 := k0_pay9 (lo x0)
/-- The first half's normalized rows. -/
def u0 : FVec F S256x1024 .bf16 := k0_pay11 (k0_pay7 (vec x1)) (k0_pay8 (vec x2)) (v36 x0)
/-- The second half's normalized rows. -/
def u1 : FVec F S256x1024 .bf16 := k0_pay21 (hi x0) (vec x1) (vec x2)
/-- The first half's convolution input. -/
def z0 : Vec F S256x1024 .f32 := k0_pay16 (k0_pay15 (k0_pay7 (vec x1)) (k0_pay8 (vec x2)) (v36 x0) (wb x3 4) (wb x3 5))
/-- The second half's convolution input. -/
def z1 : Vec F S256x1024 .f32 := k0_pay26 (u1 x0 x1 x2) (wb x3 4) (wb x3 5)

/-- The scratch's cleared leading rows. -/
def pieceC : View.Piece (Elt F) S528x1024 .f32 := ⟨Rect.unit ![0, 0] ![16, 1024] inb_S528x1024_S16x1024_0_0, k0_pay5⟩
/-- The scratch's rows of the first half. -/
def piece0 : View.Piece (Elt F) S528x1024 .f32 := ⟨Rect.unit ![16, 0] ![256, 1024] inb_S528x1024_S256x1024_16_0, z0 x0 x1 x2 x3⟩
/-- The scratch's rows of the second half. -/
def piece1 : View.Piece (Elt F) S528x1024 .f32 := ⟨Rect.unit ![272, 0] ![256, 1024] inb_S528x1024_S256x1024_272_0, z1 x0 x1 x2 x3⟩

/-- The packed block's ten pieces, over the rows the convolution reads: one and two rows earlier, in each half. -/
def packs (a2 a1 b2 b1 : Vec F S256x1024 .f32) : List (View.Piece (Elt F) S512x5120 .bf16) :=
  [⟨Rect.unit ![256, 4096] ![256, 1024] inb_S512x5120_S256x1024_256_4096, k0_pay3 (u1 x0 x1 x2) (wb x3 7)⟩,
   ⟨Rect.unit ![256, 3072] ![256, 1024] inb_S512x5120_S256x1024_256_3072, k0_pay2 (u1 x0 x1 x2) (wb x3 6)⟩,
   ⟨Rect.unit ![256, 2048] ![256, 1024] inb_S512x5120_S256x1024_256_2048,
    k0_pay1 (u1 x0 x1 x2) (k0_pay27 (k0_pay6 (taps x5)) b2 b1 (z1 x0 x1 x2 x3)) (k0_pay28 (wb x3 3)) (constant S256x1024 .f32 0x00000000#32)⟩,
   ⟨Rect.unit ![256, 1024] ![256, 1024] inb_S512x5120_S256x1024_256_1024, k0_pay24 (k0_pay23 (hi x0) (vec x1) (vec x2) (wb x3 2))⟩,
   ⟨Rect.unit ![256, 0] ![256, 1024] inb_S512x5120_S256x1024_256_0, k0_pay22 (hi x0) (vec x1) (vec x2) (wb x3 0)⟩,
   ⟨Rect.unit ![0, 4096] ![256, 1024] inb_S512x5120_S256x1024_0_4096, k0_pay19 (u0 x0 x1 x2) (wb x3 7)⟩,
   ⟨Rect.unit ![0, 3072] ![256, 1024] inb_S512x5120_S256x1024_0_3072, k0_pay18 (u0 x0 x1 x2) (wb x3 6)⟩,
   ⟨Rect.unit ![0, 2048] ![256, 1024] inb_S512x5120_S256x1024_0_2048, k0_pay17 (k0_pay6 (taps x5)) (u0 x0 x1 x2) a2 a1 (z0 x0 x1 x2 x3) (wb x3 3)⟩,
   ⟨Rect.unit ![0, 1024] ![256, 1024] inb_S512x5120_S256x1024_0_1024, k0_pay13 (k0_pay7 (vec x1)) (k0_pay8 (vec x2)) (v36 x0) (wb x3 2)⟩,
   ⟨Rect.unit ![0, 0] ![256, 1024] inb_S512x5120_S256x1024_0_0, k0_pay12 (k0_pay7 (vec x1)) (k0_pay8 (vec x2)) (v36 x0) (wb x3 0)⟩]

/-- The keys' block's two pieces. -/
def keys : List (View.Piece (Elt F) S1024x512 .bf16) :=
  [⟨Rect.unit ![0, 256] ![1024, 256] inb_S1024x512_S1024x256_0_256, k0_pay25 (u1 x0 x1 x2) (wt x4)⟩,
   ⟨Rect.unit ![0, 0] ![1024, 256] inb_S1024x512_S1024x256_0_0, k0_pay14 (k0_pay7 (vec x1)) (k0_pay8 (vec x2)) (v36 x0) (wt x4)⟩]

/-- The normalized block's two pieces. -/
def norms : List (View.Piece (Elt F) S512x1024 .f32) :=
  [⟨Rect.unit ![256, 0] ![256, 1024] inb_S512x1024_S256x1024_256_0, k0_pay20 (hi x0) (vec x1) (vec x2)⟩,
   ⟨Rect.unit ![0, 0] ![256, 1024] inb_S512x1024_S256x1024_0_0, k0_pay10 (k0_pay7 (vec x1)) (k0_pay8 (vec x2)) (v36 x0)⟩]

end

/-- What the scratch reads some rows on, after some stores over nothing. -/
def covered (L : List (View.Piece (Elt F) S528x1024 .f32)) (o : ℕ) (h : ∀ a : Fin 2, (![o, 0] : Fin 2 → ℕ) a + (![256, 1024] : Fin 2 → ℕ) a ≤ S528x1024.size a) :
    Vec F S256x1024 .f32 := (View.whole cc0_scratch0).readCov L (Rect.unit (s := S528x1024) ![o, 0] ![256, 1024] h).toLoadRect

/-- What the scratch reads some rows on, after some stores over what it held. -/
def over (xs : Vec F S528x1024 .f32) (L : List (View.Piece (Elt F) S528x1024 .f32)) (o : ℕ)
    (h : ∀ a : Fin 2, (![o, 0] : Fin 2 → ℕ) a + (![256, 1024] : Fin 2 → ℕ) a ≤ S528x1024.size a) : Vec F S256x1024 .f32 :=
  View.ld (Val := Elt F) (e' := .f32) (View.read (Elt F) (View.whole cc0_scratch0) ((View.whole cc0_scratch0).writes (Elt F) ((Memref.isWhole_whole (cc0_scratch0)).unread xs) L))
    (Rect.unit (s := S528x1024) ![o, 0] ![256, 1024] h)

/-- The scratch's last sixteen rows, after some stores. -/
def last16 (L : List (View.Piece (Elt F) S528x1024 .f32)) : Vec F S16x1024 .f32 :=
  (View.whole cc0_scratch0).readCov L (Rect.unit (s := S528x1024) ![512, 0] ![16, 1024] inb_S528x1024_S16x1024_512_0).toLoadRect

/-- The scratch's pieces at the end of a tile: its last rows copied to the front. -/
def atEnd (L : List (View.Piece (Elt F) S528x1024 .f32)) : List (View.Piece (Elt F) S528x1024 .f32) :=
  ⟨Rect.unit ![0, 0] ![16, 1024] inb_S528x1024_S16x1024_0_0, k0_pay4 (last16 L)⟩ :: L

variable (m : (ℓ : Loc nD τ sig) → Buf (Elt F) ℓ) (c : Dev nD) (t : Fin cfg0.N)

/-- The scratch's pieces of a tile's first half. -/
abbrev at0 : View.Piece (Elt F) S528x1024 .f32 := piece0 (iblk m c 0 t) (iblk m c 1 t) (iblk m c 2 t) (iblk m c 3 t)
/-- The scratch's pieces of a tile's second half. -/
abbrev at1 : View.Piece (Elt F) S528x1024 .f32 := piece1 (iblk m c 0 t) (iblk m c 1 t) (iblk m c 2 t) (iblk m c 3 t)
/-- The packed block's pieces of a tile. -/
abbrev packsAt (a2 a1 b2 b1 : Vec F S256x1024 .f32) : List (View.Piece (Elt F) S512x5120 .bf16) :=
  packs (iblk m c 0 t) (iblk m c 1 t) (iblk m c 2 t) (iblk m c 3 t) (iblk m c 5 t) a2 a1 b2 b1
/-- The keys' block's pieces of a tile. -/
abbrev keysAt : List (View.Piece (Elt F) S1024x512 .bf16) := keys (iblk m c 0 t) (iblk m c 1 t) (iblk m c 2 t) (iblk m c 4 t)
/-- The normalized block's pieces of a tile. -/
abbrev normsAt : List (View.Piece (Elt F) S512x1024 .f32) := norms (iblk m c 0 t) (iblk m c 1 t) (iblk m c 2 t)

/-- The scratch's contents before a tile: what the tile before left. -/
abbrev before : Vec F S528x1024 .f32 := (outsAt0 m c (t.val - 1) (Nat.lt_of_le_of_lt (Nat.sub_le _ _) t.isLt)).2.2.2

set_option maxHeartbeats 2000000 in
/-- A sequence's first tile leaves these pieces in the normalized rows. -/
theorem norm_A (h0 : t.val % 4 = 0) : (outsAt0 m c t.val t.isLt).1 = View.canon (Val := Elt F)
    (normsAt m c t) := by
  rw [outsAt0_A m c t h0]
  dsimp only
  unfold out0_A_6
  rw [View.read_writes_eq_canon _ _ _ (cover0_A_6 c _ _ _ _ _ _ _ _ _ _ _ _ _ _ _ _ _ _ _ _ _ _ _ _ _ _ _ _ )]
  unfold kernelRun0_A
  dsimp only
  sl_unfold_run_names
  sl_unfold_run_names
  simp (disch := decide) only [↓View.readCov_cons_toLoadRect, ↓View.readCov_skip, View.readAt_eq_ld, (hs0_0 t).read_unread, (hs0_1 t).read_unread,
    (hs0_2 t).read_unread, (hs0_3 t).read_unread, (hs0_4 t).read_unread, (hs0_5 t).read_unread]
  rfl

set_option maxHeartbeats 2000000 in
/-- A sequence's first tile leaves these pieces in the packed block. -/
theorem pack_A (h0 : t.val % 4 = 0) : (outsAt0 m c t.val t.isLt).2.1 = View.canon (Val := Elt F)
    (packsAt m c t (covered [at0 m c t, pieceC] 14 inb_S528x1024_S256x1024_14_0)
      (covered [at0 m c t, pieceC] 15 inb_S528x1024_S256x1024_15_0) (covered [at1 m c t, at0 m c t, pieceC] 270 inb_S528x1024_S256x1024_270_0)
      (covered [at1 m c t, at0 m c t, pieceC] 271 inb_S528x1024_S256x1024_271_0)) := by
  rw [outsAt0_A m c t h0]
  dsimp only
  unfold out0_A_7
  rw [View.read_writes_eq_canon _ _ _ (cover0_A_7 c _ _ _ _ _ _ _ _ _ _ _ _ _ _ _ _ _ _ _ _ _ _ _ _ _ _ _ _ )]
  unfold kernelRun0_A
  dsimp only
  sl_unfold_run_names
  sl_unfold_run_names
  simp (disch := decide) only [↓View.readCov_cons_toLoadRect, ↓View.readCov_skip, View.readAt_eq_ld, (hs0_0 t).read_unread, (hs0_1 t).read_unread,
    (hs0_2 t).read_unread, (hs0_3 t).read_unread, (hs0_4 t).read_unread, (hs0_5 t).read_unread]
  rfl

set_option maxHeartbeats 2000000 in
/-- A sequence's first tile leaves these pieces in the keys. -/
theorem keys_A (h0 : t.val % 4 = 0) : (outsAt0 m c t.val t.isLt).2.2.1 = View.canon (Val := Elt F)
    (keysAt m c t) := by
  rw [outsAt0_A m c t h0]
  dsimp only
  unfold out0_A_8
  rw [View.read_writes_eq_canon _ _ _ (cover0_A_8 c _ _ _ _ _ _ _ _ _ _ _ _ _ _ _ _ _ _ _ _ _ _ _ _ _ _ _ _ )]
  unfold kernelRun0_A
  dsimp only
  sl_unfold_run_names
  sl_unfold_run_names
  simp (disch := decide) only [↓View.readCov_cons_toLoadRect, ↓View.readCov_skip, View.readAt_eq_ld, (hs0_0 t).read_unread, (hs0_1 t).read_unread,
    (hs0_2 t).read_unread, (hs0_3 t).read_unread, (hs0_4 t).read_unread, (hs0_5 t).read_unread]
  rfl

set_option maxHeartbeats 2000000 in
/-- A sequence's first tile leaves these pieces in the scratch. -/
theorem scratch_A (h0 : t.val % 4 = 0) : (outsAt0 m c t.val t.isLt).2.2.2 = View.canon (Val := Elt F)
    (atEnd [at1 m c t, at0 m c t, pieceC]) := by
  rw [outsAt0_A m c t h0]
  dsimp only
  unfold sout0_A_0
  rw [View.read_writes_eq_canon _ _ _ (scover0_A_0 c _ _ _ _ _ _ _ _ _ _ _ _ _ _ _ _ _ _ _ _ _ _ _ _ _ _ _ _ )]
  unfold kernelRun0_A
  dsimp only
  sl_unfold_run_names
  sl_unfold_run_names
  simp (disch := decide) only [↓View.readCov_cons_toLoadRect, ↓View.readCov_skip, View.readAt_eq_ld, (hs0_0 t).read_unread, (hs0_1 t).read_unread,
    (hs0_2 t).read_unread, (hs0_3 t).read_unread, (hs0_4 t).read_unread, (hs0_5 t).read_unread]
  rfl

set_option maxHeartbeats 2000000 in
/-- Another tile leaves these pieces in the normalized rows. -/
theorem norm_B (h0 : ¬t.val % 4 = 0) : (outsAt0 m c t.val t.isLt).1 = View.canon (Val := Elt F)
    (normsAt m c t) := by
  rw [outsAt0_B m c t h0]
  dsimp only
  unfold out0_B_6
  rw [View.read_writes_eq_canon _ _ _ (cover0_B_6 c _ _ _ _ _ _ _ _ _ _ _ _ _ _ _ _ _ _ _ _ _ _ _ _ _ _ _ _ _ )]
  unfold kernelRun0_B
  dsimp only
  sl_unfold_run_names
  sl_unfold_run_names
  simp (disch := decide) only [↓View.readCov_cons_toLoadRect, ↓View.readCov_skip, View.readAt_eq_ld, (hs0_0 t).read_unread, (hs0_1 t).read_unread,
    (hs0_2 t).read_unread, (hs0_3 t).read_unread, (hs0_4 t).read_unread, (hs0_5 t).read_unread]
  rfl

set_option maxHeartbeats 2000000 in
/-- Another tile leaves these pieces in the packed block. -/
theorem pack_B (h0 : ¬t.val % 4 = 0) : (outsAt0 m c t.val t.isLt).2.1 = View.canon (Val := Elt F)
    (packsAt m c t (over (before m c t) [at0 m c t] 14 inb_S528x1024_S256x1024_14_0)
      (over (before m c t) [at0 m c t] 15 inb_S528x1024_S256x1024_15_0) (covered [at1 m c t, at0 m c t] 270 inb_S528x1024_S256x1024_270_0)
      (covered [at1 m c t, at0 m c t] 271 inb_S528x1024_S256x1024_271_0)) := by
  rw [outsAt0_B m c t h0]
  dsimp only
  unfold out0_B_7
  rw [View.read_writes_eq_canon _ _ _ (cover0_B_7 c _ _ _ _ _ _ _ _ _ _ _ _ _ _ _ _ _ _ _ _ _ _ _ _ _ _ _ _ _ )]
  unfold kernelRun0_B
  dsimp only
  sl_unfold_run_names
  sl_unfold_run_names
  simp (disch := decide) only [↓View.readCov_cons_toLoadRect, ↓View.readCov_skip, View.readAt_eq_ld, (hs0_0 t).read_unread, (hs0_1 t).read_unread,
    (hs0_2 t).read_unread, (hs0_3 t).read_unread, (hs0_4 t).read_unread, (hs0_5 t).read_unread]
  rfl

set_option maxHeartbeats 2000000 in
/-- Another tile leaves these pieces in the keys. -/
theorem keys_B (h0 : ¬t.val % 4 = 0) : (outsAt0 m c t.val t.isLt).2.2.1 = View.canon (Val := Elt F)
    (keysAt m c t) := by
  rw [outsAt0_B m c t h0]
  dsimp only
  unfold out0_B_8
  rw [View.read_writes_eq_canon _ _ _ (cover0_B_8 c _ _ _ _ _ _ _ _ _ _ _ _ _ _ _ _ _ _ _ _ _ _ _ _ _ _ _ _ _ )]
  unfold kernelRun0_B
  dsimp only
  sl_unfold_run_names
  sl_unfold_run_names
  simp (disch := decide) only [↓View.readCov_cons_toLoadRect, ↓View.readCov_skip, View.readAt_eq_ld, (hs0_0 t).read_unread, (hs0_1 t).read_unread,
    (hs0_2 t).read_unread, (hs0_3 t).read_unread, (hs0_4 t).read_unread, (hs0_5 t).read_unread]
  rfl

set_option maxHeartbeats 2000000 in
/-- Another tile leaves these pieces in the scratch. -/
theorem scratch_B (h0 : ¬t.val % 4 = 0) : (outsAt0 m c t.val t.isLt).2.2.2 = View.canon (Val := Elt F)
    (atEnd [at1 m c t, at0 m c t]) := by
  rw [outsAt0_B m c t h0]
  dsimp only
  unfold sout0_B_0
  rw [View.read_writes_eq_canon _ _ _ (scover0_B_0 c _ _ _ _ _ _ _ _ _ _ _ _ _ _ _ _ _ _ _ _ _ _ _ _ _ _ _ _ _ )]
  unfold kernelRun0_B
  dsimp only
  sl_unfold_run_names
  sl_unfold_run_names
  simp (disch := decide) only [↓View.readCov_cons_toLoadRect, ↓View.readCov_skip, View.readAt_eq_ld, (hs0_0 t).read_unread, (hs0_1 t).read_unread,
    (hs0_2 t).read_unread, (hs0_3 t).read_unread, (hs0_4 t).read_unread, (hs0_5 t).read_unread]
  rfl

end Cert.Proj

end
-- ==== Proof.Proj.Launch.lean ====
/- What the launch leaves in the three results: at every index the specification's element. -/
module

public import proofs.«01_k».proof.Proof.Proj.Tile
public import proofs.«01_k».proof.Proof.Proj.Host
public import proofs.«01_k».proof.Proof.Proj.Cases
public import Idealize.ShloMosaic.Lib.Pipeline.ValueKit.Point

@[expose] public section

set_option maxRecDepth 16384

noncomputable section

namespace Cert.Proj

open Idealize.ShloMosaic Idealize.ShloMosaic.TcCoe Idealize.ShloMosaic.Tactic Cert.Kernel2Ideal Cert.Kernel2Ideal.Gen
open scoped BigOperators

/-- A piece at given offsets holds a function of the two positions when its contents are the function at the positions past the offsets. -/
theorem agrees {N M o p h w : ℕ} {inb : ∀ a, (![o, p] : Fin 2 → ℕ) a + (![h, w] : Fin 2 → ℕ) a ≤ (⟨2, ![N, M]⟩ : Shape).size a}
    (P : (⟨2, ![h, w]⟩ : Shape).Idx → EReal) (G : ℕ → ℕ → EReal) (hP : ∀ (r : Fin h) (j : Fin w), P (ix2 r j) = G (o + r.val) (p + j.val))
    (x : (Rect.unit (s := ⟨2, ![N, M]⟩) ![o, p] ![h, w] inb).shape.Idx) :
    P x = G ((Rect.unit (s := ⟨2, ![N, M]⟩) ![o, p] ![h, w] inb).emb x 0).val ((Rect.unit (s := ⟨2, ![N, M]⟩) ![o, p] ![h, w] inb).emb x 1).val := by
  have v0 : ((Rect.unit (s := ⟨2, ![N, M]⟩) ![o, p] ![h, w] inb).emb x 0).val = o + (x 0).val := Rect.idx_unit_val _ _ inb x 0
  have v1 : ((Rect.unit (s := ⟨2, ![N, M]⟩) ![o, p] ![h, w] inb).emb x 1).val = p + (x 1).val := Rect.idx_unit_val _ _ inb x 1
  rw [v0, v1]
  refine Eq.trans (congrArg P ?_) (hP ⟨(x 0).val, (x 0).isLt⟩ ⟨(x 1).val, (x 1).isLt⟩)
  funext a
  match a with
  | 0 => rfl
  | 1 => rfl

/-- An index lies in a piece when its positions do. -/
theorem inside {N M o p h w : ℕ} {inb : ∀ a, (![o, p] : Fin 2 → ℕ) a + (![h, w] : Fin 2 → ℕ) a ≤ (⟨2, ![N, M]⟩ : Shape).size a}
    (y : (⟨2, ![N, M]⟩ : Shape).Idx) (h0 : o ≤ (y 0).val ∧ (y 0).val < o + h) (h1 : p ≤ (y 1).val ∧ (y 1).val < p + w) :
    y ∈ (Rect.unit (s := ⟨2, ![N, M]⟩) ![o, p] ![h, w] inb).set := by
  refine (Rect.mem_set_unit (inb := inb)).2 fun a => ?_
  match a with
  | 0 => exact h0
  | 1 => exact h1

/-- An index of a piece, past its offsets. -/
theorem at_unit {N M o p h w : ℕ} (inb : ∀ a, (![o, p] : Fin 2 → ℕ) a + (![h, w] : Fin 2 → ℕ) a ≤ (⟨2, ![N, M]⟩ : Shape).size a)
    (r : Fin h) (j : Fin w) (R : Fin N) (J : Fin M) (hR : R.val = o + r.val) (hJ : J.val = p + j.val) :
    (Rect.unit (s := ⟨2, ![N, M]⟩) ![o, p] ![h, w] inb).idx (ix2 r j) = ix2 R J := by
  have v0 : ((Rect.unit (s := ⟨2, ![N, M]⟩) ![o, p] ![h, w] inb).idx (ix2 r j) 0).val = o + r.val :=
    Rect.idx_unit_val (s := ⟨2, ![N, M]⟩) ![o, p] ![h, w] inb (ix2 r j) 0
  have v1 : ((Rect.unit (s := ⟨2, ![N, M]⟩) ![o, p] ![h, w] inb).idx (ix2 r j) 1).val = p + j.val :=
    Rect.idx_unit_val (s := ⟨2, ![N, M]⟩) ![o, p] ![h, w] inb (ix2 r j) 1
  funext a
  match a with
  | 0 => exact Fin.ext (v0.trans hR.symm)
  | 1 => exact Fin.ext (v1.trans hJ.symm)

variable {x : S16x2048x1024.Idx → EReal} {g b : S1024.Idx → EReal} {w : S1x1024x8192.Idx → EReal} {cw : S1x3x1x1024.Idx → EReal}

/-- A column past an offset that is a multiple of the block's width is the column. -/
theorem cix_add (q : ℕ) (j : Fin 1024) : cix (q * 1024 + j.val) = j := Fin.ext (show (q * 1024 + j.val) % 1024 = j.val by omega)
/-- A column is the column. -/
theorem cix_self (j : Fin 1024) : cix (0 + j.val) = j := Fin.ext (show (0 + j.val) % 1024 = j.val by omega)

section Tile
variable {T : ℕ} {x0 : Vec Ideal S512x1024 .f32} {x1 x2 : Vec Ideal S1x1024 .f32} {x3 : Vec Ideal S1024x8192 .bf16} {x4 : Vec Ideal S1024x1024 .bf16}
variable {x5 : Vec Ideal S3x1024 .f32} (H : Blocks x g b w cw T x0 x1 x2 x3 x4 x5)
include H

/-- The first half's rows. -/
theorem lo_at (r : Fin 256) (j : Fin 1024) : lo x0 (ix2 r j) = xrow x (T * 512 + r.val) j :=
  (congrArg x0 (at_unit inb_S512x1024_S256x1024_0_0 r j ⟨r.val, by omega⟩ j (Nat.zero_add _).symm (Nat.zero_add _).symm)).trans (H.h0 _ _)
/-- The second half's rows. -/
theorem hi_at (r : Fin 256) (j : Fin 1024) : hi x0 (ix2 r j) = xrow x (T * 512 + (256 + r.val)) j :=
  (congrArg x0 (at_unit inb_S512x1024_S256x1024_256_0 r j ⟨256 + r.val, by omega⟩ j rfl (Nat.zero_add _).symm)).trans (H.h0 _ _)
/-- The gain. -/
theorem g_at (j : Fin 1024) : vec x1 (ix2 0 j) = g (ix1 j) :=
  (congrArg x1 (at_unit inb_S1x1024_S1x1024_0_0 0 j 0 j (Nat.zero_add _).symm (Nat.zero_add _).symm)).trans (H.h1 j)
/-- The bias. -/
theorem b_at (j : Fin 1024) : vec x2 (ix2 0 j) = b (ix1 j) :=
  (congrArg x2 (at_unit inb_S1x1024_S1x1024_0_0 0 j 0 j (Nat.zero_add _).symm (Nat.zero_add _).symm)).trans (H.h2 j)
/-- A block of the weights. -/
theorem wb_at (q : Fin 8) (k j : Fin 1024) : wb x3 q (ix2 k j) = w (ix3 0 k (col q j)) :=
  (congrArg x3 (at_unit (inbW q) k j k (col q j) (Nat.zero_add _).symm rfl)).trans (H.h3 k _)
/-- The keys' weights. -/
theorem wt_at (j k : Fin 1024) : wt x4 (ix2 j k) = w (ix3 0 k (col 1 j)) :=
  (congrArg x4 (at_unit inb_S1024x1024_S1024x1024_0_0 j k j k (Nat.zero_add _).symm (Nat.zero_add _).symm)).trans (H.h4 j k)
/-- The convolution's weights. -/
theorem taps_at (a : Fin 3) (j : Fin 1024) : taps x5 (ix2 a j) = cw (ix4 0 a 0 j) :=
  (congrArg x5 (at_unit inb_S3x1024_S3x1024_0_0 a j a j (Nat.zero_add _).symm (Nat.zero_add _).symm)).trans (H.h5 a j)

/-- The first half's normalized row. -/
theorem row0 (r : Fin 256) (j : Fin 1024) : hrow (lo x0) (vec x1) (vec x2) r j = urow x g b (T * 512 + r.val) j := by
  unfold hrow urow
  congr 1
  · funext k; exact lo_at H r k
  · funext k; exact g_at H k
  · funext k; exact b_at H k
/-- The second half's normalized row. -/
theorem row1 (r : Fin 256) (j : Fin 1024) : hrow (hi x0) (vec x1) (vec x2) r j = urow x g b (T * 512 + (256 + r.val)) j := by
  unfold hrow urow
  congr 1
  · funext k; exact hi_at H r k
  · funext k; exact g_at H k
  · funext k; exact b_at H k
/-- The first half's products. -/
theorem proj0 (q : Fin 8) (r : Fin 256) (j : Fin 1024) : hdot (lo x0) (vec x1) (vec x2) (wb x3 q) r j = proj x g b w (T * 512 + r.val) q j :=
  Finset.sum_congr rfl fun k _ => congrArg₂ (· * ·) (row0 H r k) (wb_at H q k j)
/-- The second half's products. -/
theorem proj1 (q : Fin 8) (r : Fin 256) (j : Fin 1024) : hdot (hi x0) (vec x1) (vec x2) (wb x3 q) r j = proj x g b w (T * 512 + (256 + r.val)) q j :=
  Finset.sum_congr rfl fun k _ => congrArg₂ (· * ·) (row1 H r k) (wb_at H q k j)
/-- The first half's convolution input. -/
theorem z0_at (r : Fin 256) (j : Fin 1024) : z0 x0 x1 x2 x3 (ix2 r j) = zrow x g b w (T * 512 + r.val) j :=
  (pay16_apply _ _ _ _ _ r j).trans (congrArg₂ (· * ·) (proj0 H 4 r j) (proj0 H 5 r j))
/-- The second half's convolution input. -/
theorem z1_at (r : Fin 256) (j : Fin 1024) : z1 x0 x1 x2 x3 (ix2 r j) = zrow x g b w (T * 512 + (256 + r.val)) j :=
  (pay26_apply _ _ _ _ _ r j).trans (congrArg₂ (· * ·) (proj1 H 4 r j) (proj1 H 5 r j))

end Tile

variable (x g b w) in
/-- What the scratch holds while a tile is worked on: sixteen rows before the tile's first, zero if there are none in the
    sequence, and the tile's rows. -/
def held (T i n : ℕ) : EReal := if 16 ≤ i then zrow x g b w (T * 512 + (i - 16)) (cix n) else if T % 4 = 0 then 0 else zrow x g b w (T * 512 + i - 16) (cix n)

/-- A row of the scratch is the convolution's input some rows earlier. -/
theorem held_back (T i d : ℕ) (hi : i < 512) (hd : d ≤ 2) (n : ℕ) : held x g b w T (16 - d + i) n = zback x g b w (T * 512 + i) d (cix n) := by
  unfold held zback
  by_cases h : d ≤ i
  · rw [if_pos (by omega), if_pos (by omega)]
    congr 1; omega
  · rw [if_neg (by omega)]
    by_cases h4 : T % 4 = 0
    · rw [if_pos h4, if_neg (by omega)]
    · rw [if_neg h4, if_pos (by omega)]
      congr 1; omega

/-- Stores that hold what the scratch should, read at an index they reach. -/
theorem held_canon (T : ℕ) (L : List (View.Piece (Elt Ideal) S528x1024 .f32))
    (hL : ∀ p ∈ L, ∀ z : p.1.shape.Idx, p.2 z = held x g b w T (p.1.emb z 0).val (p.1.emb z 1).val)
    (y : S528x1024.Idx) (hy : ∃ p ∈ L, y ∈ p.1.set) : View.canon (Val := Elt Ideal) L y = held x g b w T (y 0).val (y 1).val :=
  View.canon_apply_of_pieces (Val := Elt Ideal) (fun y => held x g b w T (y 0).val (y 1).val) L hL y hy

section Scratch
variable {T : ℕ} {x0 : Vec Ideal S512x1024 .f32} {x1 x2 : Vec Ideal S1x1024 .f32} {x3 : Vec Ideal S1024x8192 .bf16} {x4 : Vec Ideal S1024x1024 .bf16}
variable {x5 : Vec Ideal S3x1024 .f32} (H : Blocks x g b w cw T x0 x1 x2 x3 x4 x5)

/-- The cleared rows hold what they should at a sequence's first tile. -/
theorem heldC (h4 : T % 4 = 0) (z : (pieceC (F := Ideal)).1.shape.Idx) :
    (pieceC (F := Ideal)).2 z = held x g b w T ((pieceC (F := Ideal)).1.emb z 0).val ((pieceC (F := Ideal)).1.emb z 1).val := by
  refine agrees (N := 528) (M := 1024) (inb := inb_S528x1024_S16x1024_0_0) (k0_pay5 (F := Ideal)) (held x g b w T) (fun r j => ?_) z
  rw [pay5_apply]
  unfold held
  rw [if_neg (by omega), if_pos h4]

include H

/-- The first half's rows hold what they should. -/
theorem held0 (z : (piece0 x0 x1 x2 x3).1.shape.Idx) :
    (piece0 x0 x1 x2 x3).2 z = held x g b w T ((piece0 x0 x1 x2 x3).1.emb z 0).val ((piece0 x0 x1 x2 x3).1.emb z 1).val := by
  refine agrees (N := 528) (M := 1024) (inb := inb_S528x1024_S256x1024_16_0) (z0 x0 x1 x2 x3) (held x g b w T) (fun r j => ?_) z
  rw [z0_at H]
  unfold held
  rw [if_pos (by omega)]
  exact congrArg₂ _ (by omega) (cix_self j).symm

/-- The second half's rows hold what they should. -/
theorem held1 (z : (piece1 x0 x1 x2 x3).1.shape.Idx) :
    (piece1 x0 x1 x2 x3).2 z = held x g b w T ((piece1 x0 x1 x2 x3).1.emb z 0).val ((piece1 x0 x1 x2 x3).1.emb z 1).val := by
  refine agrees (N := 528) (M := 1024) (inb := inb_S528x1024_S256x1024_272_0) (z1 x0 x1 x2 x3) (held x g b w T) (fun r j => ?_) z
  rw [z1_at H]
  unfold held
  rw [if_pos (by omega)]
  exact congrArg₂ _ (by omega) (cix_self j).symm

/-- The scratch's rows, read after stores that hold what they should. -/
theorem covered_at (L : List (View.Piece (Elt Ideal) S528x1024 .f32))
    (hL : ∀ p ∈ L, ∀ z : p.1.shape.Idx, p.2 z = held x g b w T (p.1.emb z 0).val (p.1.emb z 1).val) (o : ℕ)
    (h : ∀ a : Fin 2, (![o, 0] : Fin 2 → ℕ) a + (![256, 1024] : Fin 2 → ℕ) a ≤ S528x1024.size a) (r : Fin 256) (j : Fin 1024)
    (hy : ∀ y : S528x1024.Idx, (y 0).val = o + r.val → ∃ p ∈ L, y ∈ p.1.set) :
    covered L o h (ix2 r j) = held x g b w T (o + r.val) j.val := by
  have ho : o + 256 ≤ 528 := h 0
  unfold covered
  rw [View.readCov_eq_canon']
  have e := at_unit (N := 528) (M := 1024) h r j ⟨o + r.val, by omega⟩ j rfl (Nat.zero_add _).symm
  refine (congrArg (View.canon (Val := Elt Ideal) L) e).trans ?_
  exact held_canon T L hL _ (hy _ rfl)

end Scratch

end Cert.Proj

end
-- ==== Proof.Proj.Arr.lean ====
/- The three results after the launch: every tile's blocks are the specification's, and so are the arrays. -/
module

public import proofs.«01_k».proof.Proof.Proj.Launch

@[expose] public section

set_option maxRecDepth 16384

noncomputable section

namespace Cert.Proj

open Idealize.ShloMosaic Idealize.ShloMosaic.TcCoe Idealize.ShloMosaic.Tactic Cert.Kernel2Ideal Cert.Kernel2Ideal.Gen
open scoped BigOperators

variable {x : S16x2048x1024.Idx → EReal} {g b : S1024.Idx → EReal} {w : S1x1024x8192.Idx → EReal} {cw : S1x3x1x1024.Idx → EReal}

variable (x g b) in
/-- The normalized block of a tile. -/
def blkU (T : ℕ) : Vec Ideal S512x1024 .f32 := fun y => urow x g b (T * 512 + (y 0).val) (cix (y 1).val)
variable (x g b w cw) in
/-- The packed block of a tile. -/
def blkP (T : ℕ) : Vec Ideal S512x5120 .bf16 := fun y => packed x g b w cw (T * 512 + (y 0).val) ((y 1).val / 1024) (cix (y 1).val)
variable (x g b w) in
/-- The keys' block of a tile. -/
def blkK (T : ℕ) : Vec Ideal S1024x512 .bf16 := fun y => proj x g b w (T * 512 + (y 1).val) 1 (cix (y 0).val)

section Tile
variable {T : ℕ} {x0 : Vec Ideal S512x1024 .f32} {x1 x2 : Vec Ideal S1x1024 .f32} {x3 : Vec Ideal S1024x8192 .bf16} {x4 : Vec Ideal S1024x1024 .bf16}
variable {x5 : Vec Ideal S3x1024 .f32} (H : Blocks x g b w cw T x0 x1 x2 x3 x4 x5)
include H

/-- A tile's normalized block. -/
theorem norms_eq : View.canon (Val := Elt Ideal) (norms x0 x1 x2) = blkU x g b T := by
  funext y
  have hy0 : (y 0).val < 512 := (y 0).isLt
  have hy1 : (y 1).val < 1024 := (y 1).isLt
  refine View.canon_apply_of_pieces (Val := Elt Ideal) (blkU x g b T) _ ?_ y ?_
  · intro p hp
    simp only [norms, List.mem_cons, List.not_mem_nil, or_false] at hp
    rcases hp with rfl | rfl
    · exact agrees (N := 512) (M := 1024) (inb := inb_S512x1024_S256x1024_256_0) _ (fun i n => urow x g b (T * 512 + i) (cix n))
        fun r j => (pay20_apply _ _ _ r j).trans ((row1 H r j).trans (by rw [cix_self]))
    · exact agrees (N := 512) (M := 1024) (inb := inb_S512x1024_S256x1024_0_0) _ (fun i n => urow x g b (T * 512 + i) (cix n))
        fun r j => (pay10_apply _ _ _ r j).trans ((row0 H r j).trans (by rw [cix_self, Nat.zero_add]))
  · by_cases c : (y 0).val < 256
    · exact ⟨_, List.mem_cons_of_mem _ List.mem_cons_self, inside (inb := inb_S512x1024_S256x1024_0_0) y (by omega) (by omega)⟩
    · exact ⟨_, List.mem_cons_self, inside (inb := inb_S512x1024_S256x1024_256_0) y (by omega) (by omega)⟩

/-- A tile's keys. -/
theorem keys_eq : View.canon (Val := Elt Ideal) (keys x0 x1 x2 x4) = blkK x g b w T := by
  funext y
  have hy0 : (y 0).val < 1024 := (y 0).isLt
  have hy1 : (y 1).val < 512 := (y 1).isLt
  refine View.canon_apply_of_pieces (Val := Elt Ideal) (blkK x g b w T) _ ?_ y ?_
  · intro p hp
    simp only [keys, List.mem_cons, List.not_mem_nil, or_false] at hp
    rcases hp with rfl | rfl
    · exact agrees (N := 1024) (M := 512) (inb := inb_S1024x512_S1024x256_0_256) _ (fun n i => proj x g b w (T * 512 + i) 1 (cix n))
        fun j r => (pay25_apply' _ _ _ _ r j).trans (by
          rw [cix_self]
          exact Finset.sum_congr rfl fun k _ => by rw [wt_at H, row1 H, mul_comm])
    · exact agrees (N := 1024) (M := 512) (inb := inb_S1024x512_S1024x256_0_0) _ (fun n i => proj x g b w (T * 512 + i) 1 (cix n))
        fun j r => (pay14_apply _ _ _ _ r j).trans (by
          rw [cix_self, Nat.zero_add]
          exact Finset.sum_congr rfl fun k _ => by rw [wt_at H, row0 H, mul_comm])
  · by_cases c : (y 1).val < 256
    · exact ⟨_, List.mem_cons_of_mem _ List.mem_cons_self, inside (inb := inb_S1024x512_S1024x256_0_0) y (by omega) (by omega)⟩
    · exact ⟨_, List.mem_cons_self, inside (inb := inb_S1024x512_S1024x256_0_256) y (by omega) (by omega)⟩

omit H in
/-- An element of a packed block. -/
theorem packed_col (R q : ℕ) (j : Fin 1024) : packed x g b w cw R ((q * 1024 + j.val) / 1024) (cix (q * 1024 + j.val)) = packed x g b w cw R q j := by
  rw [cix_add, show (q * 1024 + j.val) / 1024 = q by omega]

/-- A tile's packed block, when the convolution reads what the scratch should hold. -/
theorem packs_eq {a2 a1 b2 b1 : Vec Ideal S256x1024 .f32}
    (ha2 : ∀ r j, a2 (ix2 r j) = zback x g b w (T * 512 + r.val) 2 j) (ha1 : ∀ r j, a1 (ix2 r j) = zback x g b w (T * 512 + r.val) 1 j)
    (hb2 : ∀ r j, b2 (ix2 r j) = zback x g b w (T * 512 + (256 + r.val)) 2 j) (hb1 : ∀ r j, b1 (ix2 r j) = zback x g b w (T * 512 + (256 + r.val)) 1 j) :
    View.canon (Val := Elt Ideal) (packs x0 x1 x2 x3 x5 a2 a1 b2 b1)= blkP x g b w cw T := by
  funext y
  have hy0 : (y 0).val < 512 := (y 0).isLt
  have hy1 : (y 1).val < 5120 := (y 1).isLt
  have Z : ∀ R j, zback x g b w R 0 j = zrow x g b w R j := fun R j => if_pos (Nat.zero_le _)
  refine View.canon_apply_of_pieces (Val := Elt Ideal) (blkP x g b w cw T) _ ?_ y ?_
  · intro p hp
    simp only [packs, List.mem_cons, List.not_mem_nil, or_false] at hp
    have G : ∀ (q o : ℕ) (inb : ∀ a, (![o, q * 1024] : Fin 2 → ℕ) a + (![256, 1024] : Fin 2 → ℕ) a ≤ (⟨2, ![512, 5120]⟩ : Shape).size a)
        (P : (⟨2, ![256, 1024]⟩ : Shape).Idx → EReal), (∀ (r : Fin 256) (j : Fin 1024), P (ix2 r j) = packed x g b w cw (T * 512 + (o + r.val)) q j) →
        ∀ z, P z = packed x g b w cw (T * 512 + ((Rect.unit (s := ⟨2, ![512, 5120]⟩) ![o, q * 1024] ![256, 1024] inb).emb z 0).val)
          (((Rect.unit (s := ⟨2, ![512, 5120]⟩) ![o, q * 1024] ![256, 1024] inb).emb z 1).val / 1024)
          (cix ((Rect.unit (s := ⟨2, ![512, 5120]⟩) ![o, q * 1024] ![256, 1024] inb).emb z 1).val) :=
      fun q o inb P hP => agrees (N := 512) (M := 5120) (inb := inb) P (fun i n => packed x g b w cw (T * 512 + i) (n / 1024) (cix n))
        fun r j => (hP r j).trans (packed_col _ q j).symm
    rcases hp with rfl | rfl | rfl | rfl | rfl | rfl | rfl | rfl | rfl | rfl
    · exact G 4 256 inb_S512x5120_S256x1024_256_4096 _ fun r j => (pay3_apply _ _ _ _ r j).trans (proj1 H 7 r j)
    · exact G 3 256 inb_S512x5120_S256x1024_256_3072 _ fun r j => (dot1 _ _ _ _ r j).trans (proj1 H 6 r j)
    · refine G 2 256 inb_S512x5120_S256x1024_256_2048 _ fun r j => (pay1_apply _ _ _ _ _ _ _ _ r j).trans ?_
      rw [proj1 H, hb2, hb1, z1_at H, taps_at H, taps_at H, taps_at H, ← Z]
      rfl
    · exact G 1 256 inb_S512x5120_S256x1024_256_1024 _ fun r j => (pay24_apply _ _ _ _ r j).trans (proj1 H 2 r j)
    · exact G 0 256 inb_S512x5120_S256x1024_256_0 _ fun r j => (pay22_apply _ _ _ _ r j).trans (congrArg (· * qscale) (proj1 H 0 r j))
    · refine G 4 0 inb_S512x5120_S256x1024_0_4096 _ fun r j => (pay19_apply _ _ _ _ r j).trans ?_
      rw [Nat.zero_add]; exact proj0 H 7 r j
    · refine G 3 0 inb_S512x5120_S256x1024_0_3072 _ fun r j => (pay18_apply _ _ _ _ r j).trans ?_
      rw [Nat.zero_add]; exact proj0 H 6 r j
    · refine G 2 0 inb_S512x5120_S256x1024_0_2048 _ fun r j => (pay17_apply _ _ _ _ _ _ _ _ r j).trans ?_
      rw [proj0 H, ha2, ha1, z0_at H, taps_at H, taps_at H, taps_at H, ← Z, Nat.zero_add]
      rfl
    · refine G 1 0 inb_S512x5120_S256x1024_0_1024 _ fun r j => (pay13_apply _ _ _ _ r j).trans ?_
      rw [Nat.zero_add]; exact proj0 H 2 r j
    · refine G 0 0 inb_S512x5120_S256x1024_0_0 _ fun r j => (pay12_apply _ _ _ _ r j).trans ?_
      rw [Nat.zero_add]; exact congrArg (· * qscale) (proj0 H 0 r j)
  · unfold packs
    by_cases c : (y 0).val < 256
    · by_cases c1 : (y 1).val < 1024
      · exact ⟨_, .tail _ (.tail _ (.tail _ (.tail _ (.tail _ (.tail _ (.tail _ (.tail _ (.tail _ (.head _))))))))), inside (inb := inb_S512x5120_S256x1024_0_0) y (by omega) (by omega)⟩
      by_cases c2 : (y 1).val < 2048
      · exact ⟨_, .tail _ (.tail _ (.tail _ (.tail _ (.tail _ (.tail _ (.tail _ (.tail _ (.head _)))))))), inside (inb := inb_S512x5120_S256x1024_0_1024) y (by omega) (by omega)⟩
      by_cases c3 : (y 1).val < 3072
      · exact ⟨_, .tail _ (.tail _ (.tail _ (.tail _ (.tail _ (.tail _ (.tail _ (.head _))))))), inside (inb := inb_S512x5120_S256x1024_0_2048) y (by omega) (by omega)⟩
      by_cases c4 : (y 1).val < 4096
      · exact ⟨_, .tail _ (.tail _ (.tail _ (.tail _ (.tail _ (.tail _ (.head _)))))), inside (inb := inb_S512x5120_S256x1024_0_3072) y (by omega) (by omega)⟩
      · exact ⟨_, .tail _ (.tail _ (.tail _ (.tail _ (.tail _ (.head _))))), inside (inb := inb_S512x5120_S256x1024_0_4096) y (by omega) (by omega)⟩
    · by_cases c1 : (y 1).val < 1024
      · exact ⟨_, .tail _ (.tail _ (.tail _ (.tail _ (.head _)))), inside (inb := inb_S512x5120_S256x1024_256_0) y (by omega) (by omega)⟩
      by_cases c2 : (y 1).val < 2048
      · exact ⟨_, .tail _ (.tail _ (.tail _ (.head _))), inside (inb := inb_S512x5120_S256x1024_256_1024) y (by omega) (by omega)⟩
      by_cases c3 : (y 1).val < 3072
      · exact ⟨_, .tail _ (.tail _ (.head _)), inside (inb := inb_S512x5120_S256x1024_256_2048) y (by omega) (by omega)⟩
      by_cases c4 : (y 1).val < 4096
      · exact ⟨_, .tail _ (.head _), inside (inb := inb_S512x5120_S256x1024_256_3072) y (by omega) (by omega)⟩
      · exact ⟨_, .head _, inside (inb := inb_S512x5120_S256x1024_256_4096) y (by omega) (by omega)⟩

/-- The scratch's last sixteen rows, after stores that hold what they should. -/
theorem last16_at (L : List (View.Piece (Elt Ideal) S528x1024 .f32))
    (hL : ∀ p ∈ L, ∀ z : p.1.shape.Idx, p.2 z = held x g b w T (p.1.emb z 0).val (p.1.emb z 1).val) (r : Fin 16) (j : Fin 1024)
    (hm : piece1 x0 x1 x2 x3 ∈ L) : last16 L (ix2 r j) = zrow x g b w (T * 512 + 496 + r.val) j := by
  unfold last16
  rw [View.readCov_eq_canon']
  have e := at_unit (N := 528) (M := 1024) inb_S528x1024_S16x1024_512_0 r j ⟨512 + r.val, by omega⟩ j rfl (Nat.zero_add _).symm
  refine (congrArg (View.canon (Val := Elt Ideal) L) e).trans ?_
  refine (held_canon T L hL _ ⟨_, hm, inside (inb := inb_S528x1024_S256x1024_272_0) _ ?_ ?_⟩).trans ?_
  · exact (show 272 ≤ 512 + r.val ∧ 512 + r.val < 272 + 256 by omega)
  · exact (show 0 ≤ j.val ∧ j.val < 0 + 1024 by omega)
  · show held x g b w T (512 + r.val) j.val = _
    unfold held
    rw [if_pos (by omega)]
    exact congrArg₂ _ (by omega) (Fin.ext (show j.val % 1024 = j.val by omega))

/-- The scratch's first sixteen rows, at a tile's end. -/
theorem atEnd_at (L : List (View.Piece (Elt Ideal) S528x1024 .f32))
    (hL : ∀ p ∈ L, ∀ z : p.1.shape.Idx, p.2 z = held x g b w T (p.1.emb z 0).val (p.1.emb z 1).val) (r : Fin 16) (j : Fin 1024) (R : Fin 528) (hR : R.val = r.val)
    (hm : piece1 x0 x1 x2 x3 ∈ L) : View.canon (Val := Elt Ideal) (atEnd L) (ix2 R j) = zrow x g b w (T * 512 + 496 + r.val) j := by
  unfold atEnd
  have e := at_unit (N := 528) (M := 1024) inb_S528x1024_S16x1024_0_0 r j R j (by omega) (Nat.zero_add _).symm
  refine (congrArg (View.canon (Val := Elt Ideal) _) e.symm).trans ?_
  refine (View.canon_cons_emb (Val := Elt Ideal) (Rect.unit (s := S528x1024) ![0, 0] ![16, 1024] inb_S528x1024_S16x1024_0_0) (k0_pay4 (last16 L)) L (ix2 r j)).trans ?_
  rw [pay4_apply]
  exact last16_at H L hL r j hm

end Tile

variable (mm : (ℓ : Loc nD τ sig) → Buf (Elt Ideal) ℓ) (c : Dev nD) (t : Fin cfg0.N)

/-- What the arguments should put in the scratch. -/
abbrev heldAt (T i n : ℕ) : EReal := held (karg0 mm c) (karg1 mm c) (karg2 mm c) (karg3 mm c) T i n

/-- A tile's stores of its own rows hold what the scratch should. -/
theorem own : ∀ p ∈ [at1 mm c t, at0 mm c t], ∀ z : p.1.shape.Idx, p.2 z = heldAt mm c t.val (p.1.emb z 0).val (p.1.emb z 1).val := by
  intro p hp
  simp only [List.mem_cons, List.not_mem_nil, or_false] at hp
  rcases hp with rfl | rfl
  · exact held1 (blocks mm c t)
  · exact held0 (blocks mm c t)

/-- With the cleared rows too, at a sequence's first tile. -/
theorem ownC (h0 : t.val % 4 = 0) : ∀ p ∈ [at1 mm c t, at0 mm c t, pieceC], ∀ z : p.1.shape.Idx, p.2 z = heldAt mm c t.val (p.1.emb z 0).val (p.1.emb z 1).val := by
  intro p hp
  simp only [List.mem_cons, List.not_mem_nil, or_false] at hp
  rcases hp with rfl | rfl | rfl
  · exact held1 (blocks mm c t)
  · exact held0 (blocks mm c t)
  · exact heldC h0

/-- The rows a tile leaves at the scratch's front are its last sixteen. -/
theorem left (r : Fin 16) (j : Fin 1024) (R : Fin 528) (hR : R.val = r.val) :
    (outsAt0 mm c t.val t.isLt).2.2.2 (ix2 R j) = zrow (karg0 mm c) (karg1 mm c) (karg2 mm c) (karg3 mm c) (t.val * 512 + 496 + r.val) j := by
  by_cases h0 : t.val % 4 = 0
  · rw [scratch_A mm c t h0]
    exact atEnd_at (blocks mm c t) _ (ownC mm c t h0) r j R hR List.mem_cons_self
  · rw [scratch_B mm c t h0]
    exact atEnd_at (blocks mm c t) _ (own mm c t) r j R hR List.mem_cons_self

/-- The scratch before a tile that is not a sequence's first, in its leading rows. -/
theorem before_at (h0 : ¬t.val % 4 = 0) (y : S528x1024.Idx) (hy : (y 0).val < 16) : before mm c t y = heldAt mm c t.val (y 0).val (y 1).val := by
  have hy1 : (y 1).val < 1024 := (y 1).isLt
  have e : y = ix2 (y 0) (⟨(y 1).val, hy1⟩ : Fin 1024) := funext fun a => match a with | 0 => rfl | 1 => rfl
  have ht : t.val < cfg0.N := t.isLt
  refine (congrArg (before mm c t) e).trans ?_
  refine (left mm c ⟨t.val - 1, by omega⟩ ⟨(y 0).val, hy⟩ _ (y 0) rfl).trans ?_
  unfold heldAt held
  rw [if_neg (by omega), if_neg h0]
  refine congrArg₂ _ ?_ (Fin.ext (show (y 1).val = (y 1).val % 1024 by omega))
  show (t.val - 1) * 512 + 496 + (y 0).val = t.val * 512 + (y 0).val - 16
  omega

/-- The scratch's rows read over what the tile before left. -/
theorem over_at (h0 : ¬t.val % 4 = 0) (o : ℕ) (ho : o ≤ 16)
    (h : ∀ a : Fin 2, (![o, 0] : Fin 2 → ℕ) a + (![256, 1024] : Fin 2 → ℕ) a ≤ S528x1024.size a) (r : Fin 256) (j : Fin 1024) :
    over (before mm c t) [at0 mm c t] o h (ix2 r j) = heldAt mm c t.val (o + r.val) j.val := by
  unfold over
  have e := at_unit (N := 528) (M := 1024) h r j ⟨o + r.val, by omega⟩ j rfl (Nat.zero_add _).symm
  refine (congrArg (View.read (Elt Ideal) (View.whole cc0_scratch0)
    ((View.whole cc0_scratch0).writes (Elt Ideal) ((Memref.isWhole_whole (cc0_scratch0)).unread (before mm c t)) [at0 mm c t])) e).trans ?_
  by_cases c0 : 16 ≤ o + r.val
  · have hm : (ix2 (⟨o + r.val, by omega⟩ : Fin 528) j : S528x1024.Idx) ∈ (at0 mm c t).1.set :=
      inside (inb := inb_S528x1024_S256x1024_16_0) _ (show 16 ≤ o + r.val ∧ o + r.val < 16 + 256 by omega) (show 0 ≤ j.val ∧ j.val < 0 + 1024 by omega)
    rw [View.read_writes_apply_eq_canon _ _ _ _ ⟨_, List.mem_cons_self, hm⟩]
    exact held_canon t.val _ (fun p hp => own mm c t p (List.mem_cons_of_mem _ hp)) _ ⟨_, List.mem_cons_self, hm⟩
  · have hn : (ix2 (⟨o + r.val, by omega⟩ : Fin 528) j : S528x1024.Idx) ∉ (at0 mm c t).1.set := by
      intro hm
      have q := (Rect.mem_set_unit (inb := inb_S528x1024_S256x1024_16_0)).1 hm 0
      have q' : 16 ≤ o + r.val := q.1
      omega
    rw [View.writes_cons, View.writes_nil]
    refine (View.read_slice_write_of_not_mem _ _ _ _ (by rwa [Rect.map_emb_univ])).trans ?_
    rw [(Memref.isWhole_whole (cc0_scratch0)).read_unread]
    exact before_at mm c t h0 _ (show o + r.val < 16 by omega)

/-- The normalized block a tile leaves. -/
theorem outsU : (outsAt0 mm c t.val t.isLt).1 = blkU (karg0 mm c) (karg1 mm c) (karg2 mm c) t.val := by
  by_cases h0 : t.val % 4 = 0
  · rw [norm_A mm c t h0]; exact norms_eq (blocks mm c t)
  · rw [norm_B mm c t h0]; exact norms_eq (blocks mm c t)

/-- The keys' block a tile leaves. -/
theorem outsK : (outsAt0 mm c t.val t.isLt).2.2.1 = blkK (karg0 mm c) (karg1 mm c) (karg2 mm c) (karg3 mm c) t.val := by
  by_cases h0 : t.val % 4 = 0
  · rw [keys_A mm c t h0]; exact keys_eq (blocks mm c t)
  · rw [keys_B mm c t h0]; exact keys_eq (blocks mm c t)

/-- The packed block a tile leaves. -/
theorem outsP : (outsAt0 mm c t.val t.isLt).2.1 = blkP (karg0 mm c) (karg1 mm c) (karg2 mm c) (karg3 mm c) (karg4 mm c) t.val := by
  have B := blocks mm c t
  have C : ∀ (y : S528x1024.Idx), 16 ≤ (y 0).val → (y 0).val < 272 → y ∈ (at0 mm c t).1.set := fun y l u => by
    have hy1 : (y 1).val < 1024 := (y 1).isLt
    exact inside (inb := inb_S528x1024_S256x1024_16_0) y (by omega) (by omega)
  have D : ∀ (y : S528x1024.Idx), 272 ≤ (y 0).val → y ∈ (at1 mm c t).1.set := fun y l => by
    have hy0 : (y 0).val < 528 := (y 0).isLt
    have hy1 : (y 1).val < 1024 := (y 1).isLt
    exact inside (inb := inb_S528x1024_S256x1024_272_0) y (by omega) (by omega)
  have E : ∀ (y : S528x1024.Idx), (y 0).val < 16 → y ∈ (pieceC (F := Ideal)).1.set := fun y l => by
    have hy1 : (y 1).val < 1024 := (y 1).isLt
    exact inside (inb := inb_S528x1024_S16x1024_0_0) y (by omega) (by omega)
  have K : ∀ (d i : ℕ) (j : Fin 1024), i < 512 → d ≤ 2 → heldAt mm c t.val (16 - d + i) j.val
      = zback (karg0 mm c) (karg1 mm c) (karg2 mm c) (karg3 mm c) (t.val * 512 + i) d j := fun d i j hi hd => by
    show held (karg0 mm c) (karg1 mm c) (karg2 mm c) (karg3 mm c) t.val (16 - d + i) j.val = _
    rw [held_back t.val i d hi hd]
    congr 1
    exact Fin.ext (show j.val % 1024 = j.val by omega)
  by_cases h0 : t.val % 4 = 0
  · rw [pack_A mm c t h0]
    have U : ∀ (o : ℕ) (r : Fin 256) (y : S528x1024.Idx), o ≤ 16 → (y 0).val = o + r.val → ∃ p ∈ [at0 mm c t, pieceC], y ∈ p.1.set := fun o r y ho hy => by
      by_cases l : (y 0).val < 16
      · exact ⟨_, .tail _ (.head _), E y l⟩
      · exact ⟨_, .head _, C y (by omega) (by omega)⟩
    have W : ∀ (o : ℕ) (r : Fin 256) (y : S528x1024.Idx), 16 ≤ o → (y 0).val = o + r.val → ∃ p ∈ [at1 mm c t, at0 mm c t, pieceC], y ∈ p.1.set := fun o r y ho hy => by
      by_cases l : (y 0).val < 272
      · exact ⟨_, .tail _ (.head _), C y (by omega) l⟩
      · exact ⟨_, .head _, D y (by omega)⟩
    have O := fun p (hp : p ∈ [at0 mm c t, pieceC]) => ownC mm c t h0 p (List.mem_cons_of_mem _ hp)
    refine packs_eq B (fun r j => ?_) (fun r j => ?_) (fun r j => ?_) (fun r j => ?_)
    · exact (covered_at B _ O 14 _ r j fun y => U 14 r y (by norm_num)).trans (K 2 r.val j (by omega) (by norm_num))
    · exact (covered_at B _ O 15 _ r j fun y => U 15 r y (by norm_num)).trans (K 1 r.val j (by omega) (by norm_num))
    · refine (covered_at B _ (ownC mm c t h0) 270 _ r j fun y => W 270 r y (by norm_num)).trans ?_
      rw [show 270 + r.val = 16 - 2 + (256 + r.val) by omega]; exact K 2 _ j (by omega) (by norm_num)
    · refine (covered_at B _ (ownC mm c t h0) 271 _ r j fun y => W 271 r y (by norm_num)).trans ?_
      rw [show 271 + r.val = 16 - 1 + (256 + r.val) by omega]; exact K 1 _ j (by omega) (by norm_num)
  · rw [pack_B mm c t h0]
    have W : ∀ (o : ℕ) (r : Fin 256) (y : S528x1024.Idx), 16 ≤ o → (y 0).val = o + r.val → ∃ p ∈ [at1 mm c t, at0 mm c t], y ∈ p.1.set := fun o r y ho hy => by
      by_cases l : (y 0).val < 272
      · exact ⟨_, .tail _ (.head _), C y (by omega) l⟩
      · exact ⟨_, .head _, D y (by omega)⟩
    refine packs_eq B (fun r j => ?_) (fun r j => ?_) (fun r j => ?_) (fun r j => ?_)
    · exact (over_at mm c t h0 14 (by norm_num) _ r j).trans (K 2 r.val j (by omega) (by norm_num))
    · exact (over_at mm c t h0 15 (by norm_num) _ r j).trans (K 1 r.val j (by omega) (by norm_num))
    · refine (covered_at B _ (own mm c t) 270 _ r j fun y => W 270 r y (by norm_num)).trans ?_
      rw [show 270 + r.val = 16 - 2 + (256 + r.val) by omega]; exact K 2 _ j (by omega) (by norm_num)
    · refine (covered_at B _ (own mm c t) 271 _ r j fun y => W 271 r y (by norm_num)).trans ?_
      rw [show 271 + r.val = 16 - 1 + (256 + r.val) by omega]; exact K 1 _ j (by omega) (by norm_num)

/-- The normalized rows' buffer after the launch. -/
theorem arrU : (dats mm 0 c).arrAt 6 cfg0.N = outU (karg0 mm c) (karg1 mm c) (karg2 mm c) := by
  refine (dats mm 0 c).arrAt_eq_of_covers 6 _ (by decide +kernel) fun t hf y => ?_
  have p := places t
  have v0 : (((cfg0.win 6).blk t).view.emb y 0).val = t.val * 512 + (y 0).val := by blk_simp [p.2.2.2.2.2.2.1]
  have v1 : (((cfg0.win 6).blk t).view.emb y 1).val = (y 1).val := by blk_simp [p.2.2.2.2.2.2.1]
  refine (congrFun ((after0_6 mm c t).trans (outsU mm c t)) _).trans ?_
  have e : ∀ R C : ℕ, R = t.val * 512 + (y 0).val → C = (y 1).val →
      urow (karg0 mm c) (karg1 mm c) (karg2 mm c) (t.val * 512 + (y 0).val) (cix (y 1).val) = urow (karg0 mm c) (karg1 mm c) (karg2 mm c) R (cix C) := by
    rintro _ _ rfl rfl; rfl
  exact e _ _ v0 v1

/-- The packed buffer after the launch. -/
theorem arrP : (dats mm 0 c).arrAt 7 cfg0.N = outP (karg0 mm c) (karg1 mm c) (karg2 mm c) (karg3 mm c) (karg4 mm c) := by
  refine (dats mm 0 c).arrAt_eq_of_covers 7 _ (by decide +kernel) fun t hf y => ?_
  have p := places t
  have v0 : (((cfg0.win 7).blk t).view.emb y 0).val = t.val * 512 + (y 0).val := by blk_simp [p.2.2.2.2.2.2.2.1]
  have v1 : (((cfg0.win 7).blk t).view.emb y 1).val = (y 1).val := by blk_simp [p.2.2.2.2.2.2.2.1]
  refine (congrFun ((after0_7 mm c t).trans (outsP mm c t)) _).trans ?_
  have e : ∀ R C : ℕ, R = t.val * 512 + (y 0).val → C = (y 1).val →
      packed (karg0 mm c) (karg1 mm c) (karg2 mm c) (karg3 mm c) (karg4 mm c) (t.val * 512 + (y 0).val) ((y 1).val / 1024) (cix (y 1).val)
        = packed (karg0 mm c) (karg1 mm c) (karg2 mm c) (karg3 mm c) (karg4 mm c) R (C / 1024) (cix C) := by
    rintro _ _ rfl rfl; rfl
  exact e _ _ v0 v1

/-- The keys' buffer after the launch. -/
theorem arrK : (dats mm 0 c).arrAt 8 cfg0.N = outK (karg0 mm c) (karg1 mm c) (karg2 mm c) (karg3 mm c) := by
  refine (dats mm 0 c).arrAt_eq_of_covers 8 _ (by decide +kernel) fun t hf y => ?_
  have p := places t
  have v0 : (((cfg0.win 8).blk t).view.emb y 0).val = (y 0).val := by blk_simp [p.2.2.2.2.2.2.2.2]
  have v1 : (((cfg0.win 8).blk t).view.emb y 1).val = t.val * 512 + (y 1).val := by blk_simp [p.2.2.2.2.2.2.2.2]
  refine (congrFun ((after0_8 mm c t).trans (outsK mm c t)) _).trans ?_
  have e : ∀ R C : ℕ, R = t.val * 512 + (y 1).val → C = (y 0).val →
      proj (karg0 mm c) (karg1 mm c) (karg2 mm c) (karg3 mm c) (t.val * 512 + (y 1).val) 1 (cix (y 0).val)
        = proj (karg0 mm c) (karg1 mm c) (karg2 mm c) (karg3 mm c) R 1 (cix C) := by
    rintro _ _ rfl rfl; rfl
  exact e _ _ v1 v0

end Cert.Proj

end
-- ==== Proof.Proj.RefRead.lean ====
/- The reference's three results read at an index: the specification's. -/
module

public import proofs.«01_k».proof.Proof.Proj.Spec
public import proofs.«01_k».proof.Proof.Gen.Reference2Ideal.Read
public import Idealize.ShloMosaic.Lib.KernelVsHost

@[expose] public section

noncomputable section

namespace Cert.Proj

open Idealize.ShloMosaic Idealize.ShloMosaic.Tactic Cert.Reference2Ideal Cert.Reference2Ideal.Read
open scoped BigOperators

/-- An index given by its three parts. -/
theorem to3 {A B C : ℕ} (i : (⟨3, ![A, B, C]⟩ : Shape).Idx) (a : Fin A) (b : Fin B) (c : Fin C) (h0 : (i 0).val = a.val) (h1 : (i 1).val = b.val)
    (h2 : (i 2).val = c.val) : i = ix3 a b c := by
  funext k
  match k with
  | ⟨0, _⟩ => exact Fin.ext h0
  | ⟨1, _⟩ => exact Fin.ext h1
  | ⟨2, _⟩ => exact Fin.ext h2

/-- An index given by its one part. -/
theorem to1 {A : ℕ} (i : (⟨1, ![A]⟩ : Shape).Idx) (a : Fin A) (h0 : (i 0).val = a.val) : i = ix1 a := by
  funext k
  match k with
  | ⟨0, _⟩ => exact Fin.ext h0

/-- The sums start at zero. -/
theorem ref_zero (i : S_.Idx) : val_main_cst (F := Ideal) i = (0 : EReal) := by
  show Ideal.ofBits .f32 0x00000000#32 = 0
  simp [Ideal.ofBits, Ideal.ieee]

/-- The second sum too. -/
theorem ref_zero' (i : S_.Idx) : val_main_cst_1 (F := Ideal) i = (0 : EReal) := ref_zero i

section
variable (x : (⟨S16x2048x1024, .f32⟩ : BufTy).Contents (Elt Ideal)) (g b : (⟨S1024, .f32⟩ : BufTy).Contents (Elt Ideal))
variable (w : (⟨S1x1024x8192, .f32⟩ : BufTy).Contents (Elt Ideal)) (cw : (⟨S1x3x1x1024, .f32⟩ : BufTy).Contents (Elt Ideal))

/-- A row of the input, at its sequence and its position. -/
theorem xrow_at (a : Fin 16) (s : Fin 2048) (j : Fin 1024) : xrow x (a.val * 2048 + s.val) j = x (ix3 a s j) := by
  unfold xrow
  have e0 : (⟨(a.val * 2048 + s.val) / 2048 % 16, Nat.mod_lt _ (by norm_num)⟩ : Fin 16) = a := Fin.ext (by show (a.val * 2048 + s.val) / 2048 % 16 = a.val; omega)
  have e1 : (⟨(a.val * 2048 + s.val) % 2048, Nat.mod_lt _ (by norm_num)⟩ : Fin 2048) = s := Fin.ext (by show (a.val * 2048 + s.val) % 2048 = s.val; omega)
  rw [e0, e1]

/-- A row's mean. -/
theorem ref_mean (a : Fin 16) (s : Fin 2048) (z : Fin 1) : val_main_v3 (F := Ideal) x (ix3 a s z) = mean (xrow x (a.val * 2048 + s.val)) := by
  rw [val_main_v3_apply, val_main_v1_apply, val_main_v0_apply, ref_zero, zero_add, val_main_v2_apply]
  have e : (∑ k : Fin 1024, x (idx_main_v0 (idx_main_v1 (ix3 a s z)) k)) = ∑ k, xrow x (a.val * 2048 + s.val) k :=
    Finset.sum_congr rfl fun k _ => (congrArg x (to3 _ a s k rfl rfl rfl)).trans (xrow_at x a s k).symm
  rw [e]
  rfl

/-- A row's element less its mean. -/
theorem ref_centred (a : Fin 16) (s : Fin 2048) (j : Fin 1024) :
    val_main_v5 (F := Ideal) x (ix3 a s j) = xrow x (a.val * 2048 + s.val) j - mean (xrow x (a.val * 2048 + s.val)) := by
  rw [val_main_v5_apply, val_main_v4_apply, ← ref_mean x a s 0, xrow_at, to3 (idx_main_v4 (ix3 a s j)) a s 0 rfl rfl rfl]
  rfl

/-- A row's variance. -/
theorem ref_var (a : Fin 16) (s : Fin 2048) (z : Fin 1) : val_main_v10 (F := Ideal) x (ix3 a s z)
    = mean (fun k => (xrow x (a.val * 2048 + s.val) k - mean (xrow x (a.val * 2048 + s.val))) * (xrow x (a.val * 2048 + s.val) k - mean (xrow x (a.val * 2048 + s.val)))) := by
  rw [val_main_v10_apply, val_main_v8_apply, val_main_v7_apply, ref_zero', zero_add, val_main_v9_apply]
  have e : ∀ k : Fin 1024, val_main_v6 (F := Ideal) x (idx_main_v7 (idx_main_v8 (ix3 a s z)) k)
      = (xrow x (a.val * 2048 + s.val) k - mean (xrow x (a.val * 2048 + s.val))) * (xrow x (a.val * 2048 + s.val) k - mean (xrow x (a.val * 2048 + s.val))) := fun k => by
    rw [← ref_centred x a s k, to3 (idx_main_v7 (idx_main_v8 (ix3 a s z)) k) a s k rfl rfl rfl]
    rfl
  rw [Finset.sum_congr rfl fun k _ => e k]
  rfl

/-- A normalized element. -/
theorem ref_norm (a : Fin 16) (s : Fin 2048) (j : Fin 1024) :
    val_main_v23 (F := Ideal) x g b (ix3 a s j) = urow x g b (a.val * 2048 + s.val) j := by
  unfold urow norm
  rw [← ref_var x a s 0, ← ref_centred x a s j]
  rw [val_main_v23_apply, val_main_v20_apply, val_main_v17_apply, val_main_v16_apply, val_main_v15_apply, val_main_v14_apply, val_main_v13_apply,
    val_main_v19_apply, val_main_v18_apply, val_main_v22_apply, val_main_v21_apply, to3 (idx_main_v16 (ix3 a s j)) a s 0 rfl rfl rfl,
    to1 (idx_main_v18 (idx_main_v19 (ix3 a s j))) j rfl, to1 (idx_main_v21 (idx_main_v22 (ix3 a s j))) j rfl]
  rfl

/-- An element of a row's product with the weights. -/
theorem ref_dot (a : Fin 16) (s : Fin 2048) (q : Fin 8) (j : Fin 1024) :
    val_main_v25 (F := Ideal) x g b w (ix3 a s (col q j)) = proj x g b w (a.val * 2048 + s.val) q j := by
  rw [val_main_v25_apply]
  refine Finset.sum_congr rfl fun k _ => congrArg₂ (· * ·) ?_ ?_
  · rw [← ref_norm]
    refine congrArg _ (funext fun a => ?_)
    match a with
    | ⟨0, _⟩ => rfl
    | ⟨1, _⟩ => rfl
    | ⟨2, _⟩ => rfl
  · rw [val_main_v24_apply]
    refine congrArg _ (funext fun a => ?_)
    have hq := q.isLt
    match a with
    | ⟨0, _⟩ => rfl
    | ⟨1, _⟩ => exact Fin.ext (by show (k.val * 8192 + (q.val * 1024 + j.val)) / 8192 % 1024 = k.val; omega)
    | ⟨2, _⟩ => exact Fin.ext (by show (k.val * 8192 + (q.val * 1024 + j.val)) % 8192 = q.val * 1024 + j.val; omega)

/-- The product read at an index given by its parts. -/
theorem ref_dot_at (a : Fin 16) (s : Fin 2048) (q : Fin 8) (j : Fin 1024) (i : S16x2048x8192.Idx) (h0 : (i 0).val = a.val) (h1 : (i 1).val = s.val)
    (h2 : (i 2).val = q.val * 1024 + j.val) : val_main_v25 (F := Ideal) x g b w i = proj x g b w (a.val * 2048 + s.val) q j := by
  rw [← ref_dot]
  refine congrArg _ (funext fun a => ?_)
  match a with
  | ⟨0, _⟩ => exact Fin.ext h0
  | ⟨1, _⟩ => exact Fin.ext h1
  | ⟨2, _⟩ => exact Fin.ext h2

/-- The convolution's input. -/
theorem ref_z (a : Fin 16) (s : Fin 2048) (j : Fin 1024) : val_main_v34 (F := Ideal) x g b w (ix3 a s j) = zrow x g b w (a.val * 2048 + s.val) j := by
  rw [val_main_v34_apply, val_main_v30_apply, val_main_v31_apply]
  exact congrArg₂ (· * ·) (ref_dot_at x g b w a s 4 j _ rfl rfl rfl) (ref_dot_at x g b w a s 5 j _ rfl rfl rfl)

/-- The padded array: two rows of zeros, and the convolution's input. -/
theorem ref_pad (a : Fin 16) (s : Fin 2048) (d : ℕ) (hd : d ≤ 2) (j : Fin 1024) (i : S16x2050x1024.Idx) (h0 : (i 0).val = a.val)
    (h1 : (i 1).val = 2 - d + s.val) (h2 : (i 2).val = j.val) : val_main_v35 (F := Ideal) x g b w i = zback x g b w (a.val * 2048 + s.val) d j := by
  unfold zback
  by_cases c : d ≤ (a.val * 2048 + s.val) % 2048
  · rw [if_pos c]
    have hs : d ≤ s.val := by omega
    refine Eq.trans ?_ ((ref_z x g b w a ⟨s.val - d, by omega⟩ j).trans ?_)
    · unfold val_main_v35
      exact pad_apply_of_inside _ _ _ _ _ _ _ i (ix3 a ⟨s.val - d, by omega⟩ j) fun k => match k with
        | ⟨0, _⟩ => by show (i 0).val = 0 + a.val * (0 + 1); omega
        | ⟨1, _⟩ => by show (i 1).val = 2 + (s.val - d) * (0 + 1); omega
        | ⟨2, _⟩ => by show (i 2).val = 0 + j.val * (0 + 1); omega
    · congr 1
      show a.val * 2048 + (s.val - d) = a.val * 2048 + s.val - d
      omega
  · rw [if_neg c]
    have hs : s.val < d := by omega
    unfold val_main_v35
    refine (pad_apply_of_not_inside _ _ _ _ _ _ _ i ⟨1, by decide⟩ ?_).trans ?_
    · intro h
      have h' : 2 ≤ (i 1).val := h.1
      omega
    · show ((((0#32 : BitVec 32).toInt : ℝ)) : EReal) = 0
      simp

/-- A row of the convolution's weights, read at an index given by its parts. -/
theorem ref_tap (t : Fin 3) (j : Fin 1024) (i : S3x1024.Idx) (h0 : (i 0).val = t.val) (h1 : (i 1).val = j.val) :
    val_main_v36 (F := Ideal) cw i = cw (ix4 0 t 0 j) := by
  rw [val_main_v36_apply]
  refine congrArg cw (funext fun k => ?_)
  match k with
  | ⟨0, _⟩ => rfl
  | ⟨1, _⟩ => exact Fin.ext (by show ((i 0).val * 1024 + (i 1).val) / 1024 % 3 = t.val; omega)
  | ⟨2, _⟩ => rfl
  | ⟨3, _⟩ => exact Fin.ext (by show ((i 0).val * 1024 + (i 1).val) % 1024 = j.val; omega)

/-- The convolution. -/
theorem ref_conv (a : Fin 16) (s : Fin 2048) (j : Fin 1024) : val_main_v56 (F := Ideal) x g b w cw (ix3 a s j) = conv x g b w cw (a.val * 2048 + s.val) j := by
  rw [val_main_v56_apply, val_main_v49_apply, val_main_v42_apply, val_main_v48_apply, val_main_v55_apply,
    val_main_v41_apply, val_main_v40_apply, val_main_v38_apply, val_main_v37_apply, val_main_v39_apply,
    val_main_v47_apply, val_main_v46_apply, val_main_v44_apply, val_main_v43_apply, val_main_v45_apply,
    val_main_v54_apply, val_main_v53_apply, val_main_v51_apply, val_main_v50_apply, val_main_v52_apply]
  have hj : j.val % 1024 = j.val := by omega
  refine congrArg₂ (· + ·) (congrArg₂ (· + ·) (congrArg₂ (· * ·) (ref_tap cw 0 j _ rfl hj) ?_) (congrArg₂ (· * ·) (ref_tap cw 1 j _ rfl hj) ?_))
    (congrArg₂ (· * ·) (ref_tap cw 2 j _ rfl hj) ?_)
  · exact ref_pad x g b w a s 2 (by norm_num) j _ rfl (show s.val = 2 - 2 + s.val by omega) rfl
  · exact ref_pad x g b w a s 1 (by norm_num) j _ rfl (show 1 + s.val = 2 - 1 + s.val by omega) rfl
  · exact ref_pad x g b w a s 0 (by norm_num) j _ rfl (show 2 + s.val = 2 - 0 + s.val by omega) rfl

/-- The packed array. -/
theorem ref_packed (a : Fin 16) (s : Fin 2048) (q : Fin 5) (j : Fin 1024) (i : S16x2048x5120.Idx) (h0 : (i 0).val = a.val) (h1 : (i 1).val = s.val)
    (h2 : (i 2).val = q.val * 1024 + j.val) : val_main_v60 (F := Ideal) x g b w cw i = packed x g b w cw (a.val * 2048 + s.val) q.val j := by
  have off : ∀ k : Fin S16x2048x1024.rank, k.cast rfl ≠ (2 : Fin S16x2048x5120.rank) →
      ((ix3 a s j : S16x2048x1024.Idx) k).val = (i (k.cast rfl)).val := fun k hk => match k, hk with
    | ⟨0, _⟩, _ => h0.symm
    | ⟨1, _⟩, _ => h1.symm
    | ⟨2, _⟩, hk => absurd rfl hk
  unfold val_main_v60 packed
  fin_cases q
  · refine (concatenate_apply_piece (2 : Fin S16x2048x5120.rank) _ _ i 0 (by simp) S16x2048x1024 _ rfl rfl 0 rfl (ix3 a s j) off (h2.symm)).trans ?_
    rw [val_main_v58_apply, val_main_v26_apply, if_pos rfl]
    exact congrArg₂ (· * ·) (ref_dot_at x g b w a s 0 j _ rfl rfl (show j.val = 0 * 1024 + j.val by omega)) rfl
  · refine (concatenate_apply_piece (2 : Fin S16x2048x5120.rank) _ _ i 1 (by simp) S16x2048x1024 _ rfl rfl 1024 rfl (ix3 a s j) off (h2.symm)).trans ?_
    rw [val_main_v28_apply, if_neg (by decide), if_pos rfl]
    exact ref_dot_at x g b w a s 2 j _ rfl rfl rfl
  · refine (concatenate_apply_piece (2 : Fin S16x2048x5120.rank) _ _ i 2 (by simp) S16x2048x1024 _ rfl rfl 2048 rfl (ix3 a s j) off (h2.symm)).trans ?_
    rw [val_main_v59_apply, val_main_v29_apply, if_neg (by decide), if_neg (by decide), if_pos rfl, ref_conv]
    exact congrArg₂ (· * ·) (ref_dot_at x g b w a s 3 j _ rfl rfl rfl) rfl
  · refine (concatenate_apply_piece (2 : Fin S16x2048x5120.rank) _ _ i 3 (by simp) S16x2048x1024 _ rfl rfl 3072 rfl (ix3 a s j) off (h2.symm)).trans ?_
    rw [val_main_v32_apply, if_neg (by decide), if_neg (by decide), if_neg (by decide), if_pos rfl]
    exact ref_dot_at x g b w a s 6 j _ rfl rfl rfl
  · refine (concatenate_apply_piece (2 : Fin S16x2048x5120.rank) _ _ i 4 (by simp) S16x2048x1024 _ rfl rfl 4096 rfl (ix3 a s j) off (h2.symm)).trans ?_
    rw [val_main_v33_apply, if_neg (by decide), if_neg (by decide), if_neg (by decide), if_neg (by decide)]
    exact ref_dot_at x g b w a s 7 j _ rfl rfl rfl

/-- The reference's first result: the normalized rows. -/
theorem refU : val_main_v62 (F := Ideal) x g b = outU x g b := by
  funext i
  have h0 : (i 0).val < 32768 := (i 0).isLt
  have h1 : (i 1).val < 1024 := (i 1).isLt
  rw [val_main_v62_apply, to3 (idx_main_v62 i) ⟨(i 0).val / 2048, by omega⟩ ⟨(i 0).val % 2048, by omega⟩ (cix (i 1).val)
    (show ((i 0).val * 1024 + (i 1).val) / 2097152 = (i 0).val / 2048 by omega) (show ((i 0).val * 1024 + (i 1).val) / 1024 % 2048 = (i 0).val % 2048 by omega)
    (show ((i 0).val * 1024 + (i 1).val) % 1024 = (i 1).val % 1024 by omega), ref_norm]
  unfold outU
  congr 1
  exact Nat.div_add_mod' _ _

/-- The reference's second result: the packed array. -/
theorem refP : val_main_v63 (F := Ideal) x g b w cw = outP x g b w cw := by
  funext i
  have h0 : (i 0).val < 32768 := (i 0).isLt
  have h1 : (i 1).val < 5120 := (i 1).isLt
  rw [val_main_v63_apply, val_main_v61_apply]
  refine (ref_packed x g b w cw ⟨(i 0).val / 2048, by omega⟩ ⟨(i 0).val % 2048, by omega⟩ ⟨(i 1).val / 1024, by omega⟩ (cix (i 1).val) (idx_main_v63 i)
    (show ((i 0).val * 5120 + (i 1).val) / 10485760 = (i 0).val / 2048 by omega) (show ((i 0).val * 5120 + (i 1).val) / 5120 % 2048 = (i 0).val % 2048 by omega)
    (show ((i 0).val * 5120 + (i 1).val) % 5120 = (i 1).val / 1024 * 1024 + (i 1).val % 1024 by omega)).trans ?_
  unfold outP
  congr 1
  exact Nat.div_add_mod' _ _

/-- The reference's third result: the keys, transposed. -/
theorem refK : val_main_v66 (F := Ideal) x g b w = outK x g b w := by
  funext i
  have h0 : (i 0).val < 1024 := (i 0).isLt
  have h1 : (i 1).val < 32768 := (i 1).isLt
  rw [val_main_v66_apply, val_main_v65_apply, val_main_v64_apply, val_main_v27_apply]
  refine (ref_dot_at x g b w ⟨(i 1).val / 2048, by omega⟩ ⟨(i 1).val % 2048, by omega⟩ 1 (cix (i 0).val) _
    (show ((i 1).val * 1024 + (i 0).val) / 2097152 = (i 1).val / 2048 by omega) (show ((i 1).val * 1024 + (i 0).val) / 1024 % 2048 = (i 1).val % 2048 by omega)
    (show 1024 + ((i 1).val * 1024 + (i 0).val) % 1024 = 1 * 1024 + (i 0).val % 1024 by omega)).trans ?_
  unfold outK
  congr 1
  exact Nat.div_add_mod' _ _

end

end Cert.Proj

end
-- ==== Proof.Mix.RunBits.lean ====
/- The third call's run, as compiled: what the body leaves in each output window, its
   triple, the pipeline's data and the run of the whole program. The packed words are stored every fourth row. -/
module

public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import Idealize.ShloMosaic.Lib.Claim

@[expose] public section

set_option maxRecDepth 16384

noncomputable section

namespace Cert.Kernel3.Run

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

abbrev r0_0 : Rect S2x1024 := Rect.unit (s := S2x1024) ![0, 0] S2x1024.size inb_S2x1024_S2x1024_0_0
abbrev r0_1 : Rect S1024x1024 := Rect.unit (s := S1024x1024) ![0, 0] S256x1024.size inb_S1024x1024_S256x1024_0_0
abbrev r0_2 : Rect S1024x1024 := Rect.unit (s := S1024x1024) ![0, 0] S1024x1024.size inb_S1024x1024_S1024x1024_0_0
abbrev r0_3 : Rect S1x1024 := Rect.unit (s := S1x1024) ![0, 0] S1x1024.size inb_S1x1024_S1x1024_0_0
abbrev r0_4 : Rect S1024x256 := Rect.unit (s := S1024x256) ![0, 0] S1024x256.size inb_S1024x256_S1024x256_0_0
abbrev r0_5 : Rect S1x128 := Rect.unit (s := S1x128) ![0, 0] S1x128.size inb_S1x128_S1x128_0_0
abbrev r0_6 : Rect S1024x128 := Rect.unit (s := S1024x128) ![0, 0] S256x128.size inb_S1024x128_S256x128_0_0
abbrev r0_7 : Rect S4096x128 :=
  ⟨(⟨![0, 0], S256x128.size, ![4, 1], inb_S4096x128_S256x128_0_0_s_4_1⟩ : LoadRect S4096x128), spos_4_1⟩
abbrev r0_8 : Rect S4096x128 :=
  ⟨(⟨![1, 0], S256x128.size, ![4, 1], inb_S4096x128_S256x128_1_0_s_4_1⟩ : LoadRect S4096x128), spos_4_1⟩
abbrev r0_9 : Rect S4096x128 :=
  ⟨(⟨![2, 0], S256x128.size, ![4, 1], inb_S4096x128_S256x128_2_0_s_4_1⟩ : LoadRect S4096x128), spos_4_1⟩
abbrev r0_10 : Rect S4096x128 :=
  ⟨(⟨![3, 0], S256x128.size, ![4, 1], inb_S4096x128_S256x128_3_0_s_4_1⟩ : LoadRect S4096x128), spos_4_1⟩
abbrev r0_11 : Rect S1024x1024 := Rect.unit (s := S1024x1024) ![256, 0] S256x1024.size inb_S1024x1024_S256x1024_256_0
abbrev r0_12 : Rect S1024x128 := Rect.unit (s := S1024x128) ![256, 0] S256x128.size inb_S1024x128_S256x128_256_0
abbrev r0_13 : Rect S4096x128 :=
  ⟨(⟨![1024, 0], S256x128.size, ![4, 1], inb_S4096x128_S256x128_1024_0_s_4_1⟩ : LoadRect S4096x128), spos_4_1⟩
abbrev r0_14 : Rect S4096x128 :=
  ⟨(⟨![1025, 0], S256x128.size, ![4, 1], inb_S4096x128_S256x128_1025_0_s_4_1⟩ : LoadRect S4096x128), spos_4_1⟩
abbrev r0_15 : Rect S4096x128 :=
  ⟨(⟨![1026, 0], S256x128.size, ![4, 1], inb_S4096x128_S256x128_1026_0_s_4_1⟩ : LoadRect S4096x128), spos_4_1⟩
abbrev r0_16 : Rect S4096x128 :=
  ⟨(⟨![1027, 0], S256x128.size, ![4, 1], inb_S4096x128_S256x128_1027_0_s_4_1⟩ : LoadRect S4096x128), spos_4_1⟩
abbrev r0_17 : Rect S1024x1024 := Rect.unit (s := S1024x1024) ![512, 0] S256x1024.size inb_S1024x1024_S256x1024_512_0
abbrev r0_18 : Rect S1024x128 := Rect.unit (s := S1024x128) ![512, 0] S256x128.size inb_S1024x128_S256x128_512_0
abbrev r0_19 : Rect S4096x128 :=
  ⟨(⟨![2048, 0], S256x128.size, ![4, 1], inb_S4096x128_S256x128_2048_0_s_4_1⟩ : LoadRect S4096x128), spos_4_1⟩
abbrev r0_20 : Rect S4096x128 :=
  ⟨(⟨![2049, 0], S256x128.size, ![4, 1], inb_S4096x128_S256x128_2049_0_s_4_1⟩ : LoadRect S4096x128), spos_4_1⟩
abbrev r0_21 : Rect S4096x128 :=
  ⟨(⟨![2050, 0], S256x128.size, ![4, 1], inb_S4096x128_S256x128_2050_0_s_4_1⟩ : LoadRect S4096x128), spos_4_1⟩
abbrev r0_22 : Rect S4096x128 :=
  ⟨(⟨![2051, 0], S256x128.size, ![4, 1], inb_S4096x128_S256x128_2051_0_s_4_1⟩ : LoadRect S4096x128), spos_4_1⟩
abbrev r0_23 : Rect S1024x1024 := Rect.unit (s := S1024x1024) ![768, 0] S256x1024.size inb_S1024x1024_S256x1024_768_0
abbrev r0_24 : Rect S1024x128 := Rect.unit (s := S1024x128) ![768, 0] S256x128.size inb_S1024x128_S256x128_768_0
abbrev r0_25 : Rect S4096x128 :=
  ⟨(⟨![3072, 0], S256x128.size, ![4, 1], inb_S4096x128_S256x128_3072_0_s_4_1⟩ : LoadRect S4096x128), spos_4_1⟩
abbrev r0_26 : Rect S4096x128 :=
  ⟨(⟨![3073, 0], S256x128.size, ![4, 1], inb_S4096x128_S256x128_3073_0_s_4_1⟩ : LoadRect S4096x128), spos_4_1⟩
abbrev r0_27 : Rect S4096x128 :=
  ⟨(⟨![3074, 0], S256x128.size, ![4, 1], inb_S4096x128_S256x128_3074_0_s_4_1⟩ : LoadRect S4096x128), spos_4_1⟩
abbrev r0_28 : Rect S4096x128 :=
  ⟨(⟨![3075, 0], S256x128.size, ![4, 1], inb_S4096x128_S256x128_3075_0_s_4_1⟩ : LoadRect S4096x128), spos_4_1⟩

/-! ## What the body leaves in each output window's buffer -/

/-! ### Values of the body that the stores' payloads, spelt out, would write more than once

    Each is a vector the body binds, over the blocks of the input windows. -/

def k0_pay55 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S2x1024 .f32 :=
  k0_pay3 (View.ld x8 r0_0) -- `v1`
def k0_pay56 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay4 (View.ld x8 r0_0) (View.ld x1 r0_1) (View.ld x6 r0_2) (View.ld x0 r0_1) (View.ld x5 r0_2) (View.ld x2 r0_1) (View.ld x3 r0_1) (View.ld x7 r0_2) -- `v32`
def k0_pay57 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay5 (View.ld x4 r0_1) -- `v36`
def k0_pay58 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .bf16 :=
  k0_pay7 (k0_pay56 x0 x1 x2 x3 x4 x5 x6 x7 x8 x9 x10 x11 x12) (k0_pay57 x0 x1 x2 x3 x4 x5 x6 x7 x8 x9 x10 x11 x12) (View.ld x9 r0_3) (View.ld x10 r0_3) -- `v63`
def k0_pay59 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay18 (k0_pay55 x0 x1 x2 x3 x4 x5 x6 x7 x8 x9 x10 x11 x12) (View.ld x1 r0_11) (View.ld x6 r0_2) (View.ld x0 r0_11) (View.ld x5 r0_2) (View.ld x2 r0_11) (View.ld x3 r0_11) (View.ld x7 r0_2) -- `v153`
def k0_pay60 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .bf16 :=
  k0_pay20 (k0_pay59 x0 x1 x2 x3 x4 x5 x6 x7 x8 x9 x10 x11 x12) (View.ld x4 r0_11) (View.ld x9 r0_3) (View.ld x10 r0_3) -- `v184`
def k0_pay61 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  constant S256x1024 .f32 0x00000000#32 -- `cst_121`
def k0_pay62 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .bf16 :=
  k0_pay30 (k0_pay55 x0 x1 x2 x3 x4 x5 x6 x7 x8 x9 x10 x11 x12) (View.ld x1 r0_17) (View.ld x6 r0_2) (View.ld x0 r0_17) (View.ld x5 r0_2) (View.ld x2 r0_17) (View.ld x3 r0_17) -- `v271`
def k0_pay63 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S1024x1024 .bf16 :=
  k0_pay31 (View.ld x7 r0_2) -- `v273`
def k0_pay64 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .bf16 :=
  k0_pay33 (k0_pay62 x0 x1 x2 x3 x4 x5 x6 x7 x8 x9 x10 x11 x12) (k0_pay63 x0 x1 x2 x3 x4 x5 x6 x7 x8 x9 x10 x11 x12) (k0_pay61 x0 x1 x2 x3 x4 x5 x6 x7 x8 x9 x10 x11 x12) (View.ld x4 r0_17) (View.ld x9 r0_3) (View.ld x10 r0_3) -- `v305`
def k0_pay65 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .bf16 :=
  k0_pay43 (k0_pay55 x0 x1 x2 x3 x4 x5 x6 x7 x8 x9 x10 x11 x12) (View.ld x1 r0_23) (View.ld x6 r0_2) (View.ld x0 r0_23) (View.ld x5 r0_2) (View.ld x2 r0_23) (View.ld x3 r0_23) -- `v392`
def k0_pay66 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .bf16 :=
  k0_pay45 (k0_pay65 x0 x1 x2 x3 x4 x5 x6 x7 x8 x9 x10 x11 x12) (View.ld x7 r0_2) (View.ld x4 r0_23) (View.ld x9 r0_3) (View.ld x10 r0_3) -- `v426`

/-- What the body leaves in window 13, the residual rows after the layer norm: its stores, the last first. -/
def out0_13 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : Vec F S1024x1024 .f32 :=
  View.canon [⟨r0_23, k0_pay44 (k0_pay65 x0 x1 x2 x3 x4 x5 x6 x7 x8 x9 x10 x11 x12) (View.ld x7 r0_2) (View.ld x4 r0_23) (View.ld x9 r0_3) (View.ld x10 r0_3)⟩,
    ⟨r0_17, k0_pay32 (k0_pay62 x0 x1 x2 x3 x4 x5 x6 x7 x8 x9 x10 x11 x12) (k0_pay63 x0 x1 x2 x3 x4 x5 x6 x7 x8 x9 x10 x11 x12) (k0_pay61 x0 x1 x2 x3 x4 x5 x6 x7 x8 x9 x10 x11 x12) (View.ld x4 r0_17) (View.ld x9 r0_3) (View.ld x10 r0_3)⟩,
    ⟨r0_11, k0_pay19 (k0_pay59 x0 x1 x2 x3 x4 x5 x6 x7 x8 x9 x10 x11 x12) (View.ld x4 r0_11) (View.ld x9 r0_3) (View.ld x10 r0_3)⟩,
    ⟨r0_1, k0_pay6 (k0_pay56 x0 x1 x2 x3 x4 x5 x6 x7 x8 x9 x10 x11 x12) (k0_pay57 x0 x1 x2 x3 x4 x5 x6 x7 x8 x9 x10 x11 x12) (View.ld x9 r0_3) (View.ld x10 r0_3)⟩]

/-- Its stores tile the buffer, so they cover it. -/
theorem cover0_13 (p0 : Vec F S256x1024 .f32) (p1 : Vec F S256x1024 .f32) (p2 : Vec F S256x1024 .f32) (p3 : Vec F S256x1024 .f32) (y : S1024x1024.Idx) :
    ∃ pc ∈ ([⟨r0_23, p0⟩, ⟨r0_17, p1⟩, ⟨r0_11, p2⟩, ⟨r0_1, p3⟩] : List (View.Piece (Elt F) S1024x1024 .f32)), y ∈ pc.1.set :=
  View.cover_of_tiled [⟨r0_23, p0⟩, ⟨r0_17, p1⟩, ⟨r0_11, p2⟩, ⟨r0_1, p3⟩] S256x1024.size (by rfl) y

/-- What the body leaves in window 14, the packed words: its stores, the last first. -/
def out0_14 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : Vec F S4096x128 .i32 :=
  View.canon [⟨r0_28, k0_pay2 (k0_pay49 (k0_pay66 x0 x1 x2 x3 x4 x5 x6 x7 x8 x9 x10 x11 x12))⟩,
    ⟨r0_27, k0_pay1 (k0_pay52 (k0_pay66 x0 x1 x2 x3 x4 x5 x6 x7 x8 x9 x10 x11 x12)) (k0_pay53 (k0_pay66 x0 x1 x2 x3 x4 x5 x6 x7 x8 x9 x10 x11 x12)) k0_pay54⟩,
    ⟨r0_26, k0_pay51 (k0_pay66 x0 x1 x2 x3 x4 x5 x6 x7 x8 x9 x10 x11 x12)⟩,
    ⟨r0_25, k0_pay50 (k0_pay66 x0 x1 x2 x3 x4 x5 x6 x7 x8 x9 x10 x11 x12)⟩,
    ⟨r0_22, k0_pay42 (k0_pay38 (k0_pay64 x0 x1 x2 x3 x4 x5 x6 x7 x8 x9 x10 x11 x12))⟩,
    ⟨r0_21, k0_pay41 (k0_pay64 x0 x1 x2 x3 x4 x5 x6 x7 x8 x9 x10 x11 x12)⟩,
    ⟨r0_20, k0_pay40 (k0_pay64 x0 x1 x2 x3 x4 x5 x6 x7 x8 x9 x10 x11 x12)⟩,
    ⟨r0_19, k0_pay39 (k0_pay64 x0 x1 x2 x3 x4 x5 x6 x7 x8 x9 x10 x11 x12)⟩,
    ⟨r0_16, k0_pay29 (k0_pay24 (k0_pay60 x0 x1 x2 x3 x4 x5 x6 x7 x8 x9 x10 x11 x12)) (k0_pay28 (k0_pay60 x0 x1 x2 x3 x4 x5 x6 x7 x8 x9 x10 x11 x12))⟩,
    ⟨r0_15, k0_pay27 (k0_pay60 x0 x1 x2 x3 x4 x5 x6 x7 x8 x9 x10 x11 x12)⟩,
    ⟨r0_14, k0_pay26 (k0_pay60 x0 x1 x2 x3 x4 x5 x6 x7 x8 x9 x10 x11 x12)⟩,
    ⟨r0_13, k0_pay25 (k0_pay60 x0 x1 x2 x3 x4 x5 x6 x7 x8 x9 x10 x11 x12)⟩,
    ⟨r0_10, k0_pay17 (k0_pay14 (k0_pay58 x0 x1 x2 x3 x4 x5 x6 x7 x8 x9 x10 x11 x12)) (k0_pay15 (k0_pay58 x0 x1 x2 x3 x4 x5 x6 x7 x8 x9 x10 x11 x12)) k0_pay16⟩,
    ⟨r0_9, k0_pay13 (k0_pay58 x0 x1 x2 x3 x4 x5 x6 x7 x8 x9 x10 x11 x12)⟩,
    ⟨r0_8, k0_pay12 (k0_pay58 x0 x1 x2 x3 x4 x5 x6 x7 x8 x9 x10 x11 x12)⟩,
    ⟨r0_7, k0_pay11 (k0_pay58 x0 x1 x2 x3 x4 x5 x6 x7 x8 x9 x10 x11 x12)⟩]

/-- Every fourth row from row `o`, 256 of them, holds the index `y` when `y`'s row is one of them. -/
theorem mem_slab (y : S4096x128.Idx) (o : Nat) (r : Rect S4096x128) (ho : r.off = ![o, 0]) (hs : r.size = S256x128.size)
    (ht : r.stride = ![4, 1]) (hy : ∃ k < 256, (y 0).1 = o + 4 * k) : y ∈ r.set := by
  obtain ⟨⟨off, size, stride, inb⟩, hp⟩ := r
  subst ho hs ht
  refine LoadRect.mem_set _ |>.2 fun a => ?_
  match a with
  | ⟨0, _⟩ => exact hy
  | ⟨1, _⟩ => exact ⟨(y 1).1, (y 1).isLt, by show (y 1).1 = 0 + 1 * (y 1).1; omega⟩

/-- Its stores, each of every fourth row, meet every row. -/
theorem cover0_14 (p0 : Vec F S256x128 .i32) (p1 : Vec F S256x128 .i32) (p2 : Vec F S256x128 .i32) (p3 : Vec F S256x128 .i32) (p4 : Vec F S256x128 .i32) (p5 : Vec F S256x128 .i32) (p6 : Vec F S256x128 .i32) (p7 : Vec F S256x128 .i32) (p8 : Vec F S256x128 .i32) (p9 : Vec F S256x128 .i32) (p10 : Vec F S256x128 .i32) (p11 : Vec F S256x128 .i32) (p12 : Vec F S256x128 .i32) (p13 : Vec F S256x128 .i32) (p14 : Vec F S256x128 .i32) (p15 : Vec F S256x128 .i32) (y : S4096x128.Idx) :
    ∃ pc ∈ ([⟨r0_28, p0⟩, ⟨r0_27, p1⟩, ⟨r0_26, p2⟩, ⟨r0_25, p3⟩, ⟨r0_22, p4⟩, ⟨r0_21, p5⟩, ⟨r0_20, p6⟩, ⟨r0_19, p7⟩, ⟨r0_16, p8⟩, ⟨r0_15, p9⟩, ⟨r0_14, p10⟩, ⟨r0_13, p11⟩, ⟨r0_10, p12⟩, ⟨r0_9, p13⟩, ⟨r0_8, p14⟩, ⟨r0_7, p15⟩] : List (View.Piece (Elt F) S4096x128 .i32)), y ∈ pc.1.set := by
  have h0 : (y 0).1 < 4096 := (y 0).isLt
  have hb : (y 0).1 / 1024 = 3 ∨ (y 0).1 / 1024 = 2 ∨ (y 0).1 / 1024 = 1 ∨ (y 0).1 / 1024 = 0 := by omega
  have hq : (y 0).1 % 4 = 3 ∨ (y 0).1 % 4 = 2 ∨ (y 0).1 % 4 = 1 ∨ (y 0).1 % 4 = 0 := by omega
  rcases hb with hb | hb | hb | hb <;> rcases hq with hq | hq | hq | hq
  · refine ⟨⟨r0_28, p0⟩, .head _, ?_⟩
    exact mem_slab y 3075 r0_28 rfl rfl rfl ⟨((y 0).1 - 3075) / 4, by omega, by omega⟩
  · refine ⟨⟨r0_27, p1⟩, .tail _ (.head _), ?_⟩
    exact mem_slab y 3074 r0_27 rfl rfl rfl ⟨((y 0).1 - 3074) / 4, by omega, by omega⟩
  · refine ⟨⟨r0_26, p2⟩, .tail _ (.tail _ (.head _)), ?_⟩
    exact mem_slab y 3073 r0_26 rfl rfl rfl ⟨((y 0).1 - 3073) / 4, by omega, by omega⟩
  · refine ⟨⟨r0_25, p3⟩, .tail _ (.tail _ (.tail _ (.head _))), ?_⟩
    exact mem_slab y 3072 r0_25 rfl rfl rfl ⟨((y 0).1 - 3072) / 4, by omega, by omega⟩
  · refine ⟨⟨r0_22, p4⟩, .tail _ (.tail _ (.tail _ (.tail _ (.head _)))), ?_⟩
    exact mem_slab y 2051 r0_22 rfl rfl rfl ⟨((y 0).1 - 2051) / 4, by omega, by omega⟩
  · refine ⟨⟨r0_21, p5⟩, .tail _ (.tail _ (.tail _ (.tail _ (.tail _ (.head _))))), ?_⟩
    exact mem_slab y 2050 r0_21 rfl rfl rfl ⟨((y 0).1 - 2050) / 4, by omega, by omega⟩
  · refine ⟨⟨r0_20, p6⟩, .tail _ (.tail _ (.tail _ (.tail _ (.tail _ (.tail _ (.head _)))))), ?_⟩
    exact mem_slab y 2049 r0_20 rfl rfl rfl ⟨((y 0).1 - 2049) / 4, by omega, by omega⟩
  · refine ⟨⟨r0_19, p7⟩, .tail _ (.tail _ (.tail _ (.tail _ (.tail _ (.tail _ (.tail _ (.head _))))))), ?_⟩
    exact mem_slab y 2048 r0_19 rfl rfl rfl ⟨((y 0).1 - 2048) / 4, by omega, by omega⟩
  · refine ⟨⟨r0_16, p8⟩, .tail _ (.tail _ (.tail _ (.tail _ (.tail _ (.tail _ (.tail _ (.tail _ (.head _)))))))), ?_⟩
    exact mem_slab y 1027 r0_16 rfl rfl rfl ⟨((y 0).1 - 1027) / 4, by omega, by omega⟩
  · refine ⟨⟨r0_15, p9⟩, .tail _ (.tail _ (.tail _ (.tail _ (.tail _ (.tail _ (.tail _ (.tail _ (.tail _ (.head _))))))))), ?_⟩
    exact mem_slab y 1026 r0_15 rfl rfl rfl ⟨((y 0).1 - 1026) / 4, by omega, by omega⟩
  · refine ⟨⟨r0_14, p10⟩, .tail _ (.tail _ (.tail _ (.tail _ (.tail _ (.tail _ (.tail _ (.tail _ (.tail _ (.tail _ (.head _)))))))))), ?_⟩
    exact mem_slab y 1025 r0_14 rfl rfl rfl ⟨((y 0).1 - 1025) / 4, by omega, by omega⟩
  · refine ⟨⟨r0_13, p11⟩, .tail _ (.tail _ (.tail _ (.tail _ (.tail _ (.tail _ (.tail _ (.tail _ (.tail _ (.tail _ (.tail _ (.head _))))))))))), ?_⟩
    exact mem_slab y 1024 r0_13 rfl rfl rfl ⟨((y 0).1 - 1024) / 4, by omega, by omega⟩
  · refine ⟨⟨r0_10, p12⟩, .tail _ (.tail _ (.tail _ (.tail _ (.tail _ (.tail _ (.tail _ (.tail _ (.tail _ (.tail _ (.tail _ (.tail _ (.head _)))))))))))), ?_⟩
    exact mem_slab y 3 r0_10 rfl rfl rfl ⟨((y 0).1 - 3) / 4, by omega, by omega⟩
  · refine ⟨⟨r0_9, p13⟩, .tail _ (.tail _ (.tail _ (.tail _ (.tail _ (.tail _ (.tail _ (.tail _ (.tail _ (.tail _ (.tail _ (.tail _ (.tail _ (.head _))))))))))))), ?_⟩
    exact mem_slab y 2 r0_9 rfl rfl rfl ⟨((y 0).1 - 2) / 4, by omega, by omega⟩
  · refine ⟨⟨r0_8, p14⟩, .tail _ (.tail _ (.tail _ (.tail _ (.tail _ (.tail _ (.tail _ (.tail _ (.tail _ (.tail _ (.tail _ (.tail _ (.tail _ (.tail _ (.head _)))))))))))))), ?_⟩
    exact mem_slab y 1 r0_8 rfl rfl rfl ⟨((y 0).1 - 1) / 4, by omega, by omega⟩
  · refine ⟨⟨r0_7, p15⟩, .tail _ (.tail _ (.tail _ (.tail _ (.tail _ (.tail _ (.tail _ (.tail _ (.tail _ (.tail _ (.tail _ (.tail _ (.tail _ (.tail _ (.tail _ (.head _))))))))))))))), ?_⟩
    exact mem_slab y 0 r0_7 rfl rfl rfl ⟨((y 0).1 - 0) / 4, by omega, by omega⟩

/-- What the body leaves in window 15, the router logits: its stores, the last first. -/
def out0_15 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : Vec F S1024x128 .f32 :=
  View.canon [⟨r0_24, k0_pay48 (k0_pay46 (k0_pay65 x0 x1 x2 x3 x4 x5 x6 x7 x8 x9 x10 x11 x12) (View.ld x7 r0_2) (View.ld x4 r0_23) (View.ld x9 r0_3) (View.ld x10 r0_3)) (k0_pay47 (k0_pay65 x0 x1 x2 x3 x4 x5 x6 x7 x8 x9 x10 x11 x12) (View.ld x7 r0_2) (View.ld x4 r0_23) (View.ld x9 r0_3) (View.ld x10 r0_3) (View.ld x11 r0_4)) (View.ld x11 r0_4) (View.ld x12 r0_5)⟩,
    ⟨r0_18, k0_pay37 (k0_pay34 (k0_pay62 x0 x1 x2 x3 x4 x5 x6 x7 x8 x9 x10 x11 x12) (k0_pay63 x0 x1 x2 x3 x4 x5 x6 x7 x8 x9 x10 x11 x12) (k0_pay61 x0 x1 x2 x3 x4 x5 x6 x7 x8 x9 x10 x11 x12) (View.ld x4 r0_17) (View.ld x9 r0_3) (View.ld x10 r0_3)) (k0_pay35 (k0_pay62 x0 x1 x2 x3 x4 x5 x6 x7 x8 x9 x10 x11 x12) (k0_pay63 x0 x1 x2 x3 x4 x5 x6 x7 x8 x9 x10 x11 x12) (k0_pay61 x0 x1 x2 x3 x4 x5 x6 x7 x8 x9 x10 x11 x12) (View.ld x4 r0_17) (View.ld x9 r0_3) (View.ld x10 r0_3) (View.ld x11 r0_4)) (k0_pay36 (View.ld x11 r0_4)) (View.ld x12 r0_5)⟩,
    ⟨r0_12, k0_pay23 (k0_pay21 (k0_pay59 x0 x1 x2 x3 x4 x5 x6 x7 x8 x9 x10 x11 x12) (View.ld x4 r0_11) (View.ld x9 r0_3) (View.ld x10 r0_3) (View.ld x11 r0_4) (View.ld x11 r0_4)) (k0_pay22 (k0_pay59 x0 x1 x2 x3 x4 x5 x6 x7 x8 x9 x10 x11 x12) (View.ld x4 r0_11) (View.ld x9 r0_3) (View.ld x10 r0_3) (View.ld x11 r0_4) (View.ld x11 r0_4)) (View.ld x12 r0_5)⟩,
    ⟨r0_6, k0_pay9 (k0_pay8 (k0_pay56 x0 x1 x2 x3 x4 x5 x6 x7 x8 x9 x10 x11 x12) (k0_pay57 x0 x1 x2 x3 x4 x5 x6 x7 x8 x9 x10 x11 x12) (View.ld x9 r0_3) (View.ld x10 r0_3) (View.ld x11 r0_4) (View.ld x11 r0_4)) (View.ld x12 r0_5)⟩]

/-- Its stores tile the buffer, so they cover it. -/
theorem cover0_15 (p0 : Vec F S256x128 .f32) (p1 : Vec F S256x128 .f32) (p2 : Vec F S256x128 .f32) (p3 : Vec F S256x128 .f32) (y : S1024x128.Idx) :
    ∃ pc ∈ ([⟨r0_24, p0⟩, ⟨r0_18, p1⟩, ⟨r0_12, p2⟩, ⟨r0_6, p3⟩] : List (View.Piece (Elt F) S1024x128 .f32)), y ∈ pc.1.set :=
  View.cover_of_tiled [⟨r0_24, p0⟩, ⟨r0_18, p1⟩, ⟨r0_12, p2⟩, ⟨r0_6, p3⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x256 .bf16) (harg12 : arg12.IsWhole) (arg13 : Memref sig .tc .vmem S1x128 .f32) (harg13 : arg13.IsWhole) (arg14 : Memref sig .tc .vmem S1024x1024 .f32) (harg14 : arg14.IsWhole) (arg15 : Memref sig .tc .vmem S4096x128 .i32) (harg15 : arg15.IsWhole) (arg16 : Memref sig .tc .vmem S1024x128 .f32) (harg16 : arg16.IsWhole)
    (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12)) -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mix_eq_skeleton]; unfold cc0_mix_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _ _ _ _ _ _ _ _ _ _ _ _ _ _ _ _)).trans ?_
    rfl
  iexists _; isplitr
  swap; · iexact H15
  ipureintro
  refine (View.read_writes_eq_canon _ _ _ (cover0_15 _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 16, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The run ends with every argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel3.Run

end
-- ==== Proof.Mix.Spec.lean ====
/- The gated merge written as numbers: the two products with their weights, each multiplied by its gate, their sum's product
   with the output weights, the residual, and the layer norm of the row. Rows are counted over all the sequences, 2048 to a
   sequence. -/
module

public import proofs.«01_k».proof.Proof.Gen.Kernel3Ideal.Skeleton
public import Idealize.ShloMosaic.Lib.Pointwise

@[expose] public section

noncomputable section

namespace Cert.Mix

open Idealize.ShloMosaic Cert.Kernel3Ideal
open scoped BigOperators

/-- The mean of a row. -/
def mean (X : Fin 1024 → EReal) : EReal := Ideal.div (∑ k, X k) (Ideal.ofBits .f32 0x44800000#32)

/-- The layer norm of a row, with its gain and its bias. -/
def norm (X G B : Fin 1024 → EReal) (j : Fin 1024) : EReal :=
  (X j - mean X) * Ideal.rsqrt (mean (fun k => (X k - mean X) * (X k - mean X)) + Ideal.ofBits .f32 0x3727C5AC#32) * G j + B j

/-- The factor of the residual. -/
def alpha : EReal := Ideal.ofBits .f32 0x3F9837F0#32

/-- The merged row: each product times the logistic function of its gate. -/
def merge (A B GA GB : Fin 1024 → EReal) (WA WB : Fin 1024 → Fin 1024 → EReal) (H : Fin 2 → Fin 1024 → EReal) (j : Fin 1024) : EReal :=
  Ideal.logistic (GA j + H 0 j) * (∑ k, A k * WA k j) + Ideal.logistic (GB j + H 1 j) * (∑ k, B k * WB k j)

/-- The merged row's product with the output weights, added to the residual. -/
def resid (M X : Fin 1024 → EReal) (WO : Fin 1024 → Fin 1024 → EReal) (j : Fin 1024) : EReal := alpha * X j + ∑ k, M k * WO k j

/-- The row of the result. -/
def mixed (A B GA GB X : Fin 1024 → EReal) (WA WB WO : Fin 1024 → Fin 1024 → EReal) (H : Fin 2 → Fin 1024 → EReal) (G C : Fin 1024 → EReal)
    (j : Fin 1024) : EReal := norm (resid (merge A B GA GB WA WB H) X WO) G C j

/-- A row of an array of sequences. -/
def row (x : S16x2048x1024.Idx → EReal) (R : ℕ) (j : Fin 1024) : EReal :=
  x (ix3 ⟨R / 2048 % 16, Nat.mod_lt _ (by norm_num)⟩ ⟨R % 2048, Nat.mod_lt _ (by norm_num)⟩ j)

/-- A column within its block of columns. -/
abbrev cix (n : ℕ) : Fin 1024 := ⟨n % 1024, Nat.mod_lt _ (by norm_num)⟩

variable (o y ga gb x : S16x2048x1024.Idx → EReal) (wa wb wo : S1x1024x1024.Idx → EReal) (h : S1x2x1024.Idx → EReal) (g b : S1x1024.Idx → EReal)

/-- An element of the result: of a row, and a column. -/
def outAt (R : ℕ) (j : Fin 1024) : EReal :=
  mixed (row o R) (row y R) (row ga R) (row gb R) (row x R) (fun k j => wa (ix3 0 k j)) (fun k j => wb (ix3 0 k j)) (fun k j => wo (ix3 0 k j))
    (fun a j => h (ix3 0 a j)) (fun k => g (ix2 0 k)) (fun k => b (ix2 0 k)) j

/-- The result's array. -/
def out : S32768x1024.Idx → EReal := fun i => outAt o y ga gb x wa wb wo h g b (i 0).val (cix (i 1).val)

end Cert.Mix

end
-- ==== Proof.Mix.Tile.lean ====
/- What the kernel computes over a quarter of a tile, 256 rows, read at an index. The kernel's text computes the four
   quarters by the same operations, cut at different places. -/
module

public import proofs.«01_k».proof.Proof.Mix.Spec

@[expose] public section

noncomputable section

namespace Cert.Mix

open Idealize.ShloMosaic Cert.Kernel3Ideal Cert.Kernel3Ideal.Gen
open scoped BigOperators

variable (O Y GA GB : Vec Ideal S256x1024 .bf16) (X : Vec Ideal S256x1024 .f32) (WA WB WO : Vec Ideal S1024x1024 .bf16)
variable (H : Vec Ideal S2x1024 .f32) (G B : Vec Ideal S1x1024 .f32)

/-- A quarter's row of the result. -/
def quarter (r : Fin 256) (j : Fin 1024) : EReal :=
  mixed (fun k => O (ix2 r k)) (fun k => Y (ix2 r k)) (fun k => GA (ix2 r k)) (fun k => GB (ix2 r k)) (fun k => X (ix2 r k))
    (fun k j => WA (ix2 k j)) (fun k j => WB (ix2 k j)) (fun k j => WO (ix2 k j)) (fun a j => H (ix2 a j)) (fun k => G (ix2 0 k)) (fun k => B (ix2 0 k)) j

/-- The second product. -/
theorem pay47_apply (r : Fin 256) (j : Fin 1024) : k0_pay47 Y WB (ix2 r j) = ∑ k, Y (ix2 r k) * WB (ix2 k j) := by
  pointwise [k0_pay47]

/-- The first product. -/
theorem pay48_apply (r : Fin 256) (j : Fin 1024) : k0_pay48 O WA (ix2 r j) = ∑ k, O (ix2 r k) * WA (ix2 k j) := pay47_apply O WA r j

/-- The gates' biases are those read. -/
theorem pay3_apply (a : Fin 2) (j : Fin 1024) : k0_pay3 H (ix2 a j) = H (ix2 a j) := by
  pointwise [k0_pay3]

/-- The first gate. -/
theorem pay49_apply (h : FVec Ideal S2x1024 .f32) (r : Fin 256) (j : Fin 1024) : k0_pay49 h GA (ix2 r j) = Ideal.logistic (GA (ix2 r j) + h (ix2 0 j)) := by
  pointwise [k0_pay49]

/-- The last quarter's norm, over the products and the first gate. -/
theorem pay50_apply (h : FVec Ideal S2x1024 .f32) (y a ga : FVec Ideal S256x1024 .f32) (r : Fin 256) (j : Fin 1024) :
    k0_pay50 h y a ga GB WO X G B (ix2 r j)
      = norm (resid (fun j => ga (ix2 r j) * a (ix2 r j) + Ideal.logistic (GB (ix2 r j) + h (ix2 1 j)) * y (ix2 r j)) (fun k => X (ix2 r k)) (fun k j => WO (ix2 k j)))
          (fun k => G (ix2 0 k)) (fun k => B (ix2 0 k)) j := by
  pointwise [k0_pay50]
  rfl

/-- The last quarter's rows. -/
theorem quarter3 (r : Fin 256) (j : Fin 1024) :
    k0_pay50 (k0_pay3 H) (k0_pay47 Y WB) (k0_pay48 O WA) (k0_pay49 (k0_pay3 H) GA) GB WO X G B (ix2 r j) = quarter O Y GA GB X WA WB WO H G B r j := by
  rw [pay50_apply]
  unfold quarter mixed
  refine congrArg (fun M => norm (resid M _ _) _ _ j) (funext fun k => ?_)
  rw [pay47_apply, pay48_apply, pay49_apply, pay3_apply, pay3_apply]
  rfl

/-- The first quarter's rows. -/
theorem quarter0 (r : Fin 256) (j : Fin 1024) :
    k0_pay6 (k0_pay4 H Y WB O WA GA GB WO) (k0_pay5 X) G B (ix2 r j) = quarter O Y GA GB X WA WB WO H G B r j :=
  quarter3 O Y GA GB X WA WB WO H G B r j

/-- The second quarter's rows. -/
theorem quarter1 (r : Fin 256) (j : Fin 1024) :
    k0_pay20 (k0_pay16 (k0_pay3 H) (k0_pay15 Y) WB O WA GA GB WO X) (k0_pay17 G) (k0_pay18 B) (k0_pay19 (k0_pay3 H) (k0_pay15 Y) WB O WA GA GB WO X) (ix2 r j)
      = quarter O Y GA GB X WA WB WO H G B r j :=
  quarter3 O Y GA GB X WA WB WO H G B r j

/-- The third quarter's rows. -/
theorem quarter2 (r : Fin 256) (j : Fin 1024) :
    k0_pay37 (k0_pay33 G) (k0_pay34 B) (k0_pay35 (k0_pay3 H) (k0_pay30 Y WB) (k0_pay31 O) (k0_pay32 WA) (constant S256x1024 .f32 0x00000000#32) GA GB WO X)
        (k0_pay36 (k0_pay3 H) (k0_pay30 Y WB) (k0_pay31 O) (k0_pay32 WA) (constant S256x1024 .f32 0x00000000#32) GA GB WO X) (ix2 r j)
      = quarter O Y GA GB X WA WB WO H G B r j :=
  quarter3 O Y GA GB X WA WB WO H G B r j

end Cert.Mix

end
-- ==== Proof.Mix.RunIdeal.lean ====
/- The third call's run, over the extended reals: what the body leaves in each output window, its
   triple, the pipeline's data and the run of the whole program. The packed words are stored every fourth row. -/
module

public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import Idealize.ShloMosaic.Lib.Claim

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev r0_0 : Rect S2x1024 := Rect.unit (s := S2x1024) ![0, 0] S2x1024.size inb_S2x1024_S2x1024_0_0
abbrev r0_1 : Rect S1024x1024 := Rect.unit (s := S1024x1024) ![0, 0] S256x1024.size inb_S1024x1024_S256x1024_0_0
abbrev r0_2 : Rect S1024x1024 := Rect.unit (s := S1024x1024) ![0, 0] S1024x1024.size inb_S1024x1024_S1024x1024_0_0
abbrev r0_3 : Rect S1x1024 := Rect.unit (s := S1x1024) ![0, 0] S1x1024.size inb_S1x1024_S1x1024_0_0
abbrev r0_4 : Rect S1024x256 := Rect.unit (s := S1024x256) ![0, 0] S1024x256.size inb_S1024x256_S1024x256_0_0
abbrev r0_5 : Rect S1x128 := Rect.unit (s := S1x128) ![0, 0] S1x128.size inb_S1x128_S1x128_0_0
abbrev r0_6 : Rect S1024x128 := Rect.unit (s := S1024x128) ![0, 0] S256x128.size inb_S1024x128_S256x128_0_0
abbrev r0_7 : Rect S4096x2x128 :=
  ⟨(⟨![0, 0, 0], S256x2x128.size, ![4, 1, 1], inb_S4096x2x128_S256x2x128_0_0_0_s_4_1_1⟩ : LoadRect S4096x2x128), spos_4_1_1⟩
abbrev r0_8 : Rect S4096x2x128 :=
  ⟨(⟨![1, 0, 0], S256x2x128.size, ![4, 1, 1], inb_S4096x2x128_S256x2x128_1_0_0_s_4_1_1⟩ : LoadRect S4096x2x128), spos_4_1_1⟩
abbrev r0_9 : Rect S4096x2x128 :=
  ⟨(⟨![2, 0, 0], S256x2x128.size, ![4, 1, 1], inb_S4096x2x128_S256x2x128_2_0_0_s_4_1_1⟩ : LoadRect S4096x2x128), spos_4_1_1⟩
abbrev r0_10 : Rect S4096x2x128 :=
  ⟨(⟨![3, 0, 0], S256x2x128.size, ![4, 1, 1], inb_S4096x2x128_S256x2x128_3_0_0_s_4_1_1⟩ : LoadRect S4096x2x128), spos_4_1_1⟩
abbrev r0_11 : Rect S1024x1024 := Rect.unit (s := S1024x1024) ![256, 0] S256x1024.size inb_S1024x1024_S256x1024_256_0
abbrev r0_12 : Rect S1024x128 := Rect.unit (s := S1024x128) ![256, 0] S256x128.size inb_S1024x128_S256x128_256_0
abbrev r0_13 : Rect S4096x2x128 :=
  ⟨(⟨![1024, 0, 0], S256x2x128.size, ![4, 1, 1], inb_S4096x2x128_S256x2x128_1024_0_0_s_4_1_1⟩ : LoadRect S4096x2x128), spos_4_1_1⟩
abbrev r0_14 : Rect S4096x2x128 :=
  ⟨(⟨![1025, 0, 0], S256x2x128.size, ![4, 1, 1], inb_S4096x2x128_S256x2x128_1025_0_0_s_4_1_1⟩ : LoadRect S4096x2x128), spos_4_1_1⟩
abbrev r0_15 : Rect S4096x2x128 :=
  ⟨(⟨![1026, 0, 0], S256x2x128.size, ![4, 1, 1], inb_S4096x2x128_S256x2x128_1026_0_0_s_4_1_1⟩ : LoadRect S4096x2x128), spos_4_1_1⟩
abbrev r0_16 : Rect S4096x2x128 :=
  ⟨(⟨![1027, 0, 0], S256x2x128.size, ![4, 1, 1], inb_S4096x2x128_S256x2x128_1027_0_0_s_4_1_1⟩ : LoadRect S4096x2x128), spos_4_1_1⟩
abbrev r0_17 : Rect S1024x1024 := Rect.unit (s := S1024x1024) ![512, 0] S256x1024.size inb_S1024x1024_S256x1024_512_0
abbrev r0_18 : Rect S1024x128 := Rect.unit (s := S1024x128) ![512, 0] S256x128.size inb_S1024x128_S256x128_512_0
abbrev r0_19 : Rect S4096x2x128 :=
  ⟨(⟨![2048, 0, 0], S256x2x128.size, ![4, 1, 1], inb_S4096x2x128_S256x2x128_2048_0_0_s_4_1_1⟩ : LoadRect S4096x2x128), spos_4_1_1⟩
abbrev r0_20 : Rect S4096x2x128 :=
  ⟨(⟨![2049, 0, 0], S256x2x128.size, ![4, 1, 1], inb_S4096x2x128_S256x2x128_2049_0_0_s_4_1_1⟩ : LoadRect S4096x2x128), spos_4_1_1⟩
abbrev r0_21 : Rect S4096x2x128 :=
  ⟨(⟨![2050, 0, 0], S256x2x128.size, ![4, 1, 1], inb_S4096x2x128_S256x2x128_2050_0_0_s_4_1_1⟩ : LoadRect S4096x2x128), spos_4_1_1⟩
abbrev r0_22 : Rect S4096x2x128 :=
  ⟨(⟨![2051, 0, 0], S256x2x128.size, ![4, 1, 1], inb_S4096x2x128_S256x2x128_2051_0_0_s_4_1_1⟩ : LoadRect S4096x2x128), spos_4_1_1⟩
abbrev r0_23 : Rect S1024x1024 := Rect.unit (s := S1024x1024) ![768, 0] S256x1024.size inb_S1024x1024_S256x1024_768_0
abbrev r0_24 : Rect S1024x128 := Rect.unit (s := S1024x128) ![768, 0] S256x128.size inb_S1024x128_S256x128_768_0
abbrev r0_25 : Rect S4096x2x128 :=
  ⟨(⟨![3072, 0, 0], S256x2x128.size, ![4, 1, 1], inb_S4096x2x128_S256x2x128_3072_0_0_s_4_1_1⟩ : LoadRect S4096x2x128), spos_4_1_1⟩
abbrev r0_26 : Rect S4096x2x128 :=
  ⟨(⟨![3073, 0, 0], S256x2x128.size, ![4, 1, 1], inb_S4096x2x128_S256x2x128_3073_0_0_s_4_1_1⟩ : LoadRect S4096x2x128), spos_4_1_1⟩
abbrev r0_27 : Rect S4096x2x128 :=
  ⟨(⟨![3074, 0, 0], S256x2x128.size, ![4, 1, 1], inb_S4096x2x128_S256x2x128_3074_0_0_s_4_1_1⟩ : LoadRect S4096x2x128), spos_4_1_1⟩
abbrev r0_28 : Rect S4096x2x128 :=
  ⟨(⟨![3075, 0, 0], S256x2x128.size, ![4, 1, 1], inb_S4096x2x128_S256x2x128_3075_0_0_s_4_1_1⟩ : LoadRect S4096x2x128), spos_4_1_1⟩

/-! ## What the body leaves in each output window's buffer -/

/-! ### Values of the body that the stores' payloads, spelt out, would write more than once

    Each is a vector the body binds, over the blocks of the input windows. -/

def k0_pay58 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S2x1024 .f32 :=
  k0_pay3 (View.ld x8 r0_0) -- `v1`
def k0_pay59 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay4 (View.ld x8 r0_0) (View.ld x1 r0_1) (View.ld x6 r0_2) (View.ld x0 r0_1) (View.ld x5 r0_2) (View.ld x2 r0_1) (View.ld x3 r0_1) (View.ld x7 r0_2) -- `v32`
def k0_pay60 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay5 (View.ld x4 r0_1) -- `v36`
def k0_pay61 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .bf16 :=
  k0_pay7 (k0_pay59 x0 x1 x2 x3 x4 x5 x6 x7 x8 x9 x10 x11 x12) (k0_pay60 x0 x1 x2 x3 x4 x5 x6 x7 x8 x9 x10 x11 x12) (View.ld x9 r0_3) (View.ld x10 r0_3) -- `v63`
def k0_pay62 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .bf16 :=
  k0_pay15 (View.ld x1 r0_11) -- `v124`
def k0_pay63 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay16 (k0_pay58 x0 x1 x2 x3 x4 x5 x6 x7 x8 x9 x10 x11 x12) (k0_pay62 x0 x1 x2 x3 x4 x5 x6 x7 x8 x9 x10 x11 x12) (View.ld x6 r0_2) (View.ld x0 r0_11) (View.ld x5 r0_2) (View.ld x2 r0_11) (View.ld x3 r0_11) (View.ld x7 r0_2) (View.ld x4 r0_11) -- `v158`
def k0_pay64 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S1x1024 .f32 :=
  k0_pay17 (View.ld x9 r0_3) -- `v160`
def k0_pay65 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S1x1024 .f32 :=
  k0_pay18 (View.ld x10 r0_3) -- `v162`
def k0_pay66 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1 .f32 :=
  k0_pay19 (k0_pay58 x0 x1 x2 x3 x4 x5 x6 x7 x8 x9 x10 x11 x12) (k0_pay62 x0 x1 x2 x3 x4 x5 x6 x7 x8 x9 x10 x11 x12) (View.ld x6 r0_2) (View.ld x0 r0_11) (View.ld x5 r0_2) (View.ld x2 r0_11) (View.ld x3 r0_11) (View.ld x7 r0_2) (View.ld x4 r0_11) -- `v164`
def k0_pay67 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay23 (k0_pay63 x0 x1 x2 x3 x4 x5 x6 x7 x8 x9 x10 x11 x12) (k0_pay64 x0 x1 x2 x3 x4 x5 x6 x7 x8 x9 x10 x11 x12) (k0_pay65 x0 x1 x2 x3 x4 x5 x6 x7 x8 x9 x10 x11 x12) (k0_pay66 x0 x1 x2 x3 x4 x5 x6 x7 x8 x9 x10 x11 x12) -- `v203`
def k0_pay68 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  constant S256x1024 .f32 0x00000000#32 -- `cst_114`
def k0_pay69 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay30 (View.ld x1 r0_17) (View.ld x6 r0_2) -- `v248`
def k0_pay70 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .bf16 :=
  k0_pay31 (View.ld x0 r0_17) -- `v250`
def k0_pay71 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S1024x1024 .bf16 :=
  k0_pay32 (View.ld x5 r0_2) -- `v252`
def k0_pay72 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S1x1024 .f32 :=
  k0_pay33 (View.ld x9 r0_3) -- `v281`
def k0_pay73 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S1x1024 .f32 :=
  k0_pay34 (View.ld x10 r0_3) -- `v283`
def k0_pay74 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay35 (k0_pay58 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12) (k0_pay68 x0 x1 x2 x3 x4 x5 x6 x7 x8 x9 x10 x11 x12) (View.ld x2 r0_17) (View.ld x3 r0_17) (View.ld x7 r0_2) (View.ld x4 r0_17) -- `v289`
def k0_pay75 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1 .f32 :=
  k0_pay36 (k0_pay58 x0 x1 x2 x3 x4 x5 x6 x7 x8 x9 x10 x11 x12) (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12) (k0_pay68 x0 x1 x2 x3 x4 x5 x6 x7 x8 x9 x10 x11 x12) (View.ld x2 r0_17) (View.ld x3 r0_17) (View.ld x7 r0_2) (View.ld x4 r0_17) -- `v294`
def k0_pay76 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay40 (k0_pay72 x0 x1 x2 x3 x4 x5 x6 x7 x8 x9 x10 x11 x12) (k0_pay73 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12) -- `v324`
def k0_pay77 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : FVec F S256x1024 .f32 :=
  k0_pay50 (k0_pay58 x0 x1 x2 x3 x4 x5 x6 x7 x8 x9 x10 x11 x12) (k0_pay47 (View.ld x1 r0_23) (View.ld x6 r0_2)) (k0_pay48 (View.ld x0 r0_23) (View.ld x5 r0_2)) (k0_pay49 (k0_pay58 x0 x1 x2 x3 x4 x5 x6 x7 x8 x9 x10 x11 x12) (View.ld x2 r0_23)) (View.ld x3 r0_23) (View.ld x7 r0_2) (View.ld x4 r0_23) (View.ld x9 r0_3) (View.ld x10 r0_3) -- `v424`

/-- What the body leaves in window 13, the residual rows after the layer norm: its stores, the last first. -/
def out0_13 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : Vec F S1024x1024 .f32 :=
  View.canon [⟨r0_23, k0_pay77 x0 x1 x2 x3 x4 x5 x6 x7 x8 x9 x10 x11 x12⟩,
    ⟨r0_17, k0_pay37 (k0_pay72 x0 x1 x2 x3 x4 x5 x6 x7 x8 x9 x10 x11 x12) (k0_pay73 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12)⟩,
    ⟨r0_11, k0_pay20 (k0_pay63 x0 x1 x2 x3 x4 x5 x6 x7 x8 x9 x10 x11 x12) (k0_pay64 x0 x1 x2 x3 x4 x5 x6 x7 x8 x9 x10 x11 x12) (k0_pay65 x0 x1 x2 x3 x4 x5 x6 x7 x8 x9 x10 x11 x12) (k0_pay66 x0 x1 x2 x3 x4 x5 x6 x7 x8 x9 x10 x11 x12)⟩,
    ⟨r0_1, k0_pay6 (k0_pay59 x0 x1 x2 x3 x4 x5 x6 x7 x8 x9 x10 x11 x12) (k0_pay60 x0 x1 x2 x3 x4 x5 x6 x7 x8 x9 x10 x11 x12) (View.ld x9 r0_3) (View.ld x10 r0_3)⟩]

/-- Its stores tile the buffer, so they cover it. -/
theorem cover0_13 (p0 : Vec F S256x1024 .f32) (p1 : Vec F S256x1024 .f32) (p2 : Vec F S256x1024 .f32) (p3 : Vec F S256x1024 .f32) (y : S1024x1024.Idx) :
    ∃ pc ∈ ([⟨r0_23, p0⟩, ⟨r0_17, p1⟩, ⟨r0_11, p2⟩, ⟨r0_1, p3⟩] : List (View.Piece (Elt F) S1024x1024 .f32)), y ∈ pc.1.set :=
  View.cover_of_tiled [⟨r0_23, p0⟩, ⟨r0_17, p1⟩, ⟨r0_11, p2⟩, ⟨r0_1, p3⟩] S256x1024.size (by rfl) y

/-- What the body leaves in window 14, the packed words: its stores, the last first. -/
def out0_14 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : Vec F S4096x2x128 .bf16 :=
  View.canon [⟨r0_28, k0_pay2 (k0_pay53 (k0_pay77 x0 x1 x2 x3 x4 x5 x6 x7 x8 x9 x10 x11 x12))⟩,
    ⟨r0_27, k0_pay1 (k0_pay56 (k0_pay77 x0 x1 x2 x3 x4 x5 x6 x7 x8 x9 x10 x11 x12)) (k0_pay57 (k0_pay77 x0 x1 x2 x3 x4 x5 x6 x7 x8 x9 x10 x11 x12))⟩,
    ⟨r0_26, k0_pay55 (k0_pay77 x0 x1 x2 x3 x4 x5 x6 x7 x8 x9 x10 x11 x12)⟩,
    ⟨r0_25, k0_pay54 (k0_pay77 x0 x1 x2 x3 x4 x5 x6 x7 x8 x9 x10 x11 x12)⟩,
    ⟨r0_22, k0_pay46 (k0_pay76 x0 x1 x2 x3 x4 x5 x6 x7 x8 x9 x10 x11 x12)⟩,
    ⟨r0_21, k0_pay45 (k0_pay76 x0 x1 x2 x3 x4 x5 x6 x7 x8 x9 x10 x11 x12)⟩,
    ⟨r0_20, k0_pay44 (k0_pay42 (k0_pay72 x0 x1 x2 x3 x4 x5 x6 x7 x8 x9 x10 x11 x12) (k0_pay73 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12)) (k0_pay43 (k0_pay72 x0 x1 x2 x3 x4 x5 x6 x7 x8 x9 x10 x11 x12) (k0_pay73 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12))⟩,
    ⟨r0_19, k0_pay41 (k0_pay72 x0 x1 x2 x3 x4 x5 x6 x7 x8 x9 x10 x11 x12) (k0_pay73 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12)⟩,
    ⟨r0_16, k0_pay29 (k0_pay67 x0 x1 x2 x3 x4 x5 x6 x7 x8 x9 x10 x11 x12)⟩,
    ⟨r0_15, k0_pay28 (k0_pay67 x0 x1 x2 x3 x4 x5 x6 x7 x8 x9 x10 x11 x12)⟩,
    ⟨r0_14, k0_pay27 (k0_pay67 x0 x1 x2 x3 x4 x5 x6 x7 x8 x9 x10 x11 x12)⟩,
    ⟨r0_13, k0_pay26 (k0_pay24 (k0_pay63 x0 x1 x2 x3 x4 x5 x6 x7 x8 x9 x10 x11 x12) (k0_pay64 x0 x1 x2 x3 x4 x5 x6 x7 x8 x9 x10 x11 x12) (k0_pay65 x0 x1 x2 x3 x4 x5 x6 x7 x8 x9 x10 x11 x12) (k0_pay66 x0 x1 x2 x3 x4 x5 x6 x7 x8 x9 x10 x11 x12)) (k0_pay25 (k0_pay63 x0 x1 x2 x3 x4 x5 x6 x7 x8 x9 x10 x11 x12) (k0_pay64 x0 x1 x2 x3 x4 x5 x6 x7 x8 x9 x10 x11 x12) (k0_pay65 x0 x1 x2 x3 x4 x5 x6 x7 x8 x9 x10 x11 x12) (k0_pay66 x0 x1 x2 x3 x4 x5 x6 x7 x8 x9 x10 x11 x12))⟩,
    ⟨r0_10, k0_pay14 (k0_pay61 x0 x1 x2 x3 x4 x5 x6 x7 x8 x9 x10 x11 x12)⟩,
    ⟨r0_9, k0_pay13 (k0_pay61 x0 x1 x2 x3 x4 x5 x6 x7 x8 x9 x10 x11 x12)⟩,
    ⟨r0_8, k0_pay12 (k0_pay61 x0 x1 x2 x3 x4 x5 x6 x7 x8 x9 x10 x11 x12)⟩,
    ⟨r0_7, k0_pay11 (k0_pay61 x0 x1 x2 x3 x4 x5 x6 x7 x8 x9 x10 x11 x12)⟩]

/-- Every fourth row from row `o`, 256 of them, holds the index `y` when `y`'s row is one of them. -/
theorem mem_slab (y : S4096x2x128.Idx) (o : Nat) (r : Rect S4096x2x128) (ho : r.off = ![o, 0, 0]) (hs : r.size = S256x2x128.size)
    (ht : r.stride = ![4, 1, 1]) (hy : ∃ k < 256, (y 0).1 = o + 4 * k) : y ∈ r.set := by
  obtain ⟨⟨off, size, stride, inb⟩, hp⟩ := r
  subst ho hs ht
  refine LoadRect.mem_set _ |>.2 fun a => ?_
  match a with
  | ⟨0, _⟩ => exact hy
  | ⟨1, _⟩ => exact ⟨(y 1).1, (y 1).isLt, by show (y 1).1 = 0 + 1 * (y 1).1; omega⟩
  | ⟨2, _⟩ => exact ⟨(y 2).1, (y 2).isLt, by show (y 2).1 = 0 + 1 * (y 2).1; omega⟩

/-- Its stores, each of every fourth row, meet every row. -/
theorem cover0_14 (p0 : Vec F S256x2x128 .bf16) (p1 : Vec F S256x2x128 .bf16) (p2 : Vec F S256x2x128 .bf16) (p3 : Vec F S256x2x128 .bf16) (p4 : Vec F S256x2x128 .bf16) (p5 : Vec F S256x2x128 .bf16) (p6 : Vec F S256x2x128 .bf16) (p7 : Vec F S256x2x128 .bf16) (p8 : Vec F S256x2x128 .bf16) (p9 : Vec F S256x2x128 .bf16) (p10 : Vec F S256x2x128 .bf16) (p11 : Vec F S256x2x128 .bf16) (p12 : Vec F S256x2x128 .bf16) (p13 : Vec F S256x2x128 .bf16) (p14 : Vec F S256x2x128 .bf16) (p15 : Vec F S256x2x128 .bf16) (y : S4096x2x128.Idx) :
    ∃ pc ∈ ([⟨r0_28, p0⟩, ⟨r0_27, p1⟩, ⟨r0_26, p2⟩, ⟨r0_25, p3⟩, ⟨r0_22, p4⟩, ⟨r0_21, p5⟩, ⟨r0_20, p6⟩, ⟨r0_19, p7⟩, ⟨r0_16, p8⟩, ⟨r0_15, p9⟩, ⟨r0_14, p10⟩, ⟨r0_13, p11⟩, ⟨r0_10, p12⟩, ⟨r0_9, p13⟩, ⟨r0_8, p14⟩, ⟨r0_7, p15⟩] : List (View.Piece (Elt F) S4096x2x128 .bf16)), y ∈ pc.1.set := by
  have h0 : (y 0).1 < 4096 := (y 0).isLt
  have hb : (y 0).1 / 1024 = 3 ∨ (y 0).1 / 1024 = 2 ∨ (y 0).1 / 1024 = 1 ∨ (y 0).1 / 1024 = 0 := by omega
  have hq : (y 0).1 % 4 = 3 ∨ (y 0).1 % 4 = 2 ∨ (y 0).1 % 4 = 1 ∨ (y 0).1 % 4 = 0 := by omega
  rcases hb with hb | hb | hb | hb <;> rcases hq with hq | hq | hq | hq
  · refine ⟨⟨r0_28, p0⟩, .head _, ?_⟩
    exact mem_slab y 3075 r0_28 rfl rfl rfl ⟨((y 0).1 - 3075) / 4, by omega, by omega⟩
  · refine ⟨⟨r0_27, p1⟩, .tail _ (.head _), ?_⟩
    exact mem_slab y 3074 r0_27 rfl rfl rfl ⟨((y 0).1 - 3074) / 4, by omega, by omega⟩
  · refine ⟨⟨r0_26, p2⟩, .tail _ (.tail _ (.head _)), ?_⟩
    exact mem_slab y 3073 r0_26 rfl rfl rfl ⟨((y 0).1 - 3073) / 4, by omega, by omega⟩
  · refine ⟨⟨r0_25, p3⟩, .tail _ (.tail _ (.tail _ (.head _))), ?_⟩
    exact mem_slab y 3072 r0_25 rfl rfl rfl ⟨((y 0).1 - 3072) / 4, by omega, by omega⟩
  · refine ⟨⟨r0_22, p4⟩, .tail _ (.tail _ (.tail _ (.tail _ (.head _)))), ?_⟩
    exact mem_slab y 2051 r0_22 rfl rfl rfl ⟨((y 0).1 - 2051) / 4, by omega, by omega⟩
  · refine ⟨⟨r0_21, p5⟩, .tail _ (.tail _ (.tail _ (.tail _ (.tail _ (.head _))))), ?_⟩
    exact mem_slab y 2050 r0_21 rfl rfl rfl ⟨((y 0).1 - 2050) / 4, by omega, by omega⟩
  · refine ⟨⟨r0_20, p6⟩, .tail _ (.tail _ (.tail _ (.tail _ (.tail _ (.tail _ (.head _)))))), ?_⟩
    exact mem_slab y 2049 r0_20 rfl rfl rfl ⟨((y 0).1 - 2049) / 4, by omega, by omega⟩
  · refine ⟨⟨r0_19, p7⟩, .tail _ (.tail _ (.tail _ (.tail _ (.tail _ (.tail _ (.tail _ (.head _))))))), ?_⟩
    exact mem_slab y 2048 r0_19 rfl rfl rfl ⟨((y 0).1 - 2048) / 4, by omega, by omega⟩
  · refine ⟨⟨r0_16, p8⟩, .tail _ (.tail _ (.tail _ (.tail _ (.tail _ (.tail _ (.tail _ (.tail _ (.head _)))))))), ?_⟩
    exact mem_slab y 1027 r0_16 rfl rfl rfl ⟨((y 0).1 - 1027) / 4, by omega, by omega⟩
  · refine ⟨⟨r0_15, p9⟩, .tail _ (.tail _ (.tail _ (.tail _ (.tail _ (.tail _ (.tail _ (.tail _ (.tail _ (.head _))))))))), ?_⟩
    exact mem_slab y 1026 r0_15 rfl rfl rfl ⟨((y 0).1 - 1026) / 4, by omega, by omega⟩
  · refine ⟨⟨r0_14, p10⟩, .tail _ (.tail _ (.tail _ (.tail _ (.tail _ (.tail _ (.tail _ (.tail _ (.tail _ (.tail _ (.head _)))))))))), ?_⟩
    exact mem_slab y 1025 r0_14 rfl rfl rfl ⟨((y 0).1 - 1025) / 4, by omega, by omega⟩
  · refine ⟨⟨r0_13, p11⟩, .tail _ (.tail _ (.tail _ (.tail _ (.tail _ (.tail _ (.tail _ (.tail _ (.tail _ (.tail _ (.tail _ (.head _))))))))))), ?_⟩
    exact mem_slab y 1024 r0_13 rfl rfl rfl ⟨((y 0).1 - 1024) / 4, by omega, by omega⟩
  · refine ⟨⟨r0_10, p12⟩, .tail _ (.tail _ (.tail _ (.tail _ (.tail _ (.tail _ (.tail _ (.tail _ (.tail _ (.tail _ (.tail _ (.tail _ (.head _)))))))))))), ?_⟩
    exact mem_slab y 3 r0_10 rfl rfl rfl ⟨((y 0).1 - 3) / 4, by omega, by omega⟩
  · refine ⟨⟨r0_9, p13⟩, .tail _ (.tail _ (.tail _ (.tail _ (.tail _ (.tail _ (.tail _ (.tail _ (.tail _ (.tail _ (.tail _ (.tail _ (.tail _ (.head _))))))))))))), ?_⟩
    exact mem_slab y 2 r0_9 rfl rfl rfl ⟨((y 0).1 - 2) / 4, by omega, by omega⟩
  · refine ⟨⟨r0_8, p14⟩, .tail _ (.tail _ (.tail _ (.tail _ (.tail _ (.tail _ (.tail _ (.tail _ (.tail _ (.tail _ (.tail _ (.tail _ (.tail _ (.tail _ (.head _)))))))))))))), ?_⟩
    exact mem_slab y 1 r0_8 rfl rfl rfl ⟨((y 0).1 - 1) / 4, by omega, by omega⟩
  · refine ⟨⟨r0_7, p15⟩, .tail _ (.tail _ (.tail _ (.tail _ (.tail _ (.tail _ (.tail _ (.tail _ (.tail _ (.tail _ (.tail _ (.tail _ (.tail _ (.tail _ (.tail _ (.head _))))))))))))))), ?_⟩
    exact mem_slab y 0 r0_7 rfl rfl rfl ⟨((y 0).1 - 0) / 4, by omega, by omega⟩

/-- What the body leaves in window 15, the router logits: its stores, the last first. -/
def out0_15 (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) : Vec F S1024x128 .f32 :=
  View.canon [⟨r0_24, k0_pay52 (k0_pay77 x0 x1 x2 x3 x4 x5 x6 x7 x8 x9 x10 x11 x12) (View.ld x11 r0_4) (View.ld x11 r0_4) (View.ld x12 r0_5)⟩,
    ⟨r0_18, k0_pay39 (k0_pay72 x0 x1 x2 x3 x4 x5 x6 x7 x8 x9 x10 x11 x12) (k0_pay73 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12) (View.ld x11 r0_4) (View.ld x11 r0_4) (View.ld x12 r0_5)⟩,
    ⟨r0_12, k0_pay22 (k0_pay63 x0 x1 x2 x3 x4 x5 x6 x7 x8 x9 x10 x11 x12) (k0_pay64 x0 x1 x2 x3 x4 x5 x6 x7 x8 x9 x10 x11 x12) (k0_pay65 x0 x1 x2 x3 x4 x5 x6 x7 x8 x9 x10 x11 x12) (k0_pay66 x0 x1 x2 x3 x4 x5 x6 x7 x8 x9 x10 x11 x12) (View.ld x11 r0_4) (View.ld x11 r0_4) (View.ld x12 r0_5)⟩,
    ⟨r0_6, k0_pay9 (k0_pay8 (k0_pay59 x0 x1 x2 x3 x4 x5 x6 x7 x8 x9 x10 x11 x12) (k0_pay60 x0 x1 x2 x3 x4 x5 x6 x7 x8 x9 x10 x11 x12) (View.ld x9 r0_3) (View.ld x10 r0_3) (View.ld x11 r0_4) (View.ld x11 r0_4)) (View.ld x12 r0_5)⟩]

/-- Its stores tile the buffer, so they cover it. -/
theorem cover0_15 (p0 : Vec F S256x128 .f32) (p1 : Vec F S256x128 .f32) (p2 : Vec F S256x128 .f32) (p3 : Vec F S256x128 .f32) (y : S1024x128.Idx) :
    ∃ pc ∈ ([⟨r0_24, p0⟩, ⟨r0_18, p1⟩, ⟨r0_12, p2⟩, ⟨r0_6, p3⟩] : List (View.Piece (Elt F) S1024x128 .f32)), y ∈ pc.1.set :=
  View.cover_of_tiled [⟨r0_24, p0⟩, ⟨r0_18, p1⟩, ⟨r0_12, p2⟩, ⟨r0_6, p3⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x256 .bf16) (harg12 : arg12.IsWhole) (arg13 : Memref sig .tc .vmem S1x128 .f32) (harg13 : arg13.IsWhole) (arg14 : Memref sig .tc .vmem S1024x1024 .f32) (harg14 : arg14.IsWhole) (arg15 : Memref sig .tc .vmem S4096x2x128 .bf16) (harg15 : arg15.IsWhole) (arg16 : Memref sig .tc .vmem S1024x128 .f32) (harg16 : arg16.IsWhole)
    (x0 : Vec F S1024x1024 .bf16) (x1 : Vec F S1024x1024 .bf16) (x2 : Vec F S1024x1024 .bf16) (x3 : Vec F S1024x1024 .bf16) (x4 : Vec F S1024x1024 .f32) (x5 : Vec F S1024x1024 .bf16) (x6 : Vec F S1024x1024 .bf16) (x7 : Vec F S1024x1024 .bf16) (x8 : Vec F S2x1024 .f32) (x9 : Vec F S1x1024 .f32) (x10 : Vec F S1x1024 .f32) (x11 : Vec F S1024x256 .bf16) (x12 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12)) -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mix_eq_skeleton]; unfold cc0_mix_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _ _ _ _ _ _ _ _ _ _ _ _ _ _ _ _)).trans ?_
    rfl
  iexists _; isplitr
  swap; · iexact H15
  ipureintro
  refine (View.read_writes_eq_canon _ _ _ (cover0_15 _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 16, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The run ends with every argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel3Ideal.Run

end
-- ==== Proof.Mix.Host.lean ====
/- What the host prepares for the kernel, read at an index, and the block of it each tile reads. -/
module

public import proofs.«01_k».proof.Proof.Mix.Spec
public import proofs.«01_k».proof.Proof.Mix.RunIdeal
public import Idealize.ShloMosaic.Lib.StableHlo.ReadAt
public import Idealize.ShloMosaic.Lib.Pipeline.ValueKit.Point
public import Idealize.ShloMosaic.Lib.KernelVsHost

@[expose] public section

set_option maxRecDepth 16384

noncomputable section

namespace Cert.Mix

open Idealize.ShloMosaic Idealize.ShloMosaic.TcCoe Idealize.ShloMosaic.Tactic Cert.Kernel3Ideal Cert.Kernel3Ideal.Gen
open scoped BigOperators

variable (mm : (ℓ : Loc nD τ sig) → Buf (Elt Ideal) ℓ) (c : Dev nD)

/-- The kernel's argument 0, on the core `c`. -/
abbrev karg0 : S16x2048x1024.Idx → EReal := mm (c, Proc.tc.devRef main_arg0)
/-- The kernel's argument 1, on the core `c`. -/
abbrev karg1 : S16x2048x1024.Idx → EReal := mm (c, Proc.tc.devRef main_arg1)
/-- The kernel's argument 2, on the core `c`. -/
abbrev karg2 : S16x2048x1024.Idx → EReal := mm (c, Proc.tc.devRef main_arg2)
/-- The kernel's argument 3, on the core `c`. -/
abbrev karg3 : S16x2048x1024.Idx → EReal := mm (c, Proc.tc.devRef main_arg3)
/-- The kernel's argument 4, on the core `c`. -/
abbrev karg4 : S16x2048x1024.Idx → EReal := mm (c, Proc.tc.devRef main_arg4)
/-- The kernel's argument 5, on the core `c`. -/
abbrev karg5 : S1x1024x1024.Idx → EReal := mm (c, Proc.tc.devRef main_arg5)
/-- The kernel's argument 6, on the core `c`. -/
abbrev karg6 : S1x1024x1024.Idx → EReal := mm (c, Proc.tc.devRef main_arg6)
/-- The kernel's argument 7, on the core `c`. -/
abbrev karg7 : S1x1024x1024.Idx → EReal := mm (c, Proc.tc.devRef main_arg7)
/-- The kernel's argument 8, on the core `c`. -/
abbrev karg8 : S1x2x1024.Idx → EReal := mm (c, Proc.tc.devRef main_arg8)
/-- The kernel's argument 9, on the core `c`. -/
abbrev karg9 : S1x1024.Idx → EReal := mm (c, Proc.tc.devRef main_arg9)
/-- The kernel's argument 10, on the core `c`. -/
abbrev karg10 : S1x1024.Idx → EReal := mm (c, Proc.tc.devRef main_arg10)

/-- The first product's rows. -/
theorem host_o (R : Fin 32768) (j : Fin 1024) : (V mm c main_v1 : S32768x1024.Idx → EReal) (ix2 R j) =
    karg0 mm c (ix3 ⟨R.val / 2048, by omega⟩ ⟨R.val % 2048, by omega⟩ j) := by
  unfold V
  after_reads_at
/-- The second product's rows, past 2048 columns of zeros. -/
theorem host_y (R : Fin 32768) (j : Fin 1024) : (V mm c main_v5 : S32768x5120.Idx → EReal) (ix2 R ⟨2 * 1024 + j.val, by omega⟩) =
    karg1 mm c (ix3 ⟨R.val / 2048, by omega⟩ ⟨R.val % 2048, by omega⟩ j) := by
  have hj := j.isLt
  unfold V
  after_reads_at
  rw [dif_pos (by omega)]
  exact congrFun (StableHlo.upto_unwritten (ops := [hostOps0, hostOps0_1, hostOps0_2, hostOps0_3, hostOps0_4].flatten) (n := 2) [main_v0, main_v1]
    (r := main_arg1) rfl (by decide) fun b => mm (c, b)) _
/-- The first gate's rows, after them. -/
theorem host_ga (R : Fin 32768) (j : Fin 1024) : (V mm c main_v5 : S32768x5120.Idx → EReal) (ix2 R ⟨3 * 1024 + j.val, by omega⟩) =
    karg2 mm c (ix3 ⟨R.val / 2048, by omega⟩ ⟨R.val % 2048, by omega⟩ j) := by
  have hj := j.isLt
  unfold V
  after_reads_at
  rw [dif_pos (by omega)]
  rw [dif_neg (by omega), dif_pos (by omega)]
  refine (congrFun (StableHlo.upto_unwritten (ops := [hostOps0, hostOps0_1, hostOps0_2, hostOps0_3, hostOps0_4].flatten) (n := 2) [main_v0, main_v1]
    (r := main_arg2) rfl (by decide) fun b => mm (c, b)) _).trans (congrArg _ (congrArg (ix3 _ _) (Fin.ext ?_)))
  show 3072 + j.val - 2048 - 1024 = j.val
  omega
/-- The second gate's rows, after those. -/
theorem host_gb (R : Fin 32768) (j : Fin 1024) : (V mm c main_v5 : S32768x5120.Idx → EReal) (ix2 R ⟨4 * 1024 + j.val, by omega⟩) =
    karg3 mm c (ix3 ⟨R.val / 2048, by omega⟩ ⟨R.val % 2048, by omega⟩ j) := by
  have hj := j.isLt
  unfold V
  after_reads_at
  rw [dif_pos (by omega)]
  rw [dif_neg (by omega), dif_neg (by omega)]
  refine (congrFun (StableHlo.upto_unwritten (ops := [hostOps0, hostOps0_1, hostOps0_2, hostOps0_3, hostOps0_4].flatten) (n := 2) [main_v0, main_v1]
    (r := main_arg3) rfl (by decide) fun b => mm (c, b)) _).trans (congrArg _ (congrArg (ix3 _ _) (Fin.ext ?_)))
  show 4096 + j.val - 2048 - 1024 - 1024 = j.val
  omega
/-- The residual's rows. -/
theorem host_x (R : Fin 32768) (j : Fin 1024) : (V mm c main_v25 : S32768x1024.Idx → EReal) (ix2 R j) = karg4 mm c (ix3 ⟨R.val / 2048, by omega⟩ ⟨R.val % 2048, by omega⟩ j) := by
  unfold V
  after_reads_at
/-- The first product's weights. -/
theorem host_wa (k j : Fin 1024) : (V mm c main_v27 : S1024x1024.Idx → EReal) (ix2 k j) = karg5 mm c (ix3 0 k j) := by
  unfold V
  after_reads_at
/-- The second product's weights. -/
theorem host_wb (k j : Fin 1024) : (V mm c main_v29 : S1024x1024.Idx → EReal) (ix2 k j) = karg6 mm c (ix3 0 k j) := by
  unfold V
  after_reads_at
/-- The output weights. -/
theorem host_wo (k j : Fin 1024) : (V mm c main_v31 : S1024x1024.Idx → EReal) (ix2 k j) = karg7 mm c (ix3 0 k j) := by
  unfold V
  after_reads_at
/-- The gates' biases. -/
theorem host_h (a : Fin 2) (j : Fin 1024) : (V mm c main_v32 : S2x1024.Idx → EReal) (ix2 a j) = karg8 mm c (ix3 0 a j) := by
  unfold V
  after_reads_at
/-- The gain's row. -/
theorem host_g (r : Fin 1) (j : Fin 1024) : (V mm c main_v34 : S1x1024.Idx → EReal) (ix2 r j) = karg9 mm c (ix2 0 j) := by
  unfold V
  after_reads_at
/-- The bias's row. -/
theorem host_b (r : Fin 1) (j : Fin 1024) : (V mm c main_v36 : S1x1024.Idx → EReal) (ix2 r j) = karg10 mm c (ix2 0 j) := by
  unfold V
  after_reads_at

/-- The blocks' places, at every grid point. -/
theorem places : ∀ t : Fin cfg0.N, win0_0.index t = ![t.val, 0] ∧ win0_1.index t = ![t.val, 2] ∧ win0_2.index t = ![t.val, 3] ∧ win0_3.index t = ![t.val, 4] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_13.index t = ![t.val, 0] :=
  (by decide +kernel : ∀ t : Fin grid0.N, win0_0.index t = ![t.val, 0] ∧ win0_1.index t = ![t.val, 2] ∧ win0_2.index t = ![t.val, 3] ∧ win0_3.index t = ![t.val, 4] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_13.index t = ![t.val, 0])

/-- The element of window 0's block. -/
theorem iblk0 (t : Fin cfg0.N) (r j : Fin 1024) : iblk mm c 0 t (ix2 r j) = V mm c main_v1 (ix2 ⟨t.val * 1024 + r.val, by have : t.val < 32 := t.isLt; omega⟩ j) := by
  have p := places t
  blk_ext [iblk, p.1]
/-- The element of window 1's block. -/
theorem iblk1 (t : Fin cfg0.N) (r j : Fin 1024) : iblk mm c 1 t (ix2 r j) = V mm c main_v5 (ix2 ⟨t.val * 1024 + r.val, by have : t.val < 32 := t.isLt; omega⟩ ⟨2 * 1024 + j.val, by omega⟩) := by
  have p := places t
  blk_ext [iblk, p.2.1]
/-- The element of window 2's block. -/
theorem iblk2 (t : Fin cfg0.N) (r j : Fin 1024) : iblk mm c 2 t (ix2 r j) = V mm c main_v5 (ix2 ⟨t.val * 1024 + r.val, by have : t.val < 32 := t.isLt; omega⟩ ⟨3 * 1024 + j.val, by omega⟩) := by
  have p := places t
  blk_ext [iblk, p.2.2.1]
/-- The element of window 3's block. -/
theorem iblk3 (t : Fin cfg0.N) (r j : Fin 1024) : iblk mm c 3 t (ix2 r j) = V mm c main_v5 (ix2 ⟨t.val * 1024 + r.val, by have : t.val < 32 := t.isLt; omega⟩ ⟨4 * 1024 + j.val, by omega⟩) := by
  have p := places t
  blk_ext [iblk, p.2.2.2.1]
/-- The element of window 4's block. -/
theorem iblk4 (t : Fin cfg0.N) (r j : Fin 1024) : iblk mm c 4 t (ix2 r j) = V mm c main_v25 (ix2 ⟨t.val * 1024 + r.val, by have : t.val < 32 := t.isLt; omega⟩ j) := by
  have p := places t
  blk_ext [iblk, p.2.2.2.2.1]
/-- The element of window 5's block. -/
theorem iblk5 (t : Fin cfg0.N) (r : Fin 1024) (j : Fin 1024) : iblk mm c 5 t (ix2 r j) = V mm c main_v27 (ix2 r j) := by
  have p := places t
  blk_ext [iblk, p.2.2.2.2.2.1]
/-- The element of window 6's block. -/
theorem iblk6 (t : Fin cfg0.N) (r : Fin 1024) (j : Fin 1024) : iblk mm c 6 t (ix2 r j) = V mm c main_v29 (ix2 r j) := by
  have p := places t
  blk_ext [iblk, p.2.2.2.2.2.2.1]
/-- The element of window 7's block. -/
theorem iblk7 (t : Fin cfg0.N) (r : Fin 1024) (j : Fin 1024) : iblk mm c 7 t (ix2 r j) = V mm c main_v31 (ix2 r j) := by
  have p := places t
  blk_ext [iblk, p.2.2.2.2.2.2.2.1]
/-- The element of window 8's block. -/
theorem iblk8 (t : Fin cfg0.N) (r : Fin 2) (j : Fin 1024) : iblk mm c 8 t (ix2 r j) = V mm c main_v32 (ix2 r j) := by
  have p := places t
  blk_ext [iblk, p.2.2.2.2.2.2.2.2.1]
/-- The element of window 9's block. -/
theorem iblk9 (t : Fin cfg0.N) (r : Fin 1) (j : Fin 1024) : iblk mm c 9 t (ix2 r j) = V mm c main_v34 (ix2 r j) := by
  have p := places t
  blk_ext [iblk, p.2.2.2.2.2.2.2.2.2.1]
/-- The element of window 10's block. -/
theorem iblk10 (t : Fin cfg0.N) (r : Fin 1) (j : Fin 1024) : iblk mm c 10 t (ix2 r j) = V mm c main_v36 (ix2 r j) := by
  have p := places t
  blk_ext [iblk, p.2.2.2.2.2.2.2.2.2.2.1]

/-- The blocks a tile reads hold this, of the arguments. -/
structure Blocks (o y ga gb x : S16x2048x1024.Idx → EReal) (wa wb wo : S1x1024x1024.Idx → EReal) (h : S1x2x1024.Idx → EReal) (g b : S1x1024.Idx → EReal) (T : ℕ)
    (x0 x1 x2 x3 : Vec Ideal S1024x1024 .bf16) (x4 : Vec Ideal S1024x1024 .f32) (x5 x6 x7 : Vec Ideal S1024x1024 .bf16) (x8 : Vec Ideal S2x1024 .f32)
    (x9 x10 : Vec Ideal S1x1024 .f32) : Prop where
  /-- The first product's rows of the tile. -/
  h0 : ∀ r j, x0 (ix2 r j) = row o (T * 1024 + r.val) j
  /-- The second product's rows. -/
  h1 : ∀ r j, x1 (ix2 r j) = row y (T * 1024 + r.val) j
  /-- The first gate's rows. -/
  h2 : ∀ r j, x2 (ix2 r j) = row ga (T * 1024 + r.val) j
  /-- The second gate's rows. -/
  h3 : ∀ r j, x3 (ix2 r j) = row gb (T * 1024 + r.val) j
  /-- The residual's rows. -/
  h4 : ∀ r j, x4 (ix2 r j) = row x (T * 1024 + r.val) j
  /-- The first product's weights. -/
  h5 : ∀ k j, x5 (ix2 k j) = wa (ix3 0 k j)
  /-- The second product's weights. -/
  h6 : ∀ k j, x6 (ix2 k j) = wb (ix3 0 k j)
  /-- The output weights. -/
  h7 : ∀ k j, x7 (ix2 k j) = wo (ix3 0 k j)
  /-- The gates' biases. -/
  h8 : ∀ a j, x8 (ix2 a j) = h (ix3 0 a j)
  /-- The gain. -/
  h9 : ∀ j, x9 (ix2 0 j) = g (ix2 0 j)
  /-- The bias. -/
  h10 : ∀ j, x10 (ix2 0 j) = b (ix2 0 j)

/-- A row read at its sequence and its position. -/
theorem row_at (z : S16x2048x1024.Idx → EReal) (t : Fin cfg0.N) (r j : Fin 1024) :
    z (ix3 ⟨(t.val * 1024 + r.val) / 2048, by have : t.val < 32 := t.isLt; omega⟩ ⟨(t.val * 1024 + r.val) % 2048, by omega⟩ j)
      = row z (t.val * 1024 + r.val) j := by
  have ht : t.val < 32 := t.isLt
  unfold row
  congr 2
  exact Fin.ext (show (t.val * 1024 + r.val) / 2048 = (t.val * 1024 + r.val) / 2048 % 16 by omega)

/-- The blocks a grid point reads hold it. -/
theorem blocks (t : Fin cfg0.N) : Blocks (karg0 mm c) (karg1 mm c) (karg2 mm c) (karg3 mm c) (karg4 mm c) (karg5 mm c) (karg6 mm c) (karg7 mm c)
    (karg8 mm c) (karg9 mm c) (karg10 mm c) t.val (iblk mm c 0 t) (iblk mm c 1 t) (iblk mm c 2 t) (iblk mm c 3 t) (iblk mm c 4 t) (iblk mm c 5 t)
    (iblk mm c 6 t) (iblk mm c 7 t) (iblk mm c 8 t) (iblk mm c 9 t) (iblk mm c 10 t) where
  h0 r j := (iblk0 mm c t r j).trans ((host_o mm c _ j).trans (row_at _ t r j))
  h1 r j := (iblk1 mm c t r j).trans ((host_y mm c _ j).trans (row_at _ t r j))
  h2 r j := (iblk2 mm c t r j).trans ((host_ga mm c _ j).trans (row_at _ t r j))
  h3 r j := (iblk3 mm c t r j).trans ((host_gb mm c _ j).trans (row_at _ t r j))
  h4 r j := (iblk4 mm c t r j).trans ((host_x mm c _ j).trans (row_at _ t r j))
  h5 k j := (iblk5 mm c t k j).trans (host_wa mm c k j)
  h6 k j := (iblk6 mm c t k j).trans (host_wb mm c k j)
  h7 k j := (iblk7 mm c t k j).trans (host_wo mm c k j)
  h8 a j := (iblk8 mm c t a j).trans (host_h mm c a j)
  h9 j := (iblk9 mm c t 0 j).trans (host_g mm c 0 j)
  h10 j := (iblk10 mm c t 0 j).trans (host_b mm c 0 j)

end Cert.Mix

end
-- ==== Proof.Mix.Arr.lean ====
/- The result after the launch: every tile's rows are the specification's, and so is the array. -/
module

public import proofs.«01_k».proof.Proof.Mix.Tile
public import proofs.«01_k».proof.Proof.Mix.Host

@[expose] public section

set_option maxRecDepth 16384

noncomputable section

namespace Cert.Mix

open Idealize.ShloMosaic Idealize.ShloMosaic.TcCoe Idealize.ShloMosaic.Tactic Idealize.SL.Sem Cert.Kernel3Ideal Cert.Kernel3Ideal.Gen Cert.Kernel3Ideal.Run
open scoped BigOperators

/-- A piece at given offsets holds a function of the two positions when its contents are the function at the positions past the offsets. -/
theorem agrees {N M o p h w : ℕ} {inb : ∀ a, (![o, p] : Fin 2 → ℕ) a + (![h, w] : Fin 2 → ℕ) a ≤ (⟨2, ![N, M]⟩ : Shape).size a}
    (P : (⟨2, ![h, w]⟩ : Shape).Idx → EReal) (G : ℕ → ℕ → EReal) (hP : ∀ (r : Fin h) (j : Fin w), P (ix2 r j) = G (o + r.val) (p + j.val))
    (x : (Rect.unit (s := ⟨2, ![N, M]⟩) ![o, p] ![h, w] inb).shape.Idx) :
    P x = G ((Rect.unit (s := ⟨2, ![N, M]⟩) ![o, p] ![h, w] inb).emb x 0).val ((Rect.unit (s := ⟨2, ![N, M]⟩) ![o, p] ![h, w] inb).emb x 1).val := by
  have v0 : ((Rect.unit (s := ⟨2, ![N, M]⟩) ![o, p] ![h, w] inb).emb x 0).val = o + (x 0).val := Rect.idx_unit_val _ _ inb x 0
  have v1 : ((Rect.unit (s := ⟨2, ![N, M]⟩) ![o, p] ![h, w] inb).emb x 1).val = p + (x 1).val := Rect.idx_unit_val _ _ inb x 1
  rw [v0, v1]
  refine Eq.trans (congrArg P ?_) (hP ⟨(x 0).val, (x 0).isLt⟩ ⟨(x 1).val, (x 1).isLt⟩)
  funext a
  match a with
  | 0 => rfl
  | 1 => rfl

/-- An index lies in a piece when its positions do. -/
theorem inside {N M o p h w : ℕ} {inb : ∀ a, (![o, p] : Fin 2 → ℕ) a + (![h, w] : Fin 2 → ℕ) a ≤ (⟨2, ![N, M]⟩ : Shape).size a}
    (y : (⟨2, ![N, M]⟩ : Shape).Idx) (h0 : o ≤ (y 0).val ∧ (y 0).val < o + h) (h1 : p ≤ (y 1).val ∧ (y 1).val < p + w) :
    y ∈ (Rect.unit (s := ⟨2, ![N, M]⟩) ![o, p] ![h, w] inb).set := by
  refine (Rect.mem_set_unit (inb := inb)).2 fun a => ?_
  match a with
  | 0 => exact h0
  | 1 => exact h1

/-- An index of a piece, past its offsets. -/
theorem at_unit {N M o p h w : ℕ} (inb : ∀ a, (![o, p] : Fin 2 → ℕ) a + (![h, w] : Fin 2 → ℕ) a ≤ (⟨2, ![N, M]⟩ : Shape).size a)
    (r : Fin h) (j : Fin w) (R : Fin N) (J : Fin M) (hR : R.val = o + r.val) (hJ : J.val = p + j.val) :
    (Rect.unit (s := ⟨2, ![N, M]⟩) ![o, p] ![h, w] inb).idx (ix2 r j) = ix2 R J := by
  have v0 : ((Rect.unit (s := ⟨2, ![N, M]⟩) ![o, p] ![h, w] inb).idx (ix2 r j) 0).val = o + r.val :=
    Rect.idx_unit_val (s := ⟨2, ![N, M]⟩) ![o, p] ![h, w] inb (ix2 r j) 0
  have v1 : ((Rect.unit (s := ⟨2, ![N, M]⟩) ![o, p] ![h, w] inb).idx (ix2 r j) 1).val = p + j.val :=
    Rect.idx_unit_val (s := ⟨2, ![N, M]⟩) ![o, p] ![h, w] inb (ix2 r j) 1
  funext a
  match a with
  | 0 => exact Fin.ext (v0.trans hR.symm)
  | 1 => exact Fin.ext (v1.trans hJ.symm)

variable {o y ga gb x : S16x2048x1024.Idx → EReal} {wa wb wo : S1x1024x1024.Idx → EReal} {h : S1x2x1024.Idx → EReal} {g b : S1x1024.Idx → EReal}

variable (o y ga gb x wa wb wo h g b) in
/-- The block of a tile. -/
def blk (T : ℕ) : Vec Ideal S1024x1024 .f32 := fun z => outAt o y ga gb x wa wb wo h g b (T * 1024 + (z 0).val) (cix (z 1).val)

/-- The row of the result of equal rows is equal. -/
theorem mixed_congr {A A' B B' P P' Q Q' X X' : Fin 1024 → EReal} {WA WA' WB WB' WO WO' : Fin 1024 → Fin 1024 → EReal} {H H' : Fin 2 → Fin 1024 → EReal}
    {G G' C C' : Fin 1024 → EReal} (e0 : A = A') (e1 : B = B') (e2 : P = P') (e3 : Q = Q') (e4 : X = X') (e5 : WA = WA') (e6 : WB = WB')
    (e7 : WO = WO') (e8 : H = H') (e9 : G = G') (e10 : C = C') (j : Fin 1024) :
    mixed A B P Q X WA WB WO H G C j = mixed A' B' P' Q' X' WA' WB' WO' H' G' C' j := by
  subst e0 e1 e2 e3 e4 e5 e6 e7 e8 e9 e10
  rfl

section Tile
variable {T : ℕ} {x0 x1 x2 x3 : Vec Ideal S1024x1024 .bf16} {x4 : Vec Ideal S1024x1024 .f32} {x5 x6 x7 : Vec Ideal S1024x1024 .bf16}
variable {x8 : Vec Ideal S2x1024 .f32} {x9 x10 : Vec Ideal S1x1024 .f32}

/-- A quarter's row, of the blocks its tile reads: the specification's. -/
theorem quarter_at (K : Blocks o y ga gb x wa wb wo h g b T x0 x1 x2 x3 x4 x5 x6 x7 x8 x9 x10) (p : ℕ)
    (inb : ∀ a, (![p, 0] : Fin 2 → ℕ) a + S256x1024.size a ≤ S1024x1024.size a) (r : Fin 256) (j : Fin 1024) :
    quarter (View.ld x0 (Rect.unit ![p, 0] S256x1024.size inb)) (View.ld x1 (Rect.unit ![p, 0] S256x1024.size inb))
      (View.ld x2 (Rect.unit ![p, 0] S256x1024.size inb)) (View.ld x3 (Rect.unit ![p, 0] S256x1024.size inb))
      (View.ld x4 (Rect.unit ![p, 0] S256x1024.size inb)) (View.ld x5 r0_2) (View.ld x6 r0_2) (View.ld x7 r0_2) (View.ld x8 r0_0) (View.ld x9 r0_3)
      (View.ld x10 r0_3) r j = outAt o y ga gb x wa wb wo h g b (T * 1024 + (p + r.val)) (cix (0 + j.val)) := by
  have hp : p + 256 ≤ 1024 := inb 0
  have R : ∀ k : Fin 1024, (Rect.unit (s := S1024x1024) ![p, 0] S256x1024.size inb).idx (ix2 r k) = ix2 ⟨p + r.val, by omega⟩ k := fun k =>
    at_unit inb r k ⟨p + r.val, by omega⟩ k rfl (Nat.zero_add _).symm
  have W : ∀ k j : Fin 1024, (r0_2).idx (ix2 k j) = ix2 k j := fun k j =>
    at_unit inb_S1024x1024_S1024x1024_0_0 k j k j (Nat.zero_add _).symm (Nat.zero_add _).symm
  have U : ∀ (a : Fin 2) (j : Fin 1024), (r0_0).idx (ix2 a j) = ix2 a j := fun a j =>
    at_unit inb_S2x1024_S2x1024_0_0 a j a j (Nat.zero_add _).symm (Nat.zero_add _).symm
  have Z : ∀ j : Fin 1024, (r0_3).idx (ix2 0 j) = ix2 0 j := fun j =>
    at_unit inb_S1x1024_S1x1024_0_0 0 j 0 j (Nat.zero_add _).symm (Nat.zero_add _).symm
  have c : cix (0 + j.val) = j := Fin.ext (show (0 + j.val) % 1024 = j.val by omega)
  rw [c]
  unfold quarter outAt
  exact mixed_congr (funext fun k => (congrArg x0 (R k)).trans (K.h0 _ _)) (funext fun k => (congrArg x1 (R k)).trans (K.h1 _ _))
    (funext fun k => (congrArg x2 (R k)).trans (K.h2 _ _)) (funext fun k => (congrArg x3 (R k)).trans (K.h3 _ _))
    (funext fun k => (congrArg x4 (R k)).trans (K.h4 _ _)) (funext fun k => funext fun j => (congrArg x5 (W k j)).trans (K.h5 k j))
    (funext fun k => funext fun j => (congrArg x6 (W k j)).trans (K.h6 k j)) (funext fun k => funext fun j => (congrArg x7 (W k j)).trans (K.h7 k j))
    (funext fun a => funext fun j => (congrArg x8 (U a j)).trans (K.h8 a j)) (funext fun j => (congrArg x9 (Z j)).trans (K.h9 j))
    (funext fun j => (congrArg x10 (Z j)).trans (K.h10 j)) j

/-- A tile's rows. -/
theorem tile_eq (K : Blocks o y ga gb x wa wb wo h g b T x0 x1 x2 x3 x4 x5 x6 x7 x8 x9 x10) (x11 : Vec Ideal S1024x256 .bf16) (x12 : Vec Ideal S1x128 .f32) :
    out0_13 x0 x1 x2 x3 x4 x5 x6 x7 x8 x9 x10 x11 x12 = blk o y ga gb x wa wb wo h g b T := by
  funext z
  have hz0 : (z 0).val < 1024 := (z 0).isLt
  have hz1 : (z 1).val < 1024 := (z 1).isLt
  refine View.canon_apply_of_pieces (Val := Elt Ideal) (blk o y ga gb x wa wb wo h g b T) _ ?_ z ?_
  · intro p hp
    simp only [List.mem_cons, List.not_mem_nil, or_false] at hp
    rcases hp with rfl | rfl | rfl | rfl
    · exact agrees (N := 1024) (M := 1024) (inb := inb_S1024x1024_S256x1024_768_0) _ (fun i n => outAt o y ga gb x wa wb wo h g b (T * 1024 + i) (cix n))
        fun r j => (quarter3 _ _ _ _ _ _ _ _ _ _ _ r j).trans (quarter_at K 768 inb_S1024x1024_S256x1024_768_0 r j)
    · exact agrees (N := 1024) (M := 1024) (inb := inb_S1024x1024_S256x1024_512_0) _ (fun i n => outAt o y ga gb x wa wb wo h g b (T * 1024 + i) (cix n))
        fun r j => (quarter2 _ _ _ _ _ _ _ _ _ _ _ r j).trans (quarter_at K 512 inb_S1024x1024_S256x1024_512_0 r j)
    · exact agrees (N := 1024) (M := 1024) (inb := inb_S1024x1024_S256x1024_256_0) _ (fun i n => outAt o y ga gb x wa wb wo h g b (T * 1024 + i) (cix n))
        fun r j => (quarter1 _ _ _ _ _ _ _ _ _ _ _ r j).trans (quarter_at K 256 inb_S1024x1024_S256x1024_256_0 r j)
    · exact agrees (N := 1024) (M := 1024) (inb := inb_S1024x1024_S256x1024_0_0) _ (fun i n => outAt o y ga gb x wa wb wo h g b (T * 1024 + i) (cix n))
        fun r j => (quarter0 _ _ _ _ _ _ _ _ _ _ _ r j).trans (quarter_at K 0 inb_S1024x1024_S256x1024_0_0 r j)
  · by_cases c1 : (z 0).val < 256
    · exact ⟨_, .tail _ (.tail _ (.tail _ (.head _))), inside (inb := inb_S1024x1024_S256x1024_0_0) z (by omega) (by omega)⟩
    by_cases c2 : (z 0).val < 512
    · exact ⟨_, .tail _ (.tail _ (.head _)), inside (inb := inb_S1024x1024_S256x1024_256_0) z (by omega) (by omega)⟩
    by_cases c3 : (z 0).val < 768
    · exact ⟨_, .tail _ (.head _), inside (inb := inb_S1024x1024_S256x1024_512_0) z (by omega) (by omega)⟩
    · exact ⟨_, .head _, inside (inb := inb_S1024x1024_S256x1024_768_0) z (by omega) (by omega)⟩

end Tile

variable (mm : (ℓ : Loc nD τ sig) → Buf (Elt Ideal) ℓ) (ρ : Dev nD → PrngReg) (c : Dev nD)

/-- The specification of the arguments a core holds. -/
def value : S32768x1024.Idx → EReal := out (karg0 mm c) (karg1 mm c) (karg2 mm c) (karg3 mm c) (karg4 mm c) (karg5 mm c) (karg6 mm c) (karg7 mm c)
  (karg8 mm c) (karg9 mm c) (karg10 mm c)

/-- The result's buffer after the launch. -/
theorem arr : (dats mm 0 c).arrAt 13 cfg0.N = value mm c := by
  refine (dats mm 0 c).arrAt_eq_of_covers 13 _ (by decide +kernel) fun t hf z => ?_
  have p := places t
  have v0 : (((cfg0.win 13).blk t).view.emb z 0).val = t.val * 1024 + (z 0).val := by blk_simp [p.2.2.2.2.2.2.2.2.2.2.2]
  have v1 : (((cfg0.win 13).blk t).view.emb z 1).val = (z 1).val := by blk_simp [p.2.2.2.2.2.2.2.2.2.2.2]
  refine (congrFun ((after0_13 mm c t).trans (tile_eq (blocks mm c t) _ _)) _).trans ?_
  have e : ∀ R C : ℕ, R = t.val * 1024 + (z 0).val → C = (z 1).val →
      blk (karg0 mm c) (karg1 mm c) (karg2 mm c) (karg3 mm c) (karg4 mm c) (karg5 mm c) (karg6 mm c) (karg7 mm c) (karg8 mm c) (karg9 mm c) (karg10 mm c) t.val z
        = outAt (karg0 mm c) (karg1 mm c) (karg2 mm c) (karg3 mm c) (karg4 mm c) (karg5 mm c) (karg6 mm c) (karg7 mm c) (karg8 mm c) (karg9 mm c) (karg10 mm c)
            R (cix C) := by
    rintro _ _ rfl rfl; rfl
  exact e _ _ v0 v1

/-- The program ends with the result's buffer holding the specification, and its arguments unchanged. -/
theorem run : θ_run defs (onTc (τ := τ) (main (F := Ideal))) ⟨mm, fun _ => 0, ρ⟩ fun r => ∀ c : Dev nD,
      r.2.mem ((c : Thread nD τ).loc main_v37_0) = value mm c
      ∧ r.2.mem ((c : Thread nD τ).loc main_arg0) = mm ((c : Thread nD τ).loc main_arg0)
      ∧ r.2.mem ((c : Thread nD τ).loc main_arg1) = mm ((c : Thread nD τ).loc main_arg1)
      ∧ r.2.mem ((c : Thread nD τ).loc main_arg2) = mm ((c : Thread nD τ).loc main_arg2)
      ∧ r.2.mem ((c : Thread nD τ).loc main_arg3) = mm ((c : Thread nD τ).loc main_arg3)
      ∧ r.2.mem ((c : Thread nD τ).loc main_arg4) = mm ((c : Thread nD τ).loc main_arg4)
      ∧ r.2.mem ((c : Thread nD τ).loc main_arg5) = mm ((c : Thread nD τ).loc main_arg5)
      ∧ r.2.mem ((c : Thread nD τ).loc main_arg6) = mm ((c : Thread nD τ).loc main_arg6)
      ∧ r.2.mem ((c : Thread nD τ).loc main_arg7) = mm ((c : Thread nD τ).loc main_arg7)
      ∧ r.2.mem ((c : Thread nD τ).loc main_arg8) = mm ((c : Thread nD τ).loc main_arg8)
      ∧ r.2.mem ((c : Thread nD τ).loc main_arg9) = mm ((c : Thread nD τ).loc main_arg9)
      ∧ r.2.mem ((c : Thread nD τ).loc main_arg10) = mm ((c : Thread nD τ).loc main_arg10)
      ∧ r.2.mem ((c : Thread nD τ).loc main_arg11) = mm ((c : Thread nD τ).loc main_arg11)
      ∧ r.2.mem ((c : Thread nD τ).loc main_arg12) = mm ((c : Thread nD τ).loc main_arg12)
      ∧ r.2.mem ((c : Thread nD τ).loc main_arg13) = mm ((c : Thread nD τ).loc main_arg13)
      ∧ r.2.mem ((c : Thread nD τ).loc main_arg14) = mm ((c : Thread nD τ).loc main_arg14) :=
  (θ_run defs _ _).mono (fun r h c => ⟨((h c).1 13).trans (arr mm c),
      ((h c).2 main_arg0 (Pipeline.mem_restRefs_of main_arg0 (by decide) (by decide))).trans (V_main_arg0 mm c),
      ((h c).2 main_arg1 (Pipeline.mem_restRefs_of main_arg1 (by decide) (by decide))).trans (V_main_arg1 mm c),
      ((h c).2 main_arg2 (Pipeline.mem_restRefs_of main_arg2 (by decide) (by decide))).trans (V_main_arg2 mm c),
      ((h c).2 main_arg3 (Pipeline.mem_restRefs_of main_arg3 (by decide) (by decide))).trans (V_main_arg3 mm c),
      ((h c).2 main_arg4 (Pipeline.mem_restRefs_of main_arg4 (by decide) (by decide))).trans (V_main_arg4 mm c),
      ((h c).2 main_arg5 (Pipeline.mem_restRefs_of main_arg5 (by decide) (by decide))).trans (V_main_arg5 mm c),
      ((h c).2 main_arg6 (Pipeline.mem_restRefs_of main_arg6 (by decide) (by decide))).trans (V_main_arg6 mm c),
      ((h c).2 main_arg7 (Pipeline.mem_restRefs_of main_arg7 (by decide) (by decide))).trans (V_main_arg7 mm c),
      ((h c).2 main_arg8 (Pipeline.mem_restRefs_of main_arg8 (by decide) (by decide))).trans (V_main_arg8 mm c),
      ((h c).2 main_arg9 (Pipeline.mem_restRefs_of main_arg9 (by decide) (by decide))).trans (V_main_arg9 mm c),
      ((h c).2 main_arg10 (Pipeline.mem_restRefs_of main_arg10 (by decide) (by decide))).trans (V_main_arg10 mm c),
      ((h c).2 main_arg11 (Pipeline.mem_restRefs_of main_arg11 (by decide) (by decide))).trans (V_main_arg11 mm c),
      ((h c).2 main_arg12 (Pipeline.mem_restRefs_of main_arg12 (by decide) (by decide))).trans (V_main_arg12 mm c),
      ((h c).2 main_arg13 (Pipeline.mem_restRefs_of main_arg13 (by decide) (by decide))).trans (V_main_arg13 mm c),
      ((h c).2 main_arg14 (Pipeline.mem_restRefs_of main_arg14 (by decide) (by decide))).trans (V_main_arg14 mm c)⟩)
    (run_main mm ρ)

end Cert.Mix

end
-- ==== Proof.Mix.RefRead.lean ====
/- The reference's result read at an index: the specification's. -/
module

public import proofs.«01_k».proof.Proof.Mix.Spec
public import proofs.«01_k».proof.Proof.Gen.Reference3Ideal.Read
public import Idealize.ShloMosaic.Lib.KernelVsHost
public import Idealize.ShloMosaic.Lib.IdealHost

@[expose] public section

noncomputable section

namespace Cert.Mix

open Idealize.ShloMosaic Idealize.ShloMosaic.Tactic Cert.Reference3Ideal Cert.Reference3Ideal.Read
open scoped BigOperators

/-- An index given by its three parts. -/
theorem to3 {A B C : ℕ} (i : (⟨3, ![A, B, C]⟩ : Shape).Idx) (a : Fin A) (b : Fin B) (c : Fin C) (h0 : (i 0).val = a.val) (h1 : (i 1).val = b.val)
    (h2 : (i 2).val = c.val) : i = ix3 a b c := by
  funext k
  match k with
  | ⟨0, _⟩ => exact Fin.ext h0
  | ⟨1, _⟩ => exact Fin.ext h1
  | ⟨2, _⟩ => exact Fin.ext h2

/-- An index given by its one part. -/
theorem to1 {A : ℕ} (i : (⟨1, ![A]⟩ : Shape).Idx) (a : Fin A) (h0 : (i 0).val = a.val) : i = ix1 a := by
  funext k
  match k with
  | ⟨0, _⟩ => exact Fin.ext h0

/-- An index given by its two parts. -/
theorem to2 {A B : ℕ} (i : (⟨2, ![A, B]⟩ : Shape).Idx) (a : Fin A) (b : Fin B) (h0 : (i 0).val = a.val) (h1 : (i 1).val = b.val) : i = ix2 a b := by
  funext k
  match k with
  | ⟨0, _⟩ => exact Fin.ext h0
  | ⟨1, _⟩ => exact Fin.ext h1

/-- The sums start at zero. -/
theorem ref_zero (i : S_.Idx) : val_main_cst_4 (F := Ideal) i = (0 : EReal) := by
  show Ideal.ofBits .f32 0x00000000#32 = 0
  simp [Ideal.ofBits, Ideal.ieee]

/-- The second sum too. -/
theorem ref_zero' (i : S_.Idx) : val_main_cst_6 (F := Ideal) i = (0 : EReal) := ref_zero i

/-- The constant of the logistic function is one. -/
theorem ref_one (i : S_.Idx) : val_main_cst (F := Ideal) i = (1 : EReal) := Ideal.ofBits_one_f32

section
variable (x0 x1 x2 x3 x4 : (⟨S16x2048x1024, .f32⟩ : BufTy).Contents (Elt Ideal)) (x5 x6 x7 : (⟨S1x1024x1024, .f32⟩ : BufTy).Contents (Elt Ideal))
variable (x8 : (⟨S1x2x1024, .f32⟩ : BufTy).Contents (Elt Ideal)) (x9 x10 : (⟨S1x1024, .f32⟩ : BufTy).Contents (Elt Ideal))

/-- The merged row, of the arguments. -/
def rm (R : ℕ) : Fin 1024 → EReal :=
  merge (row x0 R) (row x1 R) (row x2 R) (row x3 R) (fun k j => x5 (ix3 0 k j)) (fun k j => x6 (ix3 0 k j)) (fun a j => x8 (ix3 0 a j))

/-- The row before its norm, of the arguments. -/
def rr (R : ℕ) : Fin 1024 → EReal := resid (rm x0 x1 x2 x3 x5 x6 x8 R) (row x4 R) (fun k j => x7 (ix3 0 k j))

/-- A row of an array of sequences, at its sequence and its position. -/
theorem ref_row (z : S16x2048x1024.Idx → EReal) (a : Fin 16) (s : Fin 2048) (j : Fin 1024) : row z (a.val * 2048 + s.val) j = z (ix3 a s j) := by
  unfold row
  have e0 : (⟨(a.val * 2048 + s.val) / 2048 % 16, Nat.mod_lt _ (by norm_num)⟩ : Fin 16) = a := Fin.ext (by show (a.val * 2048 + s.val) / 2048 % 16 = a.val; omega)
  have e1 : (⟨(a.val * 2048 + s.val) % 2048, Nat.mod_lt _ (by norm_num)⟩ : Fin 2048) = s := Fin.ext (by show (a.val * 2048 + s.val) % 2048 = s.val; omega)
  rw [e0, e1]

/-- Weights, reshaped to two axes. -/
theorem ref_w (i : S1024x1024.Idx) (k j : Fin 1024) (h0 : (i 0).val = k.val) (h1 : (i 1).val = j.val) :
    val_main_v0 (F := Ideal) x5 i = x5 (ix3 0 k j) := by
  rw [val_main_v0_apply]
  exact congrArg x5 (to3 _ 0 k j rfl (show ((i 0).val * 1024 + (i 1).val) / 1024 % 1024 = k.val by omega)
    (show ((i 0).val * 1024 + (i 1).val) % 1024 = j.val by omega))

/-- A row's product with weights. -/
theorem ref_dot (a : Fin 16) (s : Fin 2048) (j : Fin 1024) :
    val_main_v1 (F := Ideal) x0 x5 (ix3 a s j) = ∑ k, row x0 (a.val * 2048 + s.val) k * x5 (ix3 0 k j) := by
  rw [val_main_v1_apply]
  exact Finset.sum_congr rfl fun k _ => congrArg₂ (· * ·) ((congrArg x0 (to3 _ a s k rfl rfl rfl)).trans (ref_row x0 a s k).symm) (ref_w x5 _ k j rfl rfl)

/-- The first gate's bias. -/
theorem ref_h0 (a : Fin 16) (s : Fin 2048) (j : Fin 1024) : val_main_v7 (F := Ideal) x8 (ix3 a s j) = x8 (ix3 0 0 j) := by
  rw [val_main_v7_apply, val_main_v6_apply, val_main_v5_apply, val_main_v4_apply]
  exact congrArg x8 (to3 _ 0 0 j rfl rfl (show j.val % 1024 = j.val by omega))

/-- The second gate's bias. -/
theorem ref_h1 (a : Fin 16) (s : Fin 2048) (j : Fin 1024) : val_main_v18 (F := Ideal) x8 (ix3 a s j) = x8 (ix3 0 1 j) := by
  rw [val_main_v18_apply, val_main_v17_apply, val_main_v16_apply, val_main_v15_apply]
  exact congrArg x8 (to3 _ 0 1 j rfl rfl (show j.val % 1024 = j.val by omega))

/-- The first gate. -/
theorem ref_g0 (a : Fin 16) (s : Fin 2048) (j : Fin 1024) :
    val_main_v14 (F := Ideal) x2 x8 (ix3 a s j) = Ideal.logistic (row x2 (a.val * 2048 + s.val) j + x8 (ix3 0 0 j)) := by
  rw [val_main_v14_apply, val_main_v13_apply, val_main_v12_apply, val_main_v11_apply, val_main_v10_apply, val_main_v9_apply, val_main_v8_apply, ref_h0, ref_one,
    ref_row]
  exact congrArg (fun u => Ideal.div u _) (ref_one _)

/-- The second gate. -/
theorem ref_g1 (a : Fin 16) (s : Fin 2048) (j : Fin 1024) :
    val_main_v25 (F := Ideal) x3 x8 (ix3 a s j) = Ideal.logistic (row x3 (a.val * 2048 + s.val) j + x8 (ix3 0 1 j)) := by
  rw [val_main_v25_apply, val_main_v24_apply, val_main_v23_apply, val_main_v22_apply, val_main_v21_apply, val_main_v20_apply, val_main_v19_apply, ref_h1, ref_row]
  exact congrArg₂ (fun u v => Ideal.div u (v + Ideal.exp (-(x3 (ix3 a s j) + x8 (ix3 0 1 j))))) (ref_one _) (ref_one _)

/-- The merged row. -/
theorem ref_merge (a : Fin 16) (s : Fin 2048) (j : Fin 1024) :
    val_main_v28 (F := Ideal) x0 x1 x2 x3 x5 x6 x8 (ix3 a s j) = rm x0 x1 x2 x3 x5 x6 x8 (a.val * 2048 + s.val) j := by
  rw [val_main_v28_apply, val_main_v26_apply, val_main_v27_apply, ref_g0, ref_g1, ref_dot]
  refine (congrArg (fun u => _ + _ * u) (ref_dot x1 x6 a s j)).trans ?_
  rfl

/-- The row before its norm. -/
theorem ref_resid (a : Fin 16) (s : Fin 2048) (j : Fin 1024) :
    val_main_v33 (F := Ideal) x0 x1 x2 x3 x4 x5 x6 x7 x8 (ix3 a s j) = rr x0 x1 x2 x3 x4 x5 x6 x7 x8 (a.val * 2048 + s.val) j := by
  rw [val_main_v33_apply, val_main_v32_apply, val_main_v31_apply, val_main_v30_apply, val_main_cst_3_apply]
  refine congrArg₂ (· + ·) (congrArg (alpha * ·) (ref_row x4 a s j).symm) (Finset.sum_congr rfl fun k _ => congrArg₂ (· * ·) ?_ (ref_w x7 _ k j rfl rfl))
  exact (congrArg _ (to3 _ a s k rfl rfl rfl)).trans (ref_merge x0 x1 x2 x3 x5 x6 x8 a s k)

/-- A row's mean. -/
theorem ref_mean (a : Fin 16) (s : Fin 2048) (z : Fin 1) : val_main_v39 (F := Ideal) x0 x1 x2 x3 x4 x5 x6 x7 x8 (ix3 a s z) = mean (rr x0 x1 x2 x3 x4 x5 x6 x7 x8 (a.val * 2048 + s.val)) := by
  rw [val_main_v39_apply, val_main_v37_apply, val_main_v36_apply, ref_zero, zero_add, val_main_v38_apply]
  have e : ∀ k : Fin 1024, val_main_v33 (F := Ideal) x0 x1 x2 x3 x4 x5 x6 x7 x8 (idx_main_v36 (idx_main_v37 (ix3 a s z)) k) = rr x0 x1 x2 x3 x4 x5 x6 x7 x8 (a.val * 2048 + s.val) k := fun k =>
    (congrArg _ (to3 _ a s k rfl rfl rfl)).trans (ref_resid x0 x1 x2 x3 x4 x5 x6 x7 x8 a s k)
  rw [Finset.sum_congr rfl fun k _ => e k]
  rfl

/-- A row's element less its mean. -/
theorem ref_centred (a : Fin 16) (s : Fin 2048) (j : Fin 1024) :
    val_main_v41 (F := Ideal) x0 x1 x2 x3 x4 x5 x6 x7 x8 (ix3 a s j) = rr x0 x1 x2 x3 x4 x5 x6 x7 x8 (a.val * 2048 + s.val) j - mean (rr x0 x1 x2 x3 x4 x5 x6 x7 x8 (a.val * 2048 + s.val)) := by
  rw [val_main_v41_apply, val_main_v40_apply, ← ref_mean x0 x1 x2 x3 x4 x5 x6 x7 x8 a s 0, ref_resid, to3 (idx_main_v40 (ix3 a s j)) a s 0 rfl rfl rfl]
  rfl

/-- A row's variance. -/
theorem ref_var (a : Fin 16) (s : Fin 2048) (z : Fin 1) : val_main_v46 (F := Ideal) x0 x1 x2 x3 x4 x5 x6 x7 x8 (ix3 a s z)
    = mean (fun k => (rr x0 x1 x2 x3 x4 x5 x6 x7 x8 (a.val * 2048 + s.val) k - mean (rr x0 x1 x2 x3 x4 x5 x6 x7 x8 (a.val * 2048 + s.val)))
        * (rr x0 x1 x2 x3 x4 x5 x6 x7 x8 (a.val * 2048 + s.val) k - mean (rr x0 x1 x2 x3 x4 x5 x6 x7 x8 (a.val * 2048 + s.val)))) := by
  rw [val_main_v46_apply, val_main_v44_apply, val_main_v43_apply, ref_zero', zero_add, val_main_v45_apply]
  have e : ∀ k : Fin 1024, val_main_v42 (F := Ideal) x0 x1 x2 x3 x4 x5 x6 x7 x8 (idx_main_v43 (idx_main_v44 (ix3 a s z)) k)
      = (rr x0 x1 x2 x3 x4 x5 x6 x7 x8 (a.val * 2048 + s.val) k - mean (rr x0 x1 x2 x3 x4 x5 x6 x7 x8 (a.val * 2048 + s.val)))
        * (rr x0 x1 x2 x3 x4 x5 x6 x7 x8 (a.val * 2048 + s.val) k - mean (rr x0 x1 x2 x3 x4 x5 x6 x7 x8 (a.val * 2048 + s.val))) := fun k => by
    rw [← ref_centred x0 x1 x2 x3 x4 x5 x6 x7 x8 a s k, to3 (idx_main_v43 (idx_main_v44 (ix3 a s z)) k) a s k rfl rfl rfl]
    rfl
  rw [Finset.sum_congr rfl fun k _ => e k]
  rfl

/-- The gain. -/
theorem ref_gain (a : Fin 16) (s : Fin 2048) (j : Fin 1024) : val_main_v55 (F := Ideal) x9 (ix3 a s j) = x9 (ix2 0 j) := by
  rw [val_main_v55_apply, val_main_v54_apply, val_main_v34_apply]
  exact congrArg x9 (to2 _ 0 j rfl (show j.val % 1024 = j.val by omega))

/-- The bias. -/
theorem ref_bias (a : Fin 16) (s : Fin 2048) (j : Fin 1024) : val_main_v58 (F := Ideal) x10 (ix3 a s j) = x10 (ix2 0 j) := by
  rw [val_main_v58_apply, val_main_v57_apply, val_main_v35_apply]
  exact congrArg x10 (to2 _ 0 j rfl (show j.val % 1024 = j.val by omega))

/-- An element of the result. -/
theorem ref_norm (a : Fin 16) (s : Fin 2048) (j : Fin 1024) :
    val_main_v59 (F := Ideal) x0 x1 x2 x3 x4 x5 x6 x7 x8 x9 x10 (ix3 a s j) = outAt x0 x1 x2 x3 x4 x5 x6 x7 x8 x9 x10 (a.val * 2048 + s.val) j := by
  show _ = norm (rr x0 x1 x2 x3 x4 x5 x6 x7 x8 (a.val * 2048 + s.val)) (fun k => x9 (ix2 0 k)) (fun k => x10 (ix2 0 k)) j
  unfold norm
  rw [← ref_var x0 x1 x2 x3 x4 x5 x6 x7 x8 a s 0, ← ref_centred x0 x1 x2 x3 x4 x5 x6 x7 x8 a s j]
  rw [val_main_v59_apply, val_main_v56_apply, val_main_v53_apply, val_main_v52_apply, val_main_v51_apply, val_main_v50_apply, val_main_v49_apply,
    ref_gain, ref_bias, to3 (idx_main_v52 (ix3 a s j)) a s 0 rfl rfl rfl]
  rfl

/-- The reference's result. -/
theorem ref : val_main_v60 (F := Ideal) x0 x1 x2 x3 x4 x5 x6 x7 x8 x9 x10 = out x0 x1 x2 x3 x4 x5 x6 x7 x8 x9 x10 := by
  funext i
  have h0 : (i 0).val < 32768 := (i 0).isLt
  have h1 : (i 1).val < 1024 := (i 1).isLt
  rw [val_main_v60_apply, to3 (idx_main_v60 i) ⟨(i 0).val / 2048, by omega⟩ ⟨(i 0).val % 2048, by omega⟩ (cix (i 1).val)
    (show ((i 0).val * 1024 + (i 1).val) / 2097152 = (i 0).val / 2048 by omega) (show ((i 0).val * 1024 + (i 1).val) / 1024 % 2048 = (i 0).val % 2048 by omega)
    (show ((i 0).val * 1024 + (i 1).val) % 1024 = (i 1).val % 1024 by omega), ref_norm]
  unfold out
  congr 1
  exact Nat.div_add_mod' _ _

end

end Cert.Mix

end
-- ==== Proof.Mix.SameBits.lean ====
/- The call with its logits as result, over the chip's numbers: its text is the merge's, so its programs are the merge's and end as they do. -/
module

public import proofs.«01_k».proof.Defs
public import proofs.«01_k».proof.Proof.Gen.Kernel4
public import proofs.«01_k».proof.Proof.Mix.RunBits

@[expose] public section

set_option maxRecDepth 100000
set_option maxHeartbeats 4000000

noncomputable section

namespace Cert.Mix.SameBits

open Idealize.ShloMosaic Idealize.SL.Sem

attribute [local instance] Cert.Kernel4.Gen.facts Cert.Kernel3.Gen.facts

section
variable {F : FTy → Type} [BitOps F]

/-- The kernels' functions are the same. -/
theorem body : Cert.Kernel4.cc0_mix (F := F) = Cert.Kernel3.cc0_mix (F := F) := rfl

/-- So are the tables of them. -/
theorem bodies : Cert.Kernel4.defs₀ (F := F) = Cert.Kernel3.defs₀ (F := F) := by
  unfold Cert.Kernel4.defs₀ Cert.Kernel3.defs₀
  refine congrArg _ ?_
  funext l a
  match l, a with
  | 0, (t, s) => rfl

/-- And the tables with the pipelines. -/
theorem table : Cert.Kernel4.defs (F := F) = Cert.Kernel3.defs (F := F) := by
  unfold Cert.Kernel4.defs Cert.Kernel3.defs
  exact congrArg _ bodies

/-- The programs are the same. -/
theorem program : Cert.Kernel4.main (F := F) = Cert.Kernel3.main (F := F) := rfl

end

/-- The program ends with its arguments unchanged and every counter at zero, as the merge's does. -/
theorem frame : Cert.quiescent_Kernel4 (hKernel4 := Cert.Kernel4.Gen.facts) := by
  intro m ρ _
  rw [table, program]
  exact Cert.Kernel3.Run.frame m ρ

end Cert.Mix.SameBits

end
-- ==== Proof.Mix.Logit.lean ====
/- The router's logits written as numbers: a row of the merge's result times the router's weights, with their biases, laid out
   in 128 columns: the groups' four at column 0, the experts' thirty-two at column 8, zeros elsewhere. And what makes the
   split of a row and of the weights into high and low parts no change: on finite arguments the low parts are zero. -/
module

public import proofs.«01_k».proof.Proof.Mix.Spec

@[expose] public section

noncomputable section

namespace Cert.Mix

open Idealize.ShloMosaic Cert.Kernel3Ideal
open scoped BigOperators

/-- The router's weight of an input, at a column. -/
def rwt (wg : S1x1024x4.Idx → EReal) (ws : S1x4x1024x8.Idx → EReal) (k : Fin 1024) (n : ℕ) : EReal :=
  if n < 4 then wg (ix3 0 k ⟨n % 4, Nat.mod_lt _ (by norm_num)⟩)
  else if 8 ≤ n ∧ n < 40 then ws (ix4 0 ⟨(n - 8) / 8 % 4, Nat.mod_lt _ (by norm_num)⟩ k ⟨(n - 8) % 8, Nat.mod_lt _ (by norm_num)⟩)
  else 0

/-- The router's bias, at a column. -/
def rb (bg : S1x4.Idx → EReal) (bs : S1x4x8.Idx → EReal) (n : ℕ) : EReal :=
  if n < 4 then bg (ix2 0 ⟨n % 4, Nat.mod_lt _ (by norm_num)⟩)
  else if 8 ≤ n ∧ n < 40 then bs (ix3 0 ⟨(n - 8) / 8 % 4, Nat.mod_lt _ (by norm_num)⟩ ⟨(n - 8) % 8, Nat.mod_lt _ (by norm_num)⟩)
  else 0

/-- A row's logit: its product with a column of weights, and the bias. -/
def logit (X W : Fin 1024 → EReal) (b : EReal) : EReal := (∑ k, X k * W k) + b

/-- A row's logit as the kernel computes it: the row and the row less itself, times two columns of weights. -/
def split (X W V : Fin 1024 → EReal) (b : EReal) : EReal :=
  ((∑ k, X k * W k) + ∑ k, (X k - X k) * W k) + ((∑ k, X k * V k) + ∑ k, (X k - X k) * V k) + b

/-- A value is a real number. -/
def IsReal (x : EReal) : Prop := ∃ r : ℝ, x = (r : EReal)

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sub_self {x : EReal} (hx : IsReal x) : x - x = 0 := by
  obtain ⟨r, rfl⟩ := hx
  rw [← EReal.coe_sub, _root_.sub_self, EReal.coe_zero]

theorem IsReal.sum {ι : Type} (s : Finset ι) {f : ι → EReal} (h : ∀ i, IsReal (f i)) : IsReal (∑ i ∈ s, f i) := by
  classical
  induction s using Finset.induction_on with
  | empty => exact ⟨0, by simp⟩
  | insert a t ha ih => rw [Finset.sum_insert ha]; exact (h a).add ih

/-- The kernel's split logit is the logit: the low parts are zero. -/
theorem split_eq {X W V : Fin 1024 → EReal} (b : EReal) (hX : ∀ k, IsReal (X k)) (hV : ∀ k, V k = 0) : split X W V b = logit X W b := by
  unfold split logit
  have e1 : ∑ k, (X k - X k) * W k = 0 := Finset.sum_eq_zero fun k _ => by rw [(hX k).sub_self, zero_mul]
  have e2 : ∑ k, X k * V k = 0 := Finset.sum_eq_zero fun k _ => by rw [hV k, mul_zero]
  have e3 : ∑ k, (X k - X k) * V k = 0 := Finset.sum_eq_zero fun k _ => by rw [hV k, mul_zero]
  rw [e1, e2, e3, add_zero, add_zero, add_zero]

/-- The number of a row's elements. -/
theorem count : Ideal.ofBits .f32 0x44800000#32 = ((1024 : ℝ) : EReal) := by
  simp [Ideal.ofBits, Ideal.ieee]; rw [← EReal.coe_mul]; congr 1; norm_num

/-- The norm's addend is a positive real number. -/
theorem eps_real : ∃ e : ℝ, 0 < e ∧ Ideal.ofBits .f32 0x3727C5AC#32 = (e : EReal) := by
  refine ⟨(1 + 2606508 / 8388608) * 2 ^ (-17 : ℤ), by positivity, ?_⟩
  simp [Ideal.ofBits, Ideal.ieee]; rw [← EReal.coe_mul]; congr 1; norm_num

/-- A sum of real numbers, read over the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a t ha ih => rw [Finset.sum_insert ha, Finset.sum_insert ha, ih, EReal.coe_add]

/-- A mean of real numbers is their sum over their number. -/
theorem mean_coe (f : Fin 1024 → ℝ) : mean (fun k => (f k : EReal)) = (((∑ k, f k) * (1024 : ℝ)⁻¹ : ℝ) : EReal) := by
  unfold mean Ideal.div
  rw [count, if_neg (by norm_num : ((1024 : ℝ) : EReal) ≠ 0), ← EReal.coe_inv, coe_sum, ← EReal.coe_mul]

/-- A real sum's terms are real. -/
theorem IsReal.of_sum {ι : Type} (s : Finset ι) {f : ι → EReal} (h : IsReal (∑ i ∈ s, f i)) : ∀ i ∈ s, IsReal (f i) := by
  classical
  induction s using Finset.induction_on with
  | empty => intro i hi; simp at hi
  | insert a t ha ih =>
    rw [Finset.sum_insert ha] at h
    have k : IsReal (f a) ∧ IsReal (∑ i ∈ t, f i) := by
      obtain ⟨r, hr⟩ := h
      generalize f a = x at hr
      generalize ∑ i ∈ t, f i = y at hr
      induction x with
      | bot => simp at hr
      | top =>
        induction y with
        | bot => simp at hr
        | top => simp at hr
        | coe q => simp at hr
      | coe p =>
        induction y with
        | bot => simp at hr
        | top => simp at hr
        | coe q => exact ⟨⟨p, rfl⟩, ⟨q, rfl⟩⟩
    intro i hi
    rcases Finset.mem_insert.1 hi with rfl | hi
    · exact k.1
    · exact ih k.2 i hi

/-- The mean of a row whose elements are all infinite is infinite. -/
theorem mean_top : mean (fun _ => (⊤ : EReal)) = ⊤ := by
  have e : ∑ _k : Fin 1024, (⊤ : EReal) = ⊤ := by
    rw [← Finset.add_sum_erase Finset.univ (fun _ => (⊤ : EReal)) (Finset.mem_univ 0)]
    have n : 0 ≤ ∑ _k ∈ Finset.univ.erase (0 : Fin 1024), (⊤ : EReal) := Finset.sum_nonneg fun _ _ => le_top
    exact EReal.top_add_of_ne_bot fun h0 => by rw [h0] at n; simp at n
  unfold mean Ideal.div
  rw [e, count, if_neg (by norm_num : ((1024 : ℝ) : EReal) ≠ 0), ← EReal.coe_inv]
  exact EReal.top_mul_coe_of_pos (by norm_num)

/-- The norm of a row of real numbers, with real gain and bias, is real. -/
theorem norm_real_of {X G B : Fin 1024 → EReal} (hX : ∀ k, IsReal (X k)) (hG : ∀ k, IsReal (G k)) (hB : ∀ k, IsReal (B k)) (j : Fin 1024) : IsReal (norm X G B j) := by
  choose f hf using hX
  obtain rfl : X = fun k => (f k : EReal) := funext hf
  unfold norm
  rw [mean_coe f]
  have hv : (fun k => ((f k : EReal) - (((∑ k, f k) * (1024 : ℝ)⁻¹ : ℝ) : EReal)) * ((f k : EReal) - (((∑ k, f k) * (1024 : ℝ)⁻¹ : ℝ) : EReal)))
      = fun k => (((f k - (∑ k, f k) * (1024 : ℝ)⁻¹) * (f k - (∑ k, f k) * (1024 : ℝ)⁻¹) : ℝ) : EReal) := by
    funext k; rw [← EReal.coe_sub, ← EReal.coe_mul]
  rw [hv, mean_coe]
  obtain ⟨e, he, ee⟩ := eps_real
  rw [ee, ← EReal.coe_add]
  have hs : 0 ≤ (∑ k, (f k - (∑ k, f k) * (1024 : ℝ)⁻¹) * (f k - (∑ k, f k) * (1024 : ℝ)⁻¹)) * (1024 : ℝ)⁻¹ :=
    mul_nonneg (Finset.sum_nonneg fun k _ => mul_self_nonneg _) (by norm_num)
  have hr : IsReal (Ideal.rsqrt (((∑ k, (f k - (∑ k, f k) * (1024 : ℝ)⁻¹) * (f k - (∑ k, f k) * (1024 : ℝ)⁻¹)) * (1024 : ℝ)⁻¹ + e : ℝ) : EReal)) := by
    generalize hq : (∑ k, (f k - (∑ k, f k) * (1024 : ℝ)⁻¹) * (f k - (∑ k, f k) * (1024 : ℝ)⁻¹)) * (1024 : ℝ)⁻¹ + e = q
    have pq : 0 < q := by linarith
    refine ⟨(_root_.Real.sqrt q)⁻¹, ?_⟩
    show (if q < 0 then _ else if q = 0 then _ else _) = _
    rw [if_neg (by linarith), if_neg (by linarith)]
  exact ((((IsReal.sub ⟨_, rfl⟩ ⟨_, rfl⟩).mul hr).mul (hG j)).add (hB j))

/-- Where every difference from the mean is infinite, the norm is the bias. -/
theorem norm_infinite {X : Fin 1024 → EReal} (G B : Fin 1024 → EReal) (h : ∀ k, X k - mean X = ⊤ ∨ X k - mean X = ⊥) (j : Fin 1024) : norm X G B j = B j := by
  have e : (fun k => (X k - mean X) * (X k - mean X)) = fun _ => (⊤ : EReal) := by
    funext k
    rcases h k with h | h <;> rw [h] <;> rfl
  obtain ⟨q, _, eq⟩ := eps_real
  have z : Ideal.rsqrt (mean (fun k => (X k - mean X) * (X k - mean X)) + Ideal.ofBits .f32 0x3727C5AC#32) = 0 := by
    rw [e, mean_top, eq, EReal.top_add_coe]
    rfl
  unfold norm
  rw [z, mul_zero, zero_mul, zero_add]

/-- The norm of any row, with real gain and bias, is real: over an infinite row the inverse of the deviation is zero. -/
theorem norm_real (X : Fin 1024 → EReal) {G B : Fin 1024 → EReal} (hG : ∀ k, IsReal (G k)) (hB : ∀ k, IsReal (B k)) (j : Fin 1024) : IsReal (norm X G B j) := by
  have hm : mean X = (∑ k, X k) * (((1024 : ℝ)⁻¹ : ℝ) : EReal) := by
    unfold mean Ideal.div
    rw [count, if_neg (by norm_num : ((1024 : ℝ) : EReal) ≠ 0), ← EReal.coe_inv]
  have hp : (0 : ℝ) < (1024 : ℝ)⁻¹ := by norm_num
  generalize hs : ∑ k, X k = s at hm
  induction s with
  | coe r => exact norm_real_of (fun k => IsReal.of_sum Finset.univ ⟨r, hs⟩ k (Finset.mem_univ k)) hG hB j
  | top =>
    rw [EReal.top_mul_coe_of_pos hp] at hm
    rw [norm_infinite G B (fun k => Or.inr (by rw [hm]; exact EReal.sub_top _)) j]
    exact hB j
  | bot =>
    rw [EReal.bot_mul_coe_of_pos hp] at hm
    rw [norm_infinite G B (fun k => ?_) j]
    · exact hB j
    · rw [hm]
      generalize X k = x
      induction x with
      | bot => exact Or.inr rfl
      | top => exact Or.inl rfl
      | coe q => exact Or.inl rfl

section
variable (o y ga gb x : S16x2048x1024.Idx → EReal) (wa wb wo : S1x1024x1024.Idx → EReal) (h : S1x2x1024.Idx → EReal) (g b : S1x1024.Idx → EReal)
variable (wg : S1x1024x4.Idx → EReal) (bg : S1x4.Idx → EReal) (ws : S1x4x1024x8.Idx → EReal) (bs : S1x4x8.Idx → EReal)

/-- An element of the logits: of a row, and a column. -/
def logitAt (R n : ℕ) : EReal := logit (outAt o y ga gb x wa wb wo h g b R) (fun k => rwt wg ws k n) (rb bg bs n)

/-- The logits' array. -/
def logits : S32768x128.Idx → EReal := fun i => logitAt o y ga gb x wa wb wo h g b wg bg ws bs (i 0).val (i 1).val

/-- The arguments that must be finite are. -/
structure Finite : Prop where
  /-- The gain. -/
  g : ∀ i, IsReal (g i)
  /-- The bias. -/
  b : ∀ i, IsReal (b i)
  /-- The groups' weights. -/
  wg : ∀ i, IsReal (wg i)
  /-- The experts' weights. -/
  ws : ∀ i, IsReal (ws i)

variable {g b wg ws}

/-- The merge's rows are finite, whatever the other arguments. -/
theorem Finite.out (F : Finite g b wg ws) (R : ℕ) (j : Fin 1024) : IsReal (outAt o y ga gb x wa wb wo h g b R j) :=
  norm_real _ (fun _ => F.g _) (fun _ => F.b _) j

/-- The router's weights are finite. -/
theorem Finite.rwt (F : Finite g b wg ws) (k : Fin 1024) (n : ℕ) : IsReal (rwt wg ws k n) := by
  unfold Cert.Mix.rwt
  split_ifs
  · exact F.wg _
  · exact F.ws _
  · exact ⟨0, rfl⟩

end

end Cert.Mix

end
-- ==== Proof.Mix.LogitTile.lean ====
/- The logits of a quarter of a tile, 256 rows, read at an index. The kernel's text computes the four quarters by the same
   operations, cut at different places. -/
module

public import proofs.«01_k».proof.Proof.Mix.Tile
public import proofs.«01_k».proof.Proof.Mix.Logit

@[expose] public section

noncomputable section

namespace Cert.Mix

open Idealize.ShloMosaic Cert.Kernel3Ideal Cert.Kernel3Ideal.Gen
open scoped BigOperators

/-- A row's logits of the row's values: the row and the row less itself, times the weights' high parts and low parts, and the bias. -/
theorem pay52_apply (X : FVec Ideal S256x1024 .f32) (W : Vec Ideal S1024x256 .bf16) (B : Vec Ideal S1x128 .f32) (r : Fin 256) (j : Fin 128) :
    k0_pay52 X W W B (ix2 r j)
      = split (fun k => X (ix2 r k)) (fun k => W (ix2 k ⟨j.val, by omega⟩)) (fun k => W (ix2 k ⟨128 + j.val, by omega⟩)) (B (ix2 0 j)) := by
  pointwise [k0_pay52, k0_pay51]
  rfl

variable (O Y GA GB : Vec Ideal S256x1024 .bf16) (X : Vec Ideal S256x1024 .f32) (WA WB WO : Vec Ideal S1024x1024 .bf16)
variable (H : Vec Ideal S2x1024 .f32) (G B : Vec Ideal S1x1024 .f32) (W : Vec Ideal S1024x256 .bf16) (C : Vec Ideal S1x128 .f32)

/-- A quarter's logits. -/
def quarterL (r : Fin 256) (j : Fin 128) : EReal :=
  split (quarter O Y GA GB X WA WB WO H G B r) (fun k => W (ix2 k ⟨j.val, by omega⟩)) (fun k => W (ix2 k ⟨128 + j.val, by omega⟩)) (C (ix2 0 j))

/-- The last quarter's logits. -/
theorem quarterL3 (r : Fin 256) (j : Fin 128) :
    k0_pay52 (k0_pay50 (k0_pay3 H) (k0_pay47 Y WB) (k0_pay48 O WA) (k0_pay49 (k0_pay3 H) GA) GB WO X G B) W W C (ix2 r j)
      = quarterL O Y GA GB X WA WB WO H G B W C r j := by
  rw [pay52_apply]
  exact congrArg (fun Z => split Z _ _ _) (funext fun k => quarter3 O Y GA GB X WA WB WO H G B r k)

/-- The first quarter's logits. -/
theorem quarterL0 (r : Fin 256) (j : Fin 128) :
    k0_pay9 (k0_pay8 (k0_pay4 H Y WB O WA GA GB WO) (k0_pay5 X) G B W W) C (ix2 r j) = quarterL O Y GA GB X WA WB WO H G B W C r j :=
  quarterL3 O Y GA GB X WA WB WO H G B W C r j

/-- The second quarter's logits. -/
theorem quarterL1 (r : Fin 256) (j : Fin 128) :
    k0_pay22 (k0_pay16 (k0_pay3 H) (k0_pay15 Y) WB O WA GA GB WO X) (k0_pay17 G) (k0_pay18 B) (k0_pay19 (k0_pay3 H) (k0_pay15 Y) WB O WA GA GB WO X) W W C (ix2 r j)
      = quarterL O Y GA GB X WA WB WO H G B W C r j :=
  quarterL3 O Y GA GB X WA WB WO H G B W C r j

/-- The third quarter's logits. -/
theorem quarterL2 (r : Fin 256) (j : Fin 128) :
    k0_pay39 (k0_pay33 G) (k0_pay34 B) (k0_pay35 (k0_pay3 H) (k0_pay30 Y WB) (k0_pay31 O) (k0_pay32 WA) (constant S256x1024 .f32 0x00000000#32) GA GB WO X)
        (k0_pay36 (k0_pay3 H) (k0_pay30 Y WB) (k0_pay31 O) (k0_pay32 WA) (constant S256x1024 .f32 0x00000000#32) GA GB WO X) W W C (ix2 r j)
      = quarterL O Y GA GB X WA WB WO H G B W C r j :=
  quarterL3 O Y GA GB X WA WB WO H G B W C r j

end Cert.Mix

end
-- ==== Proof.Mix.LogitHost.lean ====
/- The router's weights and biases as the host prepares them, read at an index, and the blocks of them each tile reads. -/
module

public import proofs.«01_k».proof.Proof.Mix.Host
public import proofs.«01_k».proof.Proof.Mix.Logit

@[expose] public section

set_option maxRecDepth 16384

noncomputable section

namespace Cert.Mix

open Idealize.ShloMosaic Idealize.ShloMosaic.TcCoe Idealize.ShloMosaic.Tactic Cert.Kernel3Ideal Cert.Kernel3Ideal.Gen
open scoped BigOperators

variable (mm : (ℓ : Loc nD τ sig) → Buf (Elt Ideal) ℓ) (c : Dev nD)

/-- The kernel's argument 11, on the core `c`. -/
abbrev karg11 : S1x1024x4.Idx → EReal := mm (c, Proc.tc.devRef main_arg11)
/-- The kernel's argument 12, on the core `c`. -/
abbrev karg12 : S1x4.Idx → EReal := mm (c, Proc.tc.devRef main_arg12)
/-- The kernel's argument 13, on the core `c`. -/
abbrev karg13 : S1x4x1024x8.Idx → EReal := mm (c, Proc.tc.devRef main_arg13)
/-- The kernel's argument 14, on the core `c`. -/
abbrev karg14 : S1x4x8.Idx → EReal := mm (c, Proc.tc.devRef main_arg14)

/-- The weights' first columns. -/
theorem rwt_group (wg : S1x1024x4.Idx → EReal) (ws : S1x4x1024x8.Idx → EReal) (k : Fin 1024) {n : ℕ} (h : n < 4) : rwt wg ws k n = wg (ix3 0 k ⟨n, h⟩) := by
  unfold rwt
  rw [if_pos h]
  exact congrArg wg (congrArg (ix3 0 k) (Fin.ext (Nat.mod_eq_of_lt h)))

/-- The weights' columns from the eighth. -/
theorem rwt_sub (wg : S1x1024x4.Idx → EReal) (ws : S1x4x1024x8.Idx → EReal) (k : Fin 1024) {n : ℕ} (h : 8 ≤ n) (h' : n < 40) :
    rwt wg ws k n = ws (ix4 0 ⟨(n - 8) / 8, by omega⟩ k ⟨(n - 8) % 8, by omega⟩) := by
  unfold rwt
  rw [if_neg (by omega), if_pos ⟨h, h'⟩]
  exact congrArg ws (congrArg (fun a => ix4 0 a k _) (Fin.ext (show (n - 8) / 8 % 4 = (n - 8) / 8 by omega)))

/-- The weights' other columns are zero. -/
theorem rwt_none (wg : S1x1024x4.Idx → EReal) (ws : S1x4x1024x8.Idx → EReal) (k : Fin 1024) {n : ℕ} (h : 4 ≤ n) (h' : ¬(8 ≤ n ∧ n < 40)) :
    rwt wg ws k n = 0 := by
  unfold rwt
  rw [if_neg (by omega), if_neg h']

/-- The biases' first columns. -/
theorem rb_group (bg : S1x4.Idx → EReal) (bs : S1x4x8.Idx → EReal) {n : ℕ} (h : n < 4) : rb bg bs n = bg (ix2 0 ⟨n, h⟩) := by
  unfold rb
  rw [if_pos h]
  exact congrArg bg (congrArg (ix2 0) (Fin.ext (Nat.mod_eq_of_lt h)))

/-- The biases' columns from the eighth. -/
theorem rb_sub (bg : S1x4.Idx → EReal) (bs : S1x4x8.Idx → EReal) {n : ℕ} (h : 8 ≤ n) (h' : n < 40) :
    rb bg bs n = bs (ix3 0 ⟨(n - 8) / 8, by omega⟩ ⟨(n - 8) % 8, by omega⟩) := by
  unfold rb
  rw [if_neg (by omega), if_pos ⟨h, h'⟩]
  exact congrArg bs (congrArg (fun a => ix3 0 a _) (Fin.ext (show (n - 8) / 8 % 4 = (n - 8) / 8 by omega)))

/-- The biases' other columns are zero. -/
theorem rb_none (bg : S1x4.Idx → EReal) (bs : S1x4x8.Idx → EReal) {n : ℕ} (h : 4 ≤ n) (h' : ¬(8 ≤ n ∧ n < 40)) : rb bg bs n = 0 := by
  unfold rb
  rw [if_neg (by omega), if_neg h']

/-- The padding's element is zero. -/
theorem pad_zero : FloatOps.sitofp (F := Ideal) FTy.f32 0#32 = (0 : EReal) := by
  show (((0#32 : BitVec 32).toInt : ℝ) : EReal) = 0
  simp

/-- The groups' weights, in the host's order. -/
theorem cat_w6 (k : Fin 1024) (j : Fin 4) : (StableHlo.upto [hostOps0, hostOps0_1, hostOps0_2, hostOps0_3, hostOps0_4].flatten (fun b => mm (c, b)) 13
    (Proc.tc.devRef main_v6) : S1024x4.Idx → EReal) (ix2 k j) = karg11 mm c (ix3 0 k j) := by
  after_reads_at

/-- The columns between. -/
theorem cat_w7 (k : Fin 1024) (j : Fin 4) : (StableHlo.upto [hostOps0, hostOps0_1, hostOps0_2, hostOps0_3, hostOps0_4].flatten (fun b => mm (c, b)) 13
    (Proc.tc.devRef main_v7) : S1024x4.Idx → EReal) (ix2 k j) = (0 : EReal) := by
  after_reads_at

/-- The experts' weights. -/
theorem cat_w10 (k : Fin 1024) (j : Fin 32) : (StableHlo.upto [hostOps0, hostOps0_1, hostOps0_2, hostOps0_3, hostOps0_4].flatten (fun b => mm (c, b)) 13
    (Proc.tc.devRef main_v10) : S1024x32.Idx → EReal) (ix2 k j) = karg13 mm c (ix4 0 ⟨j.val / 8, by omega⟩ k ⟨j.val % 8, by omega⟩) := by
  after_reads_at

/-- The router's weights, padded to 128 columns. -/
theorem host_w12 (k : Fin 1024) (j : Fin 128) : (V mm c main_v12 : S1024x128.Idx → EReal) (ix2 k j) = rwt (karg11 mm c) (karg13 mm c) k j.val := by
  have hj := j.isLt
  unfold V
  after_reads_at
  by_cases h1 : j.val < 40
  · rw [dif_pos h1]
    by_cases h2 : j.val < 4
    · rw [dif_pos h2]
      exact (cat_w6 mm c k _).trans (rwt_group _ _ k h2).symm
    · rw [dif_neg h2]
      by_cases h3 : j.val - 4 < 4
      · rw [dif_pos h3]
        exact (cat_w7 mm c k _).trans (rwt_none _ _ k (by omega) (by omega)).symm
      · rw [dif_neg h3]
        refine (cat_w10 mm c k _).trans (Eq.trans (congrArg _ ?_) (rwt_sub _ _ k (n := j.val) (by omega) (by omega)).symm)
        exact congrArg₂ (fun a b => ix4 0 a k b) (Fin.ext (show (j.val - 4 - 4) / 8 = (j.val - 8) / 8 by omega))
          (Fin.ext (show (j.val - 4 - 4) % 8 = (j.val - 8) % 8 by omega))
  · rw [dif_neg h1]
    exact pad_zero.trans (rwt_none _ _ k (by omega) (by omega)).symm

/-- The weights' high parts are the weights. -/
theorem host_hi (k : Fin 1024) (j : Fin 128) : (V mm c main_v17 : S1024x256.Idx → EReal) (ix2 k ⟨j.val, by omega⟩) = (V mm c main_v12 : S1024x128.Idx → EReal) (ix2 k j) := by
  have hj := j.isLt
  unfold V
  after_reads_at

/-- The weights' low parts are the weights less themselves. -/
theorem host_lo (k : Fin 1024) (j : Fin 128) : (V mm c main_v17 : S1024x256.Idx → EReal) (ix2 k ⟨128 + j.val, by omega⟩)
    = (fun x : EReal => x - x) ((V mm c main_v12 : S1024x128.Idx → EReal) (ix2 k j)) := by
  have hj := j.isLt
  unfold V
  after_reads_at

/-- The groups' biases, in the host's order. -/
theorem cat_v18 (j : Fin 4) : (StableHlo.upto [hostOps0, hostOps0_1, hostOps0_2, hostOps0_3, hostOps0_4].flatten (fun b => mm (c, b)) 27
    (Proc.tc.devRef main_v18) : S4.Idx → EReal) (ix1 j) = karg12 mm c (ix2 0 j) := by
  after_reads_at

/-- The columns between. -/
theorem cat_v19 (j : Fin 4) : (StableHlo.upto [hostOps0, hostOps0_1, hostOps0_2, hostOps0_3, hostOps0_4].flatten (fun b => mm (c, b)) 27
    (Proc.tc.devRef main_v19) : S4.Idx → EReal) (ix1 j) = (0 : EReal) := by
  after_reads_at

/-- The experts' biases. -/
theorem cat_v21 (j : Fin 32) : (StableHlo.upto [hostOps0, hostOps0_1, hostOps0_2, hostOps0_3, hostOps0_4].flatten (fun b => mm (c, b)) 27
    (Proc.tc.devRef main_v21) : S32.Idx → EReal) (ix1 j) = karg14 mm c (ix3 0 ⟨j.val / 8, by omega⟩ ⟨j.val % 8, by omega⟩) := by
  after_reads_at

/-- The router's biases, padded to 128 columns. -/
theorem host_rb (r : Fin 1) (j : Fin 128) : (V mm c main_v24 : S1x128.Idx → EReal) (ix2 r j) = rb (karg12 mm c) (karg14 mm c) j.val := by
  have hj := j.isLt
  unfold V
  after_reads_at
  by_cases h1 : j.val < 40
  · rw [dif_pos h1]
    by_cases h2 : j.val < 4
    · rw [dif_pos h2]
      exact (cat_v18 mm c _).trans (rb_group _ _ h2).symm
    · rw [dif_neg h2]
      by_cases h3 : j.val - 4 < 4
      · rw [dif_pos h3]
        exact (cat_v19 mm c _).trans (rb_none _ _ (by omega) (by omega)).symm
      · rw [dif_neg h3]
        refine (cat_v21 mm c _).trans (Eq.trans (congrArg _ ?_) (rb_sub _ _ (n := j.val) (by omega) (by omega)).symm)
        exact congrArg₂ (fun a b => ix3 0 a b) (Fin.ext (show (j.val - 4 - 4) / 8 = (j.val - 8) / 8 by omega))
          (Fin.ext (show (j.val - 4 - 4) % 8 = (j.val - 8) % 8 by omega))
  · rw [dif_neg h1]
    exact pad_zero.trans (rb_none _ _ (by omega) (by omega)).symm

/-- The places of the router's blocks, at every grid point. -/
theorem placesL : ∀ t : Fin cfg0.N, win0_11.index t = ![0, 0] ∧ win0_12.index t = ![0, 0] ∧ win0_15.index t = ![t.val, 0] :=
  (by decide +kernel : ∀ t : Fin grid0.N, win0_11.index t = ![0, 0] ∧ win0_12.index t = ![0, 0] ∧ win0_15.index t = ![t.val, 0])

/-- The element of window 11's block. -/
theorem iblk11 (t : Fin cfg0.N) (r : Fin 1024) (j : Fin 256) : iblk mm c 11 t (ix2 r j) = V mm c main_v17 (ix2 r j) := by
  have p := placesL t
  blk_ext [iblk, p.1]

/-- The element of window 12's block. -/
theorem iblk12 (t : Fin cfg0.N) (r : Fin 1) (j : Fin 128) : iblk mm c 12 t (ix2 r j) = V mm c main_v24 (ix2 r j) := by
  have p := placesL t
  blk_ext [iblk, p.2.1]

/-- The blocks of the router a tile reads hold this, of the arguments. -/
structure RBlocks (wg : S1x1024x4.Idx → EReal) (bg : S1x4.Idx → EReal) (ws : S1x4x1024x8.Idx → EReal) (bs : S1x4x8.Idx → EReal)
    (x11 : Vec Ideal S1024x256 .bf16) (x12 : Vec Ideal S1x128 .f32) : Prop where
  /-- The weights' high parts. -/
  hi : ∀ (k : Fin 1024) (j : Fin 128), x11 (ix2 k ⟨j.val, by omega⟩) = rwt wg ws k j.val
  /-- The weights' low parts. -/
  lo : ∀ (k : Fin 1024) (j : Fin 128), x11 (ix2 k ⟨128 + j.val, by omega⟩) = rwt wg ws k j.val - rwt wg ws k j.val
  /-- The biases. -/
  bias : ∀ j : Fin 128, x12 (ix2 0 j) = rb bg bs j.val

/-- The blocks of the router a grid point reads hold it. -/
theorem rblocks (t : Fin cfg0.N) : RBlocks (karg11 mm c) (karg12 mm c) (karg13 mm c) (karg14 mm c) (iblk mm c 11 t) (iblk mm c 12 t) where
  hi k j := (iblk11 mm c t k _).trans ((host_hi mm c k j).trans (host_w12 mm c k j))
  lo k j := (iblk11 mm c t k _).trans ((host_lo mm c k j).trans (by rw [host_w12]))
  bias j := (iblk12 mm c t 0 j).trans (host_rb mm c 0 j)

end Cert.Mix

end
-- ==== Proof.Mix.LogitArr.lean ====
/- The logits after the launch: on finite arguments every tile's are the specification's, and so is the array. -/
module

public import proofs.«01_k».proof.Proof.Mix.Arr
public import proofs.«01_k».proof.Proof.Mix.LogitTile
public import proofs.«01_k».proof.Proof.Mix.LogitHost

@[expose] public section

set_option maxRecDepth 16384

noncomputable section

namespace Cert.Mix

open Idealize.ShloMosaic Idealize.ShloMosaic.TcCoe Idealize.ShloMosaic.Tactic Idealize.SL.Sem Cert.Kernel3Ideal Cert.Kernel3Ideal.Gen Cert.Kernel3Ideal.Run
open scoped BigOperators

variable {o y ga gb x : S16x2048x1024.Idx → EReal} {wa wb wo : S1x1024x1024.Idx → EReal} {h : S1x2x1024.Idx → EReal} {g b : S1x1024.Idx → EReal}
variable {wg : S1x1024x4.Idx → EReal} {bg : S1x4.Idx → EReal} {ws : S1x4x1024x8.Idx → EReal} {bs : S1x4x8.Idx → EReal}

variable (o y ga gb x wa wb wo h g b wg bg ws bs) in
/-- The logits of a tile. -/
def blkL (T : ℕ) : Vec Ideal S1024x128 .f32 := fun z => logitAt o y ga gb x wa wb wo h g b wg bg ws bs (T * 1024 + (z 0).val) (z 1).val

section Tile
variable {T : ℕ} {x0 x1 x2 x3 : Vec Ideal S1024x1024 .bf16} {x4 : Vec Ideal S1024x1024 .f32} {x5 x6 x7 : Vec Ideal S1024x1024 .bf16}
variable {x8 : Vec Ideal S2x1024 .f32} {x9 x10 : Vec Ideal S1x1024 .f32} {x11 : Vec Ideal S1024x256 .bf16} {x12 : Vec Ideal S1x128 .f32}

/-- A quarter's logits, of the blocks its tile reads: the specification's. -/
theorem quarterL_at (F : Finite g b wg ws) (K : Blocks o y ga gb x wa wb wo h g b T x0 x1 x2 x3 x4 x5 x6 x7 x8 x9 x10)
    (Q : RBlocks wg bg ws bs x11 x12) (p : ℕ) (inb : ∀ a, (![p, 0] : Fin 2 → ℕ) a + S256x1024.size a ≤ S1024x1024.size a) (r : Fin 256) (j : Fin 128) :
    quarterL (View.ld x0 (Rect.unit ![p, 0] S256x1024.size inb)) (View.ld x1 (Rect.unit ![p, 0] S256x1024.size inb))
      (View.ld x2 (Rect.unit ![p, 0] S256x1024.size inb)) (View.ld x3 (Rect.unit ![p, 0] S256x1024.size inb))
      (View.ld x4 (Rect.unit ![p, 0] S256x1024.size inb)) (View.ld x5 r0_2) (View.ld x6 r0_2) (View.ld x7 r0_2) (View.ld x8 r0_0) (View.ld x9 r0_3)
      (View.ld x10 r0_3) (View.ld x11 r0_4) (View.ld x12 r0_5) r j = logitAt o y ga gb x wa wb wo h g b wg bg ws bs (T * 1024 + (p + r.val)) (0 + j.val) := by
  have W : ∀ (k : Fin 1024) (j : Fin 256), (r0_4).idx (ix2 k j) = ix2 k j := fun k j =>
    at_unit inb_S1024x256_S1024x256_0_0 k j k j (Nat.zero_add _).symm (Nat.zero_add _).symm
  have Z : ∀ j : Fin 128, (r0_5).idx (ix2 0 j) = ix2 0 j := fun j =>
    at_unit inb_S1x128_S1x128_0_0 0 j 0 j (Nat.zero_add _).symm (Nat.zero_add _).symm
  have eX : ∀ k, quarter (View.ld x0 (Rect.unit ![p, 0] S256x1024.size inb)) (View.ld x1 (Rect.unit ![p, 0] S256x1024.size inb))
      (View.ld x2 (Rect.unit ![p, 0] S256x1024.size inb)) (View.ld x3 (Rect.unit ![p, 0] S256x1024.size inb))
      (View.ld x4 (Rect.unit ![p, 0] S256x1024.size inb)) (View.ld x5 r0_2) (View.ld x6 r0_2) (View.ld x7 r0_2) (View.ld x8 r0_0) (View.ld x9 r0_3)
      (View.ld x10 r0_3) r k = outAt o y ga gb x wa wb wo h g b (T * 1024 + (p + r.val)) k := fun k =>
    (quarter_at K p inb r k).trans (congrArg _ (Fin.ext (show (0 + k.val) % 1024 = k.val by omega)))
  unfold quarterL logitAt
  rw [funext eX, Nat.zero_add]
  refine (split_eq _ (F.out _ _ _ _ _ _ _ _ _ _) fun k => ?_).trans ?_
  · exact (congrArg x11 (W k _)).trans ((Q.lo k j).trans (F.rwt k _).sub_self)
  · exact congrArg₂ (logit _) (funext fun k => (congrArg x11 (W k _)).trans (Q.hi k j)) ((congrArg x12 (Z j)).trans (Q.bias j))

/-- A tile's logits. -/
theorem tileL_eq (F : Finite g b wg ws) (K : Blocks o y ga gb x wa wb wo h g b T x0 x1 x2 x3 x4 x5 x6 x7 x8 x9 x10)
    (Q : RBlocks wg bg ws bs x11 x12) : out0_15 x0 x1 x2 x3 x4 x5 x6 x7 x8 x9 x10 x11 x12 = blkL o y ga gb x wa wb wo h g b wg bg ws bs T := by
  funext z
  have hz0 : (z 0).val < 1024 := (z 0).isLt
  have hz1 : (z 1).val < 128 := (z 1).isLt
  refine View.canon_apply_of_pieces (Val := Elt Ideal) (blkL o y ga gb x wa wb wo h g b wg bg ws bs T) _ ?_ z ?_
  · intro p hp
    simp only [List.mem_cons, List.not_mem_nil, or_false] at hp
    rcases hp with rfl | rfl | rfl | rfl
    · exact agrees (N := 1024) (M := 128) (inb := inb_S1024x128_S256x128_768_0) _ (fun i n => logitAt o y ga gb x wa wb wo h g b wg bg ws bs (T * 1024 + i) n)
        fun r j => (quarterL3 _ _ _ _ _ _ _ _ _ _ _ _ _ r j).trans (quarterL_at F K Q 768 inb_S1024x1024_S256x1024_768_0 r j)
    · exact agrees (N := 1024) (M := 128) (inb := inb_S1024x128_S256x128_512_0) _ (fun i n => logitAt o y ga gb x wa wb wo h g b wg bg ws bs (T * 1024 + i) n)
        fun r j => (quarterL2 _ _ _ _ _ _ _ _ _ _ _ _ _ r j).trans (quarterL_at F K Q 512 inb_S1024x1024_S256x1024_512_0 r j)
    · exact agrees (N := 1024) (M := 128) (inb := inb_S1024x128_S256x128_256_0) _ (fun i n => logitAt o y ga gb x wa wb wo h g b wg bg ws bs (T * 1024 + i) n)
        fun r j => (quarterL1 _ _ _ _ _ _ _ _ _ _ _ _ _ r j).trans (quarterL_at F K Q 256 inb_S1024x1024_S256x1024_256_0 r j)
    · exact agrees (N := 1024) (M := 128) (inb := inb_S1024x128_S256x128_0_0) _ (fun i n => logitAt o y ga gb x wa wb wo h g b wg bg ws bs (T * 1024 + i) n)
        fun r j => (quarterL0 _ _ _ _ _ _ _ _ _ _ _ _ _ r j).trans (quarterL_at F K Q 0 inb_S1024x1024_S256x1024_0_0 r j)
  · by_cases c1 : (z 0).val < 256
    · exact ⟨_, .tail _ (.tail _ (.tail _ (.head _))), inside (inb := inb_S1024x128_S256x128_0_0) z (by omega) (by omega)⟩
    by_cases c2 : (z 0).val < 512
    · exact ⟨_, .tail _ (.tail _ (.head _)), inside (inb := inb_S1024x128_S256x128_256_0) z (by omega) (by omega)⟩
    by_cases c3 : (z 0).val < 768
    · exact ⟨_, .tail _ (.head _), inside (inb := inb_S1024x128_S256x128_512_0) z (by omega) (by omega)⟩
    · exact ⟨_, .head _, inside (inb := inb_S1024x128_S256x128_768_0) z (by omega) (by omega)⟩

end Tile

variable (mm : (ℓ : Loc nD τ sig) → Buf (Elt Ideal) ℓ) (ρ : Dev nD → PrngReg) (c : Dev nD)

/-- The arguments a core holds are finite. -/
abbrev FiniteArgs : Prop := Finite (karg9 mm c) (karg10 mm c) (karg11 mm c) (karg13 mm c)

/-- The specification of the logits, of the arguments a core holds. -/
def valueL : S32768x128.Idx → EReal := logits (karg0 mm c) (karg1 mm c) (karg2 mm c) (karg3 mm c) (karg4 mm c) (karg5 mm c) (karg6 mm c) (karg7 mm c)
  (karg8 mm c) (karg9 mm c) (karg10 mm c) (karg11 mm c) (karg12 mm c) (karg13 mm c) (karg14 mm c)

/-- The logits' buffer after the launch. -/
theorem arrL (F : FiniteArgs mm c) : (dats mm 0 c).arrAt 15 cfg0.N = valueL mm c := by
  refine (dats mm 0 c).arrAt_eq_of_covers 15 _ (by decide +kernel) fun t hf z => ?_
  have p := placesL t
  have v0 : (((cfg0.win 15).blk t).view.emb z 0).val = t.val * 1024 + (z 0).val := by blk_simp [p.2.2]
  have v1 : (((cfg0.win 15).blk t).view.emb z 1).val = (z 1).val := by blk_simp [p.2.2]
  refine (congrFun ((after0_15 mm c t).trans (tileL_eq F (blocks mm c t) (rblocks mm c t))) _).trans ?_
  have e : ∀ R C : ℕ, R = t.val * 1024 + (z 0).val → C = (z 1).val →
      blkL (karg0 mm c) (karg1 mm c) (karg2 mm c) (karg3 mm c) (karg4 mm c) (karg5 mm c) (karg6 mm c) (karg7 mm c) (karg8 mm c) (karg9 mm c) (karg10 mm c)
          (karg11 mm c) (karg12 mm c) (karg13 mm c) (karg14 mm c) t.val z
        = logitAt (karg0 mm c) (karg1 mm c) (karg2 mm c) (karg3 mm c) (karg4 mm c) (karg5 mm c) (karg6 mm c) (karg7 mm c) (karg8 mm c) (karg9 mm c)
            (karg10 mm c) (karg11 mm c) (karg12 mm c) (karg13 mm c) (karg14 mm c) R C := by
    rintro _ _ rfl rfl; rfl
  exact e _ _ v0 v1

/-- On finite arguments the program ends with the logits' buffer holding the specification, and its arguments unchanged. -/
theorem runL (F : ∀ c, FiniteArgs mm c) : θ_run defs (onTc (τ := τ) (main (F := Ideal))) ⟨mm, fun _ => 0, ρ⟩ fun r => ∀ c : Dev nD,
      r.2.mem ((c : Thread nD τ).loc main_v37_2) = valueL mm c
      ∧ r.2.mem ((c : Thread nD τ).loc main_arg0) = mm ((c : Thread nD τ).loc main_arg0)
      ∧ r.2.mem ((c : Thread nD τ).loc main_arg1) = mm ((c : Thread nD τ).loc main_arg1)
      ∧ r.2.mem ((c : Thread nD τ).loc main_arg2) = mm ((c : Thread nD τ).loc main_arg2)
      ∧ r.2.mem ((c : Thread nD τ).loc main_arg3) = mm ((c : Thread nD τ).loc main_arg3)
      ∧ r.2.mem ((c : Thread nD τ).loc main_arg4) = mm ((c : Thread nD τ).loc main_arg4)
      ∧ r.2.mem ((c : Thread nD τ).loc main_arg5) = mm ((c : Thread nD τ).loc main_arg5)
      ∧ r.2.mem ((c : Thread nD τ).loc main_arg6) = mm ((c : Thread nD τ).loc main_arg6)
      ∧ r.2.mem ((c : Thread nD τ).loc main_arg7) = mm ((c : Thread nD τ).loc main_arg7)
      ∧ r.2.mem ((c : Thread nD τ).loc main_arg8) = mm ((c : Thread nD τ).loc main_arg8)
      ∧ r.2.mem ((c : Thread nD τ).loc main_arg9) = mm ((c : Thread nD τ).loc main_arg9)
      ∧ r.2.mem ((c : Thread nD τ).loc main_arg10) = mm ((c : Thread nD τ).loc main_arg10)
      ∧ r.2.mem ((c : Thread nD τ).loc main_arg11) = mm ((c : Thread nD τ).loc main_arg11)
      ∧ r.2.mem ((c : Thread nD τ).loc main_arg12) = mm ((c : Thread nD τ).loc main_arg12)
      ∧ r.2.mem ((c : Thread nD τ).loc main_arg13) = mm ((c : Thread nD τ).loc main_arg13)
      ∧ r.2.mem ((c : Thread nD τ).loc main_arg14) = mm ((c : Thread nD τ).loc main_arg14) :=
  (θ_run defs _ _).mono (fun r h c => ⟨((h c).1 15).trans (arrL mm c (F c)),
      ((h c).2 main_arg0 (Pipeline.mem_restRefs_of main_arg0 (by decide) (by decide))).trans (V_main_arg0 mm c),
      ((h c).2 main_arg1 (Pipeline.mem_restRefs_of main_arg1 (by decide) (by decide))).trans (V_main_arg1 mm c),
      ((h c).2 main_arg2 (Pipeline.mem_restRefs_of main_arg2 (by decide) (by decide))).trans (V_main_arg2 mm c),
      ((h c).2 main_arg3 (Pipeline.mem_restRefs_of main_arg3 (by decide) (by decide))).trans (V_main_arg3 mm c),
      ((h c).2 main_arg4 (Pipeline.mem_restRefs_of main_arg4 (by decide) (by decide))).trans (V_main_arg4 mm c),
      ((h c).2 main_arg5 (Pipeline.mem_restRefs_of main_arg5 (by decide) (by decide))).trans (V_main_arg5 mm c),
      ((h c).2 main_arg6 (Pipeline.mem_restRefs_of main_arg6 (by decide) (by decide))).trans (V_main_arg6 mm c),
      ((h c).2 main_arg7 (Pipeline.mem_restRefs_of main_arg7 (by decide) (by decide))).trans (V_main_arg7 mm c),
      ((h c).2 main_arg8 (Pipeline.mem_restRefs_of main_arg8 (by decide) (by decide))).trans (V_main_arg8 mm c),
      ((h c).2 main_arg9 (Pipeline.mem_restRefs_of main_arg9 (by decide) (by decide))).trans (V_main_arg9 mm c),
      ((h c).2 main_arg10 (Pipeline.mem_restRefs_of main_arg10 (by decide) (by decide))).trans (V_main_arg10 mm c),
      ((h c).2 main_arg11 (Pipeline.mem_restRefs_of main_arg11 (by decide) (by decide))).trans (V_main_arg11 mm c),
      ((h c).2 main_arg12 (Pipeline.mem_restRefs_of main_arg12 (by decide) (by decide))).trans (V_main_arg12 mm c),
      ((h c).2 main_arg13 (Pipeline.mem_restRefs_of main_arg13 (by decide) (by decide))).trans (V_main_arg13 mm c),
      ((h c).2 main_arg14 (Pipeline.mem_restRefs_of main_arg14 (by decide) (by decide))).trans (V_main_arg14 mm c)⟩)
    (run_main mm ρ)

end Cert.Mix

end
-- ==== Proof.Mix.SameIdeal.lean ====
/- The call with its logits as result, over the extended reals: its text is the merge's, so its programs are the merge's and end as they do. -/
module

public import proofs.«01_k».proof.Defs
public import proofs.«01_k».proof.Proof.Gen.Kernel4Ideal
public import proofs.«01_k».proof.Proof.Mix.LogitArr

@[expose] public section

set_option maxRecDepth 100000
set_option maxHeartbeats 4000000

noncomputable section

namespace Cert.Mix.SameIdeal

open Idealize.ShloMosaic Idealize.SL.Sem

attribute [local instance] Cert.Kernel4Ideal.Gen.facts Cert.Kernel3Ideal.Gen.facts

section
variable {F : FTy → Type} [FloatOps F]

/-- The kernels' functions are the same. -/
theorem body : Cert.Kernel4Ideal.cc0_mix (F := F) = Cert.Kernel3Ideal.cc0_mix (F := F) := rfl

/-- So are the tables of them. -/
theorem bodies : Cert.Kernel4Ideal.defs₀ (F := F) = Cert.Kernel3Ideal.defs₀ (F := F) := by
  unfold Cert.Kernel4Ideal.defs₀ Cert.Kernel3Ideal.defs₀
  refine congrArg _ ?_
  funext l a
  match l, a with
  | 0, (t, s) => rfl

/-- And the tables with the pipelines. -/
theorem table : Cert.Kernel4Ideal.defs (F := F) = Cert.Kernel3Ideal.defs (F := F) := by
  unfold Cert.Kernel4Ideal.defs Cert.Kernel3Ideal.defs
  exact congrArg _ bodies

/-- The programs are the same. -/
theorem program : Cert.Kernel4Ideal.main (F := F) = Cert.Kernel3Ideal.main (F := F) := rfl

end

/-- The program ends with its arguments unchanged and every counter at zero, as the merge's does. -/
theorem frame : Cert.quiescent_Kernel4Ideal (hKernel4Ideal := Cert.Kernel4Ideal.Gen.facts) := by
  intro m ρ _
  rw [table, program]
  exact Cert.Kernel3Ideal.Run.frame m ρ

/-- On finite arguments the program ends with the logits' buffer holding the specification. -/
theorem run (m : (ℓ : Loc Cert.Kernel4Ideal.nD Cert.Kernel4Ideal.τ Cert.Kernel4Ideal.sig) → Buf (Elt Ideal) ℓ) (ρ : Dev Cert.Kernel4Ideal.nD → PrngReg)
    (h : ∀ c, FiniteArgs m c) : θ_run (Cert.Kernel4Ideal.defs (F := Ideal)) (onTc (τ := Cert.Kernel4Ideal.τ) (Cert.Kernel4Ideal.main (F := Ideal)))
      ⟨m, fun _ => 0, ρ⟩ fun r => ∀ c : Dev Cert.Kernel4Ideal.nD,
      r.2.mem ((c.tc : Thread Cert.Kernel4Ideal.nD Cert.Kernel4Ideal.τ).loc Cert.Kernel4Ideal.main_v37_2) = valueL m c
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14) := by
  rw [table, program]
  exact runL m ρ h

end Cert.Mix.SameIdeal

end
-- ==== Proof.Mix.LogitFinite.lean ====
/- The precondition of the logits read: arrays whose values are all below infinity in absolute value are arrays of real numbers. -/
module

public import proofs.«01_k».proof.Defs
public import proofs.«01_k».proof.Proof.Gen.Pre_finite_mix
public import proofs.«01_k».proof.Proof.Mix.LogitArr

@[expose] public section

noncomputable section

namespace Cert.Mix

open Idealize.ShloMosaic

/-- A value whose absolute value is below infinity is a real number. -/
theorem isReal_of_abs_lt (x : EReal) (h : FloatOps.cmpf (F := Ideal) (φ := .f32) .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hl : max x (-x) < ⊤ := by
    by_contra hn
    simp [Ideal.cmp, hn] at h'
  have hx := max_lt_iff.mp hl
  refine ⟨x.toReal, (EReal.coe_toReal hx.1.ne ?_).symm⟩
  intro hb
  rw [hb] at hx
  simp at hx

/-- Where the precondition is all ones, the arrays it reads hold real numbers. -/
theorem finite_args (m : (ℓ : Loc Cert.Kernel4Ideal.nD Cert.Kernel4Ideal.τ Cert.Kernel4Ideal.sig) → Buf (Elt Ideal) ℓ)
    (h : Cert.Pre_Kernel4Ideal_finite_mix (hPre_finite_mix := Cert.Pre_finite_mix.Gen.facts) m) (c : Dev Cert.Kernel4Ideal.nD) : FiniteArgs m c := by
  obtain ⟨h0, h1, h2, h3⟩ := h c
  exact ⟨fun i => isReal_of_abs_lt _ (congrFun h0 i), fun i => isReal_of_abs_lt _ (congrFun h1 i), fun i => isReal_of_abs_lt _ (congrFun h2 i),
    fun i => isReal_of_abs_lt _ (congrFun h3 i)⟩

end Cert.Mix

end
-- ==== Proof.Mix.LogitRef.lean ====
/- The logits' reference read at an index: the specification's. -/
module

public import proofs.«01_k».proof.Proof.Mix.Logit
public import proofs.«01_k».proof.Proof.Mix.LogitHost
public import proofs.«01_k».proof.Proof.Mix.RefRead
public import proofs.«01_k».proof.Proof.Gen.Reference4Ideal.Read

@[expose] public section

noncomputable section

namespace Cert.Mix

open Idealize.ShloMosaic Idealize.ShloMosaic.Tactic Cert.Reference4Ideal Cert.Reference4Ideal.Read
open scoped BigOperators

/-- An index given by its four parts. -/
theorem to4 {A B C D : ℕ} (i : (⟨4, ![A, B, C, D]⟩ : Shape).Idx) (a : Fin A) (b : Fin B) (c : Fin C) (d : Fin D) (h0 : (i 0).val = a.val)
    (h1 : (i 1).val = b.val) (h2 : (i 2).val = c.val) (h3 : (i 3).val = d.val) : i = ix4 a b c d := by
  funext k
  match k with
  | ⟨0, _⟩ => exact Fin.ext h0
  | ⟨1, _⟩ => exact Fin.ext h1
  | ⟨2, _⟩ => exact Fin.ext h2
  | ⟨3, _⟩ => exact Fin.ext h3

section
variable (x0 x1 x2 x3 x4 : (⟨S16x2048x1024, .f32⟩ : BufTy).Contents (Elt Ideal)) (x5 x6 x7 : (⟨S1x1024x1024, .f32⟩ : BufTy).Contents (Elt Ideal))
variable (x8 : (⟨S1x2x1024, .f32⟩ : BufTy).Contents (Elt Ideal)) (x9 x10 : (⟨S1x1024, .f32⟩ : BufTy).Contents (Elt Ideal))
variable (x11 : (⟨S1x1024x4, .f32⟩ : BufTy).Contents (Elt Ideal)) (x12 : (⟨S1x4, .f32⟩ : BufTy).Contents (Elt Ideal))
variable (x13 : (⟨S1x4x1024x8, .f32⟩ : BufTy).Contents (Elt Ideal)) (x14 : (⟨S1x4x8, .f32⟩ : BufTy).Contents (Elt Ideal))

/-- The merged rows are the merge's. -/
theorem ref4 : val_main_v60 (F := Ideal) x0 x1 x2 x3 x4 x5 x6 x7 x8 x9 x10 = out x0 x1 x2 x3 x4 x5 x6 x7 x8 x9 x10 :=
  ref x0 x1 x2 x3 x4 x5 x6 x7 x8 x9 x10

/-- An element of the merged rows. -/
theorem ref4_at (i : S32768x1024.Idx) (R : Fin 32768) (k : Fin 1024) (h0 : (i 0).val = R.val) (h1 : (i 1).val = k.val) :
    val_main_v60 (F := Ideal) x0 x1 x2 x3 x4 x5 x6 x7 x8 x9 x10 i = outAt x0 x1 x2 x3 x4 x5 x6 x7 x8 x9 x10 R.val k := by
  rw [ref4]
  unfold out
  rw [h0]
  exact congrArg _ (Fin.ext (show (i 1).val % 1024 = k.val by have := k.isLt; omega))

/-- A group's logit. -/
theorem ref_group (R : Fin 32768) (n : Fin 4) : val_main_v66 (F := Ideal) x0 x1 x2 x3 x4 x5 x6 x7 x8 x9 x10 x11 x12 (ix2 R n)
    = logitAt x0 x1 x2 x3 x4 x5 x6 x7 x8 x9 x10 x11 x12 x13 x14 R.val n.val := by
  rw [val_main_v66_apply, val_main_v62_apply, val_main_v65_apply, val_main_v64_apply, val_main_v63_apply]
  unfold logitAt
  refine congrArg₂ (· + ·) (Finset.sum_congr rfl fun k _ => congrArg₂ (· * ·) (ref4_at x0 x1 x2 x3 x4 x5 x6 x7 x8 x9 x10 _ R k rfl rfl) ?_) ?_
  · rw [val_main_v61_apply]
    refine Eq.trans ?_ (rwt_group _ _ k n.isLt).symm
    exact congrArg x11 (to3 _ 0 k n rfl (show (k.val * 4 + n.val) / 4 % 1024 = k.val by omega) (show (k.val * 4 + n.val) % 4 = n.val by omega))
  · rw [rb_group _ _ n.isLt]
    exact congrArg x12 (to2 _ 0 n rfl (show n.val % 4 = n.val by omega))

/-- An expert's logit. -/
theorem ref_sub (R : Fin 32768) (n : Fin 32) : val_main_v74 (F := Ideal) x0 x1 x2 x3 x4 x5 x6 x7 x8 x9 x10 x13 x14 (ix2 R n)
    = logitAt x0 x1 x2 x3 x4 x5 x6 x7 x8 x9 x10 x11 x12 x13 x14 R.val (8 + n.val) := by
  have hn := n.isLt
  rw [val_main_v74_apply, to3 (idx_main_v74 (ix2 R n)) R ⟨n.val / 8, by omega⟩ ⟨n.val % 8, by omega⟩
    (show (R.val * 32 + n.val) / 32 = R.val by omega) (show (R.val * 32 + n.val) / 8 % 4 = n.val / 8 by omega)
    (show (R.val * 32 + n.val) % 8 = n.val % 8 by omega)]
  rw [val_main_v72_apply, val_main_v68_apply, val_main_v71_apply, val_main_v70_apply, val_main_v69_apply]
  unfold logitAt
  refine congrArg₂ (· + ·) (Finset.sum_congr rfl fun k _ => congrArg₂ (· * ·) (ref4_at x0 x1 x2 x3 x4 x5 x6 x7 x8 x9 x10 _ R k rfl rfl) ?_) ?_
  · rw [val_main_v67_apply]
    refine Eq.trans ?_ (rwt_sub _ _ k (n := 8 + n.val) (by omega) (by omega)).symm
    refine congrArg x13 (to4 _ _ _ _ _ rfl ?_ ?_ ?_)
    · show ((n.val / 8 * 1024 + k.val) * 8 + n.val % 8) / 8192 % 4 = (8 + n.val - 8) / 8
      omega
    · show ((n.val / 8 * 1024 + k.val) * 8 + n.val % 8) / 8 % 1024 = k.val
      omega
    · show ((n.val / 8 * 1024 + k.val) * 8 + n.val % 8) % 8 = (8 + n.val - 8) % 8
      omega
  · rw [rb_sub _ _ (n := 8 + n.val) (by omega) (by omega)]
    refine congrArg x14 (to3 _ _ _ _ rfl ?_ ?_)
    · show (n.val / 8 * 8 + n.val % 8) / 8 % 4 = (8 + n.val - 8) / 8
      omega
    · show (n.val / 8 * 8 + n.val % 8) % 8 = (8 + n.val - 8) % 8
      omega

/-- The columns between are zero. -/
theorem ref_none (R n : ℕ) (h : 4 ≤ n) (h' : ¬(8 ≤ n ∧ n < 40)) : logitAt x0 x1 x2 x3 x4 x5 x6 x7 x8 x9 x10 x11 x12 x13 x14 R n = 0 := by
  unfold logitAt logit
  rw [rb_none _ _ h h', add_zero]
  exact Finset.sum_eq_zero fun k _ => (congrArg (_ * ·) (rwt_none _ _ k h h')).trans (mul_zero _)

/-- The first zeros. -/
theorem ref_z73 (i : S32768x4.Idx) : val_main_v73 (F := Ideal) i = (0 : EReal) := by
  rw [val_main_v73_apply]
  show Ideal.ofBits .f32 0x00000000#32 = 0
  simp [Ideal.ofBits, Ideal.ieee]

/-- The last zeros. -/
theorem ref_z75 (i : S32768x88.Idx) : val_main_v75 (F := Ideal) i = (0 : EReal) := by
  rw [val_main_v75_apply]
  show Ideal.ofBits .f32 0x00000000#32 = 0
  simp [Ideal.ofBits, Ideal.ieee]

/-- The reference's logits. -/
theorem refL : val_main_v76 (F := Ideal) x0 x1 x2 x3 x4 x5 x6 x7 x8 x9 x10 x11 x12 x13 x14 = logits x0 x1 x2 x3 x4 x5 x6 x7 x8 x9 x10 x11 x12 x13 x14 := by
  funext i
  have h0 : (i 0).val < 32768 := (i 0).isLt
  have h1 : (i 1).val < 128 := (i 1).isLt
  rw [to2 i ⟨(i 0).val, h0⟩ ⟨(i 1).val, h1⟩ rfl rfl]
  generalize (⟨(i 0).val, h0⟩ : Fin 32768) = R
  generalize (⟨(i 1).val, h1⟩ : Fin 128) = n
  show _ = logitAt x0 x1 x2 x3 x4 x5 x6 x7 x8 x9 x10 x11 x12 x13 x14 R.val n.val
  unfold val_main_v76
  pointwise []
  by_cases c1 : n.val < 4
  · rw [dif_pos c1]
    exact ref_group x0 x1 x2 x3 x4 x5 x6 x7 x8 x9 x10 x11 x12 x13 x14 R ⟨n.val, c1⟩
  rw [dif_neg c1]
  by_cases c2 : n.val - 4 < 4
  · rw [dif_pos c2]
    exact (ref_z73 _).trans (ref_none x0 x1 x2 x3 x4 x5 x6 x7 x8 x9 x10 x11 x12 x13 x14 R.val n.val (by omega) (by omega)).symm
  rw [dif_neg c2]
  by_cases c3 : n.val - 4 - 4 < 32
  · rw [dif_pos c3]
    refine (ref_sub x0 x1 x2 x3 x4 x5 x6 x7 x8 x9 x10 x11 x12 x13 x14 R ⟨n.val - 4 - 4, c3⟩).trans ?_
    exact congrArg _ (show 8 + (n.val - 4 - 4) = n.val by omega)
  · rw [dif_neg c3]
    exact (ref_z75 _).trans (ref_none x0 x1 x2 x3 x4 x5 x6 x7 x8 x9 x10 x11 x12 x13 x14 R.val n.val (by omega) (by omega)).symm

end

end Cert.Mix

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Attn.Finite
public import proofs.«01_k».proof.Proof.Attn.Launch
public import proofs.«01_k».proof.Proof.Attn.RefRead
public import proofs.«01_k».proof.Proof.Proj.Arr
public import proofs.«01_k».proof.Proof.Proj.RefRead
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Mix.RunBits
public import proofs.«01_k».proof.Proof.Mix.Arr
public import proofs.«01_k».proof.Proof.Mix.RefRead
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_mix
public import proofs.«01_k».proof.Proof.Mix.SameBits
public import proofs.«01_k».proof.Proof.Mix.SameIdeal
public import proofs.«01_k».proof.Proof.Mix.LogitFinite
public import proofs.«01_k».proof.Proof.Mix.LogitRef
public import Idealize.ShloMosaic.Lib.Bf16PairInverse

@[expose] public section

noncomputable section

namespace Cert.Proof

open Idealize.ShloMosaic Idealize.SL.Sem Cert.Attn

/-- The reference's program ends with its arguments unchanged and, having no semaphore, every counter at zero. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The same with the precondition, which it does not need. -/
theorem frame_reference_finite : Cert.quiescent_ReferenceIdeal_pre_finite (hReferenceIdeal := Cert.ReferenceIdeal.Gen.facts)
    (hPre_finite := Cert.Pre_finite.Gen.facts) := fun m ρ _ => frame_reference m ρ trivial

section
variable (m : (ℓ : Loc Cert.KernelIdeal.nD Cert.KernelIdeal.τ Cert.KernelIdeal.sig) → Buf (Elt Ideal) ℓ) (c : Dev Cert.KernelIdeal.nD)

/-- The array both programs end with: the specification of the arguments a device holds. -/
def value : Cert.KernelIdeal.S32768x1024.Idx → EReal := fun i =>
  resultAt (fun j => (karg0 m c j).toReal) (fun j => (karg1 m c j).toReal) (fun j => (karg2 m c j).toReal)
    (fun j => (karg3 m c j).toReal) (fun j => (karg4 m c j).toReal) (fun j => (karg5 m c j).toReal) (karg6 m c) (i 0) (i 1)

/-- Finite arguments are real numbers. -/
theorem args_real (h : Cert.Pre_KernelIdeal_finite (hPre_finite := Cert.Pre_finite.Gen.facts) m) :
    Args m c (fun j => (karg0 m c j).toReal) (fun j => (karg1 m c j).toReal) (fun j => (karg2 m c j).toReal)
      (fun j => (karg3 m c j).toReal) (fun j => (karg4 m c j).toReal) (fun j => (karg5 m c j).toReal) := by
  have r := @real_of_finite Cert.Pre_finite.Gen.facts (karg0 m c) (karg1 m c) (karg2 m c) (karg3 m c) (karg4 m c) (karg5 m c) (karg6 m c) (h c)
  exact ⟨r.1, r.2.1, r.2.2.1, r.2.2.2.1, r.2.2.2.2.1, r.2.2.2.2.2⟩

/-- The reference's value of arguments equal to the kernel's is the same array. -/
theorem reference_value (h : Cert.Pre_KernelIdeal_finite (hPre_finite := Cert.Pre_finite.Gen.facts) m) :
    Cert.ReferenceIdeal.Read.val_main_v111 (F := Ideal) (karg0 m c) (karg1 m c) (karg2 m c) (karg3 m c) (karg4 m c) (karg5 m c) (karg6 m c)
      = value m c := by
  have A := args_real m c h
  funext i
  have e : i = ix2 (i 0) (i 1) := by
    funext a
    match a with
    | ⟨0, _⟩ => rfl
    | ⟨1, _⟩ => rfl
  have h0 : (i 0).val < 32768 := (i 0).isLt
  have h1 : (i 1).val < 1024 := (i 1).isLt
  refine (congrArg _ e).trans ?_
  exact ref_result (karg0 m c) (karg1 m c) (karg2 m c) (karg3 m c) (karg4 m c) (karg5 m c) (karg6 m c) _ _ _ _ _ _
    A.q A.k A.v A.rb A.lq A.lk (i 0) (i 1) ⟨(i 0).val / 2048, by omega⟩ ⟨(i 0).val % 2048, by omega⟩
    ⟨(i 1).val / 256, by omega⟩ ⟨(i 1).val % 256, by omega⟩ (Nat.div_add_mod' _ _).symm (Nat.div_add_mod' _ _).symm

end

/-- The reference's value of equal arguments is equal. -/
theorem value_congr {x0 x1 x2 y0 y1 y2 : Cert.ReferenceIdeal.S16x2048x1024.Idx → EReal} {x3 y3 : Cert.ReferenceIdeal.S32x4.Idx → EReal}
    {x4 x5 y4 y5 : Cert.ReferenceIdeal.S1x2x128.Idx → EReal} {x6 y6 : Cert.ReferenceIdeal.S1x256.Idx → EReal}
    (h0 : x0 = y0) (h1 : x1 = y1) (h2 : x2 = y2) (h3 : x3 = y3) (h4 : x4 = y4) (h5 : x5 = y5) (h6 : x6 = y6) :
    Cert.ReferenceIdeal.Read.val_main_v111 (F := Ideal) x0 x1 x2 x3 x4 x5 x6
      = Cert.ReferenceIdeal.Read.val_main_v111 (F := Ideal) y0 y1 y2 y3 y4 y5 y6 := by
  subst h0 h1 h2 h3 h4 h5 h6
  rfl

/-- On finite arguments the kernel and the reference end with the same array. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => value m c, ?_, ?_⟩
  · refine (θ_run (Cert.KernelIdeal.defs (F := Ideal)) _ _).mono (fun r h c => ?_) (Cert.KernelIdeal.Value.run_blocks (F := Ideal) m g)
    exact ⟨(h c).1.trans (arr_result (args_real m c hpre)), (h c).2⟩
  · refine (θ_run (Cert.ReferenceIdeal.defs (F := Ideal)) _ _).mono (fun r h c => ?_) (Cert.ReferenceIdeal.Value.run (F := Ideal) m' g')
    refine ⟨(h c).1.trans ?_, (h c).2⟩
    obtain ⟨a0, a1, a2, a3, a4, a5, a6⟩ := hagree c
    refine (Cert.ReferenceIdeal.Read.val_main_v111_eq (F := Ideal) (StableHlo.launchContents m' c)).trans ?_
    refine Eq.trans ?_ (reference_value m c hpre)
    exact value_congr a0 a1 a2 a3 a4 a5 a6

/-- The projections' reference ends with its arguments unchanged and, having no semaphore, every counter at zero. -/
theorem frame_reference2 : Cert.quiescent_Reference2Ideal (hReference2Ideal := Cert.Reference2Ideal.Gen.facts) := fun m ρ _ =>
  (θ_run (Cert.Reference2Ideal.defs (F := Ideal)) _ _).mono (fun r h => ⟨fun c => (h c).2.2.2, sem_eq_zero_of_no_sems (by decide) r.2⟩)
    (Cert.Reference2Ideal.Value.run (F := Ideal) m ρ)

section
variable {x y : Cert.Kernel2Ideal.S16x2048x1024.Idx → EReal} {g g' b b' : Cert.Kernel2Ideal.S1024.Idx → EReal}
variable {w w' : Cert.Kernel2Ideal.S1x1024x8192.Idx → EReal} {cw cw' : Cert.Kernel2Ideal.S1x3x1x1024.Idx → EReal}

/-- The reference's normalized rows of equal arguments are the specification's. -/
theorem norm_congr (h0 : x = y) (h1 : g = g') (h2 : b = b') : Cert.Reference2Ideal.Read.val_main_v62 (F := Ideal) x g b = Cert.Proj.outU y g' b' := by
  subst h0 h1 h2
  exact Cert.Proj.refU x g b

/-- The reference's packed array of equal arguments is the specification's. -/
theorem pack_congr (h0 : x = y) (h1 : g = g') (h2 : b = b') (h3 : w = w') (h4 : cw = cw') :
    Cert.Reference2Ideal.Read.val_main_v63 (F := Ideal) x g b w cw = Cert.Proj.outP y g' b' w' cw' := by
  subst h0 h1 h2 h3 h4
  exact Cert.Proj.refP x g b w cw

/-- The reference's keys of equal arguments are the specification's. -/
theorem keys_congr (h0 : x = y) (h1 : g = g') (h2 : b = b') (h3 : w = w') :
    Cert.Reference2Ideal.Read.val_main_v66 (F := Ideal) x g b w = Cert.Proj.outK y g' b' w' := by
  subst h0 h1 h2 h3
  exact Cert.Proj.refK x g b w

end

/-- The projections' kernel and reference end with the same three arrays, whatever the arguments. -/
theorem projections : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Proj.outU (Cert.Proj.karg0 m c) (Cert.Proj.karg1 m c) (Cert.Proj.karg2 m c),
    fun c => Cert.Proj.outP (Cert.Proj.karg0 m c) (Cert.Proj.karg1 m c) (Cert.Proj.karg2 m c) (Cert.Proj.karg3 m c) (Cert.Proj.karg4 m c),
    fun c => Cert.Proj.outK (Cert.Proj.karg0 m c) (Cert.Proj.karg1 m c) (Cert.Proj.karg2 m c) (Cert.Proj.karg3 m c), ?_, ?_⟩
  · refine (θ_run (Cert.Kernel2Ideal.defs (F := Ideal)) _ _).mono (fun r h c => ?_) (Cert.Kernel2Ideal.Value.run_blocks (F := Ideal) m g)
    exact ⟨(h c).1.trans (Cert.Proj.arrU m c), (h c).2.1.trans (Cert.Proj.arrP m c), (h c).2.2.1.trans (Cert.Proj.arrK m c), (h c).2.2.2⟩
  · refine (θ_run (Cert.Reference2Ideal.defs (F := Ideal)) _ _).mono (fun r h c => ?_) (Cert.Reference2Ideal.Value.run (F := Ideal) m' g')
    obtain ⟨a0, a1, a2, a3, a4⟩ := hagree c
    refine ⟨(h c).1.trans ?_, (h c).2.1.trans ?_, (h c).2.2.1.trans ?_, (h c).2.2.2⟩
    · refine (Cert.Reference2Ideal.Read.val_main_v62_eq (F := Ideal) _ _ _).trans ?_
      exact norm_congr a0 a1 a2
    · refine (Cert.Reference2Ideal.Read.val_main_v63_eq (F := Ideal) m' c).trans ?_
      exact pack_congr a0 a1 a2 a3 a4
    · refine (Cert.Reference2Ideal.Read.val_main_v66_eq (F := Ideal) _ _ _ _).trans ?_
      exact keys_congr a0 a1 a2 a3

/-- The merge's reference ends with its arguments unchanged and, having no semaphore, every counter at zero. -/
theorem frame_reference3 : Cert.quiescent_Reference3Ideal (hReference3Ideal := Cert.Reference3Ideal.Gen.facts) := fun m ρ _ =>
  (θ_run (Cert.Reference3Ideal.defs (F := Ideal)) _ _).mono (fun r h => ⟨fun c => (h c).2, sem_eq_zero_of_no_sems (by decide) r.2⟩)
    (Cert.Reference3Ideal.Value.run (F := Ideal) m ρ)

/-- The rewrites of the merge's text, each with its own statement: the packed words' array and its window read as pairs of
    halves, a pair stored as a word, and a word's halves read through a mask and a shift. -/
theorem preserves_merge : Cert.preserves_Kernel3_Kernel3Ideal :=
  open Cert.Kernel3Ideal IdealRules in
  ⟨bf16_pair.bufferStatement S131072x2x128 S131072x1x128, bf16_pair.bufferStatement S4096x2x128 S4096x1x128,
    bf16_pair.statement S256x2x128 S256x1x128, bf16_pack.statement S256x128⟩

/-- The reference's result of equal arguments is the specification's. -/
theorem mix_congr {x0 x1 x2 x3 x4 y0 y1 y2 y3 y4 : Cert.Kernel3Ideal.S16x2048x1024.Idx → EReal}
    {x5 x6 x7 y5 y6 y7 : Cert.Kernel3Ideal.S1x1024x1024.Idx → EReal} {x8 y8 : Cert.Kernel3Ideal.S1x2x1024.Idx → EReal}
    {x9 x10 y9 y10 : Cert.Kernel3Ideal.S1x1024.Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9)
    (h10 : x10 = y10) :
    Cert.Reference3Ideal.Read.val_main_v60 (F := Ideal) x0 x1 x2 x3 x4 x5 x6 x7 x8 x9 x10 = Cert.Mix.out y0 y1 y2 y3 y4 y5 y6 y7 y8 y9 y10 := by
  subst h0 h1 h2 h3 h4 h5 h6 h7 h8 h9 h10
  exact Cert.Mix.ref x0 x1 x2 x3 x4 x5 x6 x7 x8 x9 x10

/-- The merge's kernel and reference end with the same array, whatever the arguments. -/
theorem merge : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Mix.value m c, Cert.Mix.run m g, ?_⟩
  refine (θ_run (Cert.Reference3Ideal.defs (F := Ideal)) _ _).mono (fun r h c => ?_) (Cert.Reference3Ideal.Value.run (F := Ideal) m' g')
  obtain ⟨a0, a1, a2, a3, a4, a5, a6, a7, a8, a9, a10, _⟩ := hagree c
  refine ⟨(h c).1.trans ?_, (h c).2⟩
  refine (Cert.Reference3Ideal.Read.val_main_v60_eq (F := Ideal) m' c).trans ?_
  exact mix_congr a0 a1 a2 a3 a4 a5 a6 a7 a8 a9 a10

/-- The logits' reference ends with its arguments unchanged and, having no semaphore, every counter at zero. -/
theorem frame_reference4 : Cert.quiescent_Reference4Ideal (hReference4Ideal := Cert.Reference4Ideal.Gen.facts) := fun m ρ _ =>
  (θ_run (Cert.Reference4Ideal.defs (F := Ideal)) _ _).mono (fun r h => ⟨fun c => (h c).2, sem_eq_zero_of_no_sems (by decide) r.2⟩)
    (Cert.Reference4Ideal.Value.run (F := Ideal) m ρ)

/-- The same with the precondition, which it does not need. -/
theorem frame_reference4_finite : Cert.quiescent_Reference4Ideal_pre_finite_mix (hReference4Ideal := Cert.Reference4Ideal.Gen.facts)
    (hPre_finite_mix := Cert.Pre_finite_mix.Gen.facts) := fun m ρ _ => frame_reference4 m ρ trivial

/-- The logits' kernel ends with its arguments unchanged, with the precondition that it does not need for that. -/
theorem frame_logits_finite : Cert.quiescent_Kernel4Ideal_pre_finite_mix (hKernel4Ideal := Cert.Kernel4Ideal.Gen.facts)
    (hPre_finite_mix := Cert.Pre_finite_mix.Gen.facts) := fun m ρ _ => Cert.Mix.SameIdeal.frame m ρ trivial

/-- The rewrites of the logits' text, which is the merge's: the same four statements. -/
theorem preserves_logits : Cert.preserves_Kernel4_Kernel4Ideal :=
  open Cert.Kernel4Ideal IdealRules in
  ⟨bf16_pair.bufferStatement S131072x2x128 S131072x1x128, bf16_pair.bufferStatement S4096x2x128 S4096x1x128,
    bf16_pair.statement S256x2x128 S256x1x128, bf16_pack.statement S256x128⟩

/-- The reference's logits of equal arguments are the specification's. -/
theorem logits_congr {x0 x1 x2 x3 x4 y0 y1 y2 y3 y4 : Cert.Kernel3Ideal.S16x2048x1024.Idx → EReal}
    {x5 x6 x7 y5 y6 y7 : Cert.Kernel3Ideal.S1x1024x1024.Idx → EReal} {x8 y8 : Cert.Kernel3Ideal.S1x2x1024.Idx → EReal}
    {x9 x10 y9 y10 : Cert.Kernel3Ideal.S1x1024.Idx → EReal} {x11 y11 : Cert.Kernel3Ideal.S1x1024x4.Idx → EReal}
    {x12 y12 : Cert.Kernel3Ideal.S1x4.Idx → EReal} {x13 y13 : Cert.Kernel3Ideal.S1x4x1024x8.Idx → EReal}
    {x14 y14 : Cert.Kernel3Ideal.S1x4x8.Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9)
    (h10 : x10 = y10) (h11 : x11 = y11) (h12 : x12 = y12) (h13 : x13 = y13) (h14 : x14 = y14) :
    Cert.Reference4Ideal.Read.val_main_v76 (F := Ideal) x0 x1 x2 x3 x4 x5 x6 x7 x8 x9 x10 x11 x12 x13 x14
      = Cert.Mix.logits y0 y1 y2 y3 y4 y5 y6 y7 y8 y9 y10 y11 y12 y13 y14 := by
  subst h0 h1 h2 h3 h4 h5 h6 h7 h8 h9 h10 h11 h12 h13 h14
  exact Cert.Mix.refL x0 x1 x2 x3 x4 x5 x6 x7 x8 x9 x10 x11 x12 x13 x14

/-- The kernel and the reference end with the same logits where the norm's gain and bias and the router's weights are finite. -/
theorem logits : Cert.algebraic_Kernel4Ideal_Reference4Ideal_pre_finite_mix (hKernel4Ideal := Cert.Kernel4Ideal.Gen.facts)
    (hReference4Ideal := Cert.Reference4Ideal.Gen.facts) (hPre_finite_mix := Cert.Pre_finite_mix.Gen.facts) := by
  intro m g m' g' hpre hagree
  refine ⟨fun c => Cert.Mix.valueL m c, Cert.Mix.SameIdeal.run m g (Cert.Mix.finite_args m hpre), ?_⟩
  refine (θ_run (Cert.Reference4Ideal.defs (F := Ideal)) _ _).mono (fun r h c => ?_) (Cert.Reference4Ideal.Value.run (F := Ideal) m' g')
  obtain ⟨a0, a1, a2, a3, a4, a5, a6, a7, a8, a9, a10, a11, a12, a13, a14⟩ := hagree c
  refine ⟨(h c).1.trans ?_, (h c).2⟩
  refine (Cert.Reference4Ideal.Read.val_main_v76_eq (F := Ideal) m' c).trans ?_
  exact logits_congr a0 a1 a2 a3 a4 a5 a6 a7 a8 a9 a10 a11 a12 a13 a14

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Pre_finite.Gen.facts, Cert.Pre_finite_mix.Gen.facts,
    fun m ρ _ => Cert.Kernel.Gen.frame m ρ, fun m ρ _ => Cert.KernelIdeal.Gen.frame m ρ, fun m ρ _ => Cert.KernelIdeal.Gen.frame m ρ,
    frame_reference, frame_reference_finite,
    fun m ρ _ => Cert.Kernel2.Gen.frame m ρ, fun m ρ _ => Cert.Kernel2Ideal.Gen.frame m ρ, frame_reference2,
    fun m ρ _ => Cert.Kernel3.Run.frame m ρ, fun m ρ _ => Cert.Kernel3Ideal.Run.frame m ρ, frame_reference3,
    Cert.Mix.SameBits.frame, Cert.Mix.SameIdeal.frame, frame_logits_finite, frame_reference4, frame_reference4_finite,
    trivial, attention, trivial, projections, preserves_merge, merge, preserves_logits, logits⟩

end Cert.Proof

end
